-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MergeFirst (m : (ℓ : Loc Cert.MergeFirst.nD Cert.MergeFirst.τ Cert.MergeFirst.sig) → Buf (Elt Bits) ℓ) : Prop :=
  True

def Pre_MergeFirstIdeal (m : (ℓ : Loc Cert.MergeFirstIdeal.nD Cert.MergeFirstIdeal.τ Cert.MergeFirstIdeal.sig) → Buf (Elt Ideal) ℓ) : Prop :=
  True

def Pre_MergeFirstRefIdeal (m : (ℓ : Loc Cert.MergeFirstRefIdeal.nD Cert.MergeFirstRefIdeal.τ Cert.MergeFirstRefIdeal.sig) → Buf (Elt Ideal) ℓ) : Prop :=
  True

def Pre_MergeCtx (m : (ℓ : Loc Cert.MergeCtx.nD Cert.MergeCtx.τ Cert.MergeCtx.sig) → Buf (Elt Bits) ℓ) : Prop :=
  True

def Pre_MergeCtxIdeal (m : (ℓ : Loc Cert.MergeCtxIdeal.nD Cert.MergeCtxIdeal.τ Cert.MergeCtxIdeal.sig) → Buf (Elt Ideal) ℓ) : Prop :=
  True

def Pre_MergeCtxRefIdeal (m : (ℓ : Loc Cert.MergeCtxRefIdeal.nD Cert.MergeCtxRefIdeal.τ Cert.MergeCtxRefIdeal.sig) → Buf (Elt Ideal) ℓ) : Prop :=
  True

def Pre_InProjCtx (m : (ℓ : Loc Cert.InProjCtx.nD Cert.InProjCtx.τ Cert.InProjCtx.sig) → Buf (Elt Bits) ℓ) : Prop :=
  True

def Pre_InProjCtxIdeal (m : (ℓ : Loc Cert.InProjCtxIdeal.nD Cert.InProjCtxIdeal.τ Cert.InProjCtxIdeal.sig) → Buf (Elt Ideal) ℓ) : Prop :=
  True

def Pre_InProjCtxRefIdeal (m : (ℓ : Loc Cert.InProjCtxRefIdeal.nD Cert.InProjCtxRefIdeal.τ Cert.InProjCtxRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_ConvCtx (m : (ℓ : Loc Cert.ConvCtx.nD Cert.ConvCtx.τ Cert.ConvCtx.sig) → Buf (Elt Bits) ℓ) : Prop :=
  True

def Pre_ConvCtxIdeal (m : (ℓ : Loc Cert.ConvCtxIdeal.nD Cert.ConvCtxIdeal.τ Cert.ConvCtxIdeal.sig) → Buf (Elt Ideal) ℓ) : Prop :=
  True

def Pre_ConvCtxRefIdeal (m : (ℓ : Loc Cert.ConvCtxRefIdeal.nD Cert.ConvCtxRefIdeal.τ Cert.ConvCtxRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_MergeFirst [hMergeFirst : Cert.MergeFirst.Facts] : Prop :=
  ∀ (m : (ℓ : Loc Cert.MergeFirst.nD Cert.MergeFirst.τ Cert.MergeFirst.sig) → Buf (Elt Bits) ℓ) (g : Dev Cert.MergeFirst.nD → PrngReg), Pre_MergeFirst m →
    θ_run (Cert.MergeFirst.defs (F := Bits)) (onTc (τ := Cert.MergeFirst.τ) (Cert.MergeFirst.main (F := Bits))) ⟨m, fun _ => 0, g⟩ (fun r => (∀ c : Dev Cert.MergeFirst.nD,
      r.2.mem ((c.tc : Thread Cert.MergeFirst.nD Cert.MergeFirst.τ).loc Cert.MergeFirst.main_arg0) = m ((c.tc : Thread Cert.MergeFirst.nD Cert.MergeFirst.τ).loc Cert.MergeFirst.main_arg0)
      ∧ r.2.mem ((c.tc : Thread Cert.MergeFirst.nD Cert.MergeFirst.τ).loc Cert.MergeFirst.main_arg1) = m ((c.tc : Thread Cert.MergeFirst.nD Cert.MergeFirst.τ).loc Cert.MergeFirst.main_arg1)
      ∧ r.2.mem ((c.tc : Thread Cert.MergeFirst.nD Cert.MergeFirst.τ).loc Cert.MergeFirst.main_arg2) = m ((c.tc : Thread Cert.MergeFirst.nD Cert.MergeFirst.τ).loc Cert.MergeFirst.main_arg2)
      ∧ r.2.mem ((c.tc : Thread Cert.MergeFirst.nD Cert.MergeFirst.τ).loc Cert.MergeFirst.main_arg3) = m ((c.tc : Thread Cert.MergeFirst.nD Cert.MergeFirst.τ).loc Cert.MergeFirst.main_arg3)
      ∧ r.2.mem ((c.tc : Thread Cert.MergeFirst.nD Cert.MergeFirst.τ).loc Cert.MergeFirst.main_arg4) = m ((c.tc : Thread Cert.MergeFirst.nD Cert.MergeFirst.τ).loc Cert.MergeFirst.main_arg4)
      ∧ r.2.mem ((c.tc : Thread Cert.MergeFirst.nD Cert.MergeFirst.τ).loc Cert.MergeFirst.main_arg5) = m ((c.tc : Thread Cert.MergeFirst.nD Cert.MergeFirst.τ).loc Cert.MergeFirst.main_arg5)
      ∧ r.2.mem ((c.tc : Thread Cert.MergeFirst.nD Cert.MergeFirst.τ).loc Cert.MergeFirst.main_arg6) = m ((c.tc : Thread Cert.MergeFirst.nD Cert.MergeFirst.τ).loc Cert.MergeFirst.main_arg6)
      ∧ r.2.mem ((c.tc : Thread Cert.MergeFirst.nD Cert.MergeFirst.τ).loc Cert.MergeFirst.main_arg7) = m ((c.tc : Thread Cert.MergeFirst.nD Cert.MergeFirst.τ).loc Cert.MergeFirst.main_arg7)
      ∧ r.2.mem ((c.tc : Thread Cert.MergeFirst.nD Cert.MergeFirst.τ).loc Cert.MergeFirst.main_arg8) = m ((c.tc : Thread Cert.MergeFirst.nD Cert.MergeFirst.τ).loc Cert.MergeFirst.main_arg8)
      ∧ r.2.mem ((c.tc : Thread Cert.MergeFirst.nD Cert.MergeFirst.τ).loc Cert.MergeFirst.main_arg9) = m ((c.tc : Thread Cert.MergeFirst.nD Cert.MergeFirst.τ).loc Cert.MergeFirst.main_arg9)
      ∧ r.2.mem ((c.tc : Thread Cert.MergeFirst.nD Cert.MergeFirst.τ).loc Cert.MergeFirst.main_arg10) = m ((c.tc : Thread Cert.MergeFirst.nD Cert.MergeFirst.τ).loc Cert.MergeFirst.main_arg10)
      ∧ r.2.mem ((c.tc : Thread Cert.MergeFirst.nD Cert.MergeFirst.τ).loc Cert.MergeFirst.main_arg11) = m ((c.tc : Thread Cert.MergeFirst.nD Cert.MergeFirst.τ).loc Cert.MergeFirst.main_arg11))
      ∧ r.2.sem = fun _ => 0)

def quiescent_MergeFirstIdeal [hMergeFirstIdeal : Cert.MergeFirstIdeal.Facts] : Prop :=
  ∀ (m : (ℓ : Loc Cert.MergeFirstIdeal.nD Cert.MergeFirstIdeal.τ Cert.MergeFirstIdeal.sig) → Buf (Elt Ideal) ℓ) (g : Dev Cert.MergeFirstIdeal.nD → PrngReg), Pre_MergeFirstIdeal m →
    θ_run (Cert.MergeFirstIdeal.defs (F := Ideal)) (onTc (τ := Cert.MergeFirstIdeal.τ) (Cert.MergeFirstIdeal.main (F := Ideal))) ⟨m, fun _ => 0, g⟩ (fun r => (∀ c : Dev Cert.MergeFirstIdeal.nD,
      r.2.mem ((c.tc : Thread Cert.MergeFirstIdeal.nD Cert.MergeFirstIdeal.τ).loc Cert.MergeFirstIdeal.main_arg0) = m ((c.tc : Thread Cert.MergeFirstIdeal.nD Cert.MergeFirstIdeal.τ).loc Cert.MergeFirstIdeal.main_arg0)
      ∧ r.2.mem ((c.tc : Thread Cert.MergeFirstIdeal.nD Cert.MergeFirstIdeal.τ).loc Cert.MergeFirstIdeal.main_arg1) = m ((c.tc : Thread Cert.MergeFirstIdeal.nD Cert.MergeFirstIdeal.τ).loc Cert.MergeFirstIdeal.main_arg1)
      ∧ r.2.mem ((c.tc : Thread Cert.MergeFirstIdeal.nD Cert.MergeFirstIdeal.τ).loc Cert.MergeFirstIdeal.main_arg2) = m ((c.tc : Thread Cert.MergeFirstIdeal.nD Cert.MergeFirstIdeal.τ).loc Cert.MergeFirstIdeal.main_arg2)
      ∧ r.2.mem ((c.tc : Thread Cert.MergeFirstIdeal.nD Cert.MergeFirstIdeal.τ).loc Cert.MergeFirstIdeal.main_arg3) = m ((c.tc : Thread Cert.MergeFirstIdeal.nD Cert.MergeFirstIdeal.τ).loc Cert.MergeFirstIdeal.main_arg3)
      ∧ r.2.mem ((c.tc : Thread Cert.MergeFirstIdeal.nD Cert.MergeFirstIdeal.τ).loc Cert.MergeFirstIdeal.main_arg4) = m ((c.tc : Thread Cert.MergeFirstIdeal.nD Cert.MergeFirstIdeal.τ).loc Cert.MergeFirstIdeal.main_arg4)
      ∧ r.2.mem ((c.tc : Thread Cert.MergeFirstIdeal.nD Cert.MergeFirstIdeal.τ).loc Cert.MergeFirstIdeal.main_arg5) = m ((c.tc : Thread Cert.MergeFirstIdeal.nD Cert.MergeFirstIdeal.τ).loc Cert.MergeFirstIdeal.main_arg5)
      ∧ r.2.mem ((c.tc : Thread Cert.MergeFirstIdeal.nD Cert.MergeFirstIdeal.τ).loc Cert.MergeFirstIdeal.main_arg6) = m ((c.tc : Thread Cert.MergeFirstIdeal.nD Cert.MergeFirstIdeal.τ).loc Cert.MergeFirstIdeal.main_arg6)
      ∧ r.2.mem ((c.tc : Thread Cert.MergeFirstIdeal.nD Cert.MergeFirstIdeal.τ).loc Cert.MergeFirstIdeal.main_arg7) = m ((c.tc : Thread Cert.MergeFirstIdeal.nD Cert.MergeFirstIdeal.τ).loc Cert.MergeFirstIdeal.main_arg7)
      ∧ r.2.mem ((c.tc : Thread Cert.MergeFirstIdeal.nD Cert.MergeFirstIdeal.τ).loc Cert.MergeFirstIdeal.main_arg8) = m ((c.tc : Thread Cert.MergeFirstIdeal.nD Cert.MergeFirstIdeal.τ).loc Cert.MergeFirstIdeal.main_arg8)
      ∧ r.2.mem ((c.tc : Thread Cert.MergeFirstIdeal.nD Cert.MergeFirstIdeal.τ).loc Cert.MergeFirstIdeal.main_arg9) = m ((c.tc : Thread Cert.MergeFirstIdeal.nD Cert.MergeFirstIdeal.τ).loc Cert.MergeFirstIdeal.main_arg9)
      ∧ r.2.mem ((c.tc : Thread Cert.MergeFirstIdeal.nD Cert.MergeFirstIdeal.τ).loc Cert.MergeFirstIdeal.main_arg10) = m ((c.tc : Thread Cert.MergeFirstIdeal.nD Cert.MergeFirstIdeal.τ).loc Cert.MergeFirstIdeal.main_arg10)
      ∧ r.2.mem ((c.tc : Thread Cert.MergeFirstIdeal.nD Cert.MergeFirstIdeal.τ).loc Cert.MergeFirstIdeal.main_arg11) = m ((c.tc : Thread Cert.MergeFirstIdeal.nD Cert.MergeFirstIdeal.τ).loc Cert.MergeFirstIdeal.main_arg11))
      ∧ r.2.sem = fun _ => 0)

def quiescent_MergeFirstRefIdeal [hMergeFirstRefIdeal : Cert.MergeFirstRefIdeal.Facts] : Prop :=
  ∀ (m : (ℓ : Loc Cert.MergeFirstRefIdeal.nD Cert.MergeFirstRefIdeal.τ Cert.MergeFirstRefIdeal.sig) → Buf (Elt Ideal) ℓ) (g : Dev Cert.MergeFirstRefIdeal.nD → PrngReg), Pre_MergeFirstRefIdeal m →
    θ_run (Cert.MergeFirstRefIdeal.defs (F := Ideal)) (onTc (τ := Cert.MergeFirstRefIdeal.τ) (Cert.MergeFirstRefIdeal.main (F := Ideal))) ⟨m, fun _ => 0, g⟩ (fun r => (∀ c : Dev Cert.MergeFirstRefIdeal.nD,
      r.2.mem ((c.tc : Thread Cert.MergeFirstRefIdeal.nD Cert.MergeFirstRefIdeal.τ).loc Cert.MergeFirstRefIdeal.main_arg0) = m ((c.tc : Thread Cert.MergeFirstRefIdeal.nD Cert.MergeFirstRefIdeal.τ).loc Cert.MergeFirstRefIdeal.main_arg0)
      ∧ r.2.mem ((c.tc : Thread Cert.MergeFirstRefIdeal.nD Cert.MergeFirstRefIdeal.τ).loc Cert.MergeFirstRefIdeal.main_arg1) = m ((c.tc : Thread Cert.MergeFirstRefIdeal.nD Cert.MergeFirstRefIdeal.τ).loc Cert.MergeFirstRefIdeal.main_arg1)
      ∧ r.2.mem ((c.tc : Thread Cert.MergeFirstRefIdeal.nD Cert.MergeFirstRefIdeal.τ).loc Cert.MergeFirstRefIdeal.main_arg2) = m ((c.tc : Thread Cert.MergeFirstRefIdeal.nD Cert.MergeFirstRefIdeal.τ).loc Cert.MergeFirstRefIdeal.main_arg2)
      ∧ r.2.mem ((c.tc : Thread Cert.MergeFirstRefIdeal.nD Cert.MergeFirstRefIdeal.τ).loc Cert.MergeFirstRefIdeal.main_arg3) = m ((c.tc : Thread Cert.MergeFirstRefIdeal.nD Cert.MergeFirstRefIdeal.τ).loc Cert.MergeFirstRefIdeal.main_arg3)
      ∧ r.2.mem ((c.tc : Thread Cert.MergeFirstRefIdeal.nD Cert.MergeFirstRefIdeal.τ).loc Cert.MergeFirstRefIdeal.main_arg4) = m ((c.tc : Thread Cert.MergeFirstRefIdeal.nD Cert.MergeFirstRefIdeal.τ).loc Cert.MergeFirstRefIdeal.main_arg4)
      ∧ r.2.mem ((c.tc : Thread Cert.MergeFirstRefIdeal.nD Cert.MergeFirstRefIdeal.τ).loc Cert.MergeFirstRefIdeal.main_arg5) = m ((c.tc : Thread Cert.MergeFirstRefIdeal.nD Cert.MergeFirstRefIdeal.τ).loc Cert.MergeFirstRefIdeal.main_arg5)
      ∧ r.2.mem ((c.tc : Thread Cert.MergeFirstRefIdeal.nD Cert.MergeFirstRefIdeal.τ).loc Cert.MergeFirstRefIdeal.main_arg6) = m ((c.tc : Thread Cert.MergeFirstRefIdeal.nD Cert.MergeFirstRefIdeal.τ).loc Cert.MergeFirstRefIdeal.main_arg6)
      ∧ r.2.mem ((c.tc : Thread Cert.MergeFirstRefIdeal.nD Cert.MergeFirstRefIdeal.τ).loc Cert.MergeFirstRefIdeal.main_arg7) = m ((c.tc : Thread Cert.MergeFirstRefIdeal.nD Cert.MergeFirstRefIdeal.τ).loc Cert.MergeFirstRefIdeal.main_arg7)
      ∧ r.2.mem ((c.tc : Thread Cert.MergeFirstRefIdeal.nD Cert.MergeFirstRefIdeal.τ).loc Cert.MergeFirstRefIdeal.main_arg8) = m ((c.tc : Thread Cert.MergeFirstRefIdeal.nD Cert.MergeFirstRefIdeal.τ).loc Cert.MergeFirstRefIdeal.main_arg8)
      ∧ r.2.mem ((c.tc : Thread Cert.MergeFirstRefIdeal.nD Cert.MergeFirstRefIdeal.τ).loc Cert.MergeFirstRefIdeal.main_arg9) = m ((c.tc : Thread Cert.MergeFirstRefIdeal.nD Cert.MergeFirstRefIdeal.τ).loc Cert.MergeFirstRefIdeal.main_arg9)
      ∧ r.2.mem ((c.tc : Thread Cert.MergeFirstRefIdeal.nD Cert.MergeFirstRefIdeal.τ).loc Cert.MergeFirstRefIdeal.main_arg10) = m ((c.tc : Thread Cert.MergeFirstRefIdeal.nD Cert.MergeFirstRefIdeal.τ).loc Cert.MergeFirstRefIdeal.main_arg10)
      ∧ r.2.mem ((c.tc : Thread Cert.MergeFirstRefIdeal.nD Cert.MergeFirstRefIdeal.τ).loc Cert.MergeFirstRefIdeal.main_arg11) = m ((c.tc : Thread Cert.MergeFirstRefIdeal.nD Cert.MergeFirstRefIdeal.τ).loc Cert.MergeFirstRefIdeal.main_arg11))
      ∧ r.2.sem = fun _ => 0)

def quiescent_MergeCtx [hMergeCtx : Cert.MergeCtx.Facts] : Prop :=
  ∀ (m : (ℓ : Loc Cert.MergeCtx.nD Cert.MergeCtx.τ Cert.MergeCtx.sig) → Buf (Elt Bits) ℓ) (g : Dev Cert.MergeCtx.nD → PrngReg), Pre_MergeCtx m →
    θ_run (Cert.MergeCtx.defs (F := Bits)) (onTc (τ := Cert.MergeCtx.τ) (Cert.MergeCtx.main (F := Bits))) ⟨m, fun _ => 0, g⟩ (fun r => (∀ c : Dev Cert.MergeCtx.nD,
      r.2.mem ((c.tc : Thread Cert.MergeCtx.nD Cert.MergeCtx.τ).loc Cert.MergeCtx.main_arg0) = m ((c.tc : Thread Cert.MergeCtx.nD Cert.MergeCtx.τ).loc Cert.MergeCtx.main_arg0)
      ∧ r.2.mem ((c.tc : Thread Cert.MergeCtx.nD Cert.MergeCtx.τ).loc Cert.MergeCtx.main_arg1) = m ((c.tc : Thread Cert.MergeCtx.nD Cert.MergeCtx.τ).loc Cert.MergeCtx.main_arg1)
      ∧ r.2.mem ((c.tc : Thread Cert.MergeCtx.nD Cert.MergeCtx.τ).loc Cert.MergeCtx.main_arg2) = m ((c.tc : Thread Cert.MergeCtx.nD Cert.MergeCtx.τ).loc Cert.MergeCtx.main_arg2)
      ∧ r.2.mem ((c.tc : Thread Cert.MergeCtx.nD Cert.MergeCtx.τ).loc Cert.MergeCtx.main_arg3) = m ((c.tc : Thread Cert.MergeCtx.nD Cert.MergeCtx.τ).loc Cert.MergeCtx.main_arg3)
      ∧ r.2.mem ((c.tc : Thread Cert.MergeCtx.nD Cert.MergeCtx.τ).loc Cert.MergeCtx.main_arg4) = m ((c.tc : Thread Cert.MergeCtx.nD Cert.MergeCtx.τ).loc Cert.MergeCtx.main_arg4)
      ∧ r.2.mem ((c.tc : Thread Cert.MergeCtx.nD Cert.MergeCtx.τ).loc Cert.MergeCtx.main_arg5) = m ((c.tc : Thread Cert.MergeCtx.nD Cert.MergeCtx.τ).loc Cert.MergeCtx.main_arg5)
      ∧ r.2.mem ((c.tc : Thread Cert.MergeCtx.nD Cert.MergeCtx.τ).loc Cert.MergeCtx.main_arg6) = m ((c.tc : Thread Cert.MergeCtx.nD Cert.MergeCtx.τ).loc Cert.MergeCtx.main_arg6)
      ∧ r.2.mem ((c.tc : Thread Cert.MergeCtx.nD Cert.MergeCtx.τ).loc Cert.MergeCtx.main_arg7) = m ((c.tc : Thread Cert.MergeCtx.nD Cert.MergeCtx.τ).loc Cert.MergeCtx.main_arg7)
      ∧ r.2.mem ((c.tc : Thread Cert.MergeCtx.nD Cert.MergeCtx.τ).loc Cert.MergeCtx.main_arg8) = m ((c.tc : Thread Cert.MergeCtx.nD Cert.MergeCtx.τ).loc Cert.MergeCtx.main_arg8)
      ∧ r.2.mem ((c.tc : Thread Cert.MergeCtx.nD Cert.MergeCtx.τ).loc Cert.MergeCtx.main_arg9) = m ((c.tc : Thread Cert.MergeCtx.nD Cert.MergeCtx.τ).loc Cert.MergeCtx.main_arg9)
      ∧ r.2.mem ((c.tc : Thread Cert.MergeCtx.nD Cert.MergeCtx.τ).loc Cert.MergeCtx.main_arg10) = m ((c.tc : Thread Cert.MergeCtx.nD Cert.MergeCtx.τ).loc Cert.MergeCtx.main_arg10)
      ∧ r.2.mem ((c.tc : Thread Cert.MergeCtx.nD Cert.MergeCtx.τ).loc Cert.MergeCtx.main_arg11) = m ((c.tc : Thread Cert.MergeCtx.nD Cert.MergeCtx.τ).loc Cert.MergeCtx.main_arg11))
      ∧ r.2.sem = fun _ => 0)

def quiescent_MergeCtxIdeal [hMergeCtxIdeal : Cert.MergeCtxIdeal.Facts] : Prop :=
  ∀ (m : (ℓ : Loc Cert.MergeCtxIdeal.nD Cert.MergeCtxIdeal.τ Cert.MergeCtxIdeal.sig) → Buf (Elt Ideal) ℓ) (g : Dev Cert.MergeCtxIdeal.nD → PrngReg), Pre_MergeCtxIdeal m →
    θ_run (Cert.MergeCtxIdeal.defs (F := Ideal)) (onTc (τ := Cert.MergeCtxIdeal.τ) (Cert.MergeCtxIdeal.main (F := Ideal))) ⟨m, fun _ => 0, g⟩ (fun r => (∀ c : Dev Cert.MergeCtxIdeal.nD,
      r.2.mem ((c.tc : Thread Cert.MergeCtxIdeal.nD Cert.MergeCtxIdeal.τ).loc Cert.MergeCtxIdeal.main_arg0) = m ((c.tc : Thread Cert.MergeCtxIdeal.nD Cert.MergeCtxIdeal.τ).loc Cert.MergeCtxIdeal.main_arg0)
      ∧ r.2.mem ((c.tc : Thread Cert.MergeCtxIdeal.nD Cert.MergeCtxIdeal.τ).loc Cert.MergeCtxIdeal.main_arg1) = m ((c.tc : Thread Cert.MergeCtxIdeal.nD Cert.MergeCtxIdeal.τ).loc Cert.MergeCtxIdeal.main_arg1)
      ∧ r.2.mem ((c.tc : Thread Cert.MergeCtxIdeal.nD Cert.MergeCtxIdeal.τ).loc Cert.MergeCtxIdeal.main_arg2) = m ((c.tc : Thread Cert.MergeCtxIdeal.nD Cert.MergeCtxIdeal.τ).loc Cert.MergeCtxIdeal.main_arg2)
      ∧ r.2.mem ((c.tc : Thread Cert.MergeCtxIdeal.nD Cert.MergeCtxIdeal.τ).loc Cert.MergeCtxIdeal.main_arg3) = m ((c.tc : Thread Cert.MergeCtxIdeal.nD Cert.MergeCtxIdeal.τ).loc Cert.MergeCtxIdeal.main_arg3)
      ∧ r.2.mem ((c.tc : Thread Cert.MergeCtxIdeal.nD Cert.MergeCtxIdeal.τ).loc Cert.MergeCtxIdeal.main_arg4) = m ((c.tc : Thread Cert.MergeCtxIdeal.nD Cert.MergeCtxIdeal.τ).loc Cert.MergeCtxIdeal.main_arg4)
      ∧ r.2.mem ((c.tc : Thread Cert.MergeCtxIdeal.nD Cert.MergeCtxIdeal.τ).loc Cert.MergeCtxIdeal.main_arg5) = m ((c.tc : Thread Cert.MergeCtxIdeal.nD Cert.MergeCtxIdeal.τ).loc Cert.MergeCtxIdeal.main_arg5)
      ∧ r.2.mem ((c.tc : Thread Cert.MergeCtxIdeal.nD Cert.MergeCtxIdeal.τ).loc Cert.MergeCtxIdeal.main_arg6) = m ((c.tc : Thread Cert.MergeCtxIdeal.nD Cert.MergeCtxIdeal.τ).loc Cert.MergeCtxIdeal.main_arg6)
      ∧ r.2.mem ((c.tc : Thread Cert.MergeCtxIdeal.nD Cert.MergeCtxIdeal.τ).loc Cert.MergeCtxIdeal.main_arg7) = m ((c.tc : Thread Cert.MergeCtxIdeal.nD Cert.MergeCtxIdeal.τ).loc Cert.MergeCtxIdeal.main_arg7)
      ∧ r.2.mem ((c.tc : Thread Cert.MergeCtxIdeal.nD Cert.MergeCtxIdeal.τ).loc Cert.MergeCtxIdeal.main_arg8) = m ((c.tc : Thread Cert.MergeCtxIdeal.nD Cert.MergeCtxIdeal.τ).loc Cert.MergeCtxIdeal.main_arg8)
      ∧ r.2.mem ((c.tc : Thread Cert.MergeCtxIdeal.nD Cert.MergeCtxIdeal.τ).loc Cert.MergeCtxIdeal.main_arg9) = m ((c.tc : Thread Cert.MergeCtxIdeal.nD Cert.MergeCtxIdeal.τ).loc Cert.MergeCtxIdeal.main_arg9)
      ∧ r.2.mem ((c.tc : Thread Cert.MergeCtxIdeal.nD Cert.MergeCtxIdeal.τ).loc Cert.MergeCtxIdeal.main_arg10) = m ((c.tc : Thread Cert.MergeCtxIdeal.nD Cert.MergeCtxIdeal.τ).loc Cert.MergeCtxIdeal.main_arg10)
      ∧ r.2.mem ((c.tc : Thread Cert.MergeCtxIdeal.nD Cert.MergeCtxIdeal.τ).loc Cert.MergeCtxIdeal.main_arg11) = m ((c.tc : Thread Cert.MergeCtxIdeal.nD Cert.MergeCtxIdeal.τ).loc Cert.MergeCtxIdeal.main_arg11))
      ∧ r.2.sem = fun _ => 0)

def quiescent_MergeCtxRefIdeal [hMergeCtxRefIdeal : Cert.MergeCtxRefIdeal.Facts] : Prop :=
  ∀ (m : (ℓ : Loc Cert.MergeCtxRefIdeal.nD Cert.MergeCtxRefIdeal.τ Cert.MergeCtxRefIdeal.sig) → Buf (Elt Ideal) ℓ) (g : Dev Cert.MergeCtxRefIdeal.nD → PrngReg), Pre_MergeCtxRefIdeal m →
    θ_run (Cert.MergeCtxRefIdeal.defs (F := Ideal)) (onTc (τ := Cert.MergeCtxRefIdeal.τ) (Cert.MergeCtxRefIdeal.main (F := Ideal))) ⟨m, fun _ => 0, g⟩ (fun r => (∀ c : Dev Cert.MergeCtxRefIdeal.nD,
      r.2.mem ((c.tc : Thread Cert.MergeCtxRefIdeal.nD Cert.MergeCtxRefIdeal.τ).loc Cert.MergeCtxRefIdeal.main_arg0) = m ((c.tc : Thread Cert.MergeCtxRefIdeal.nD Cert.MergeCtxRefIdeal.τ).loc Cert.MergeCtxRefIdeal.main_arg0)
      ∧ r.2.mem ((c.tc : Thread Cert.MergeCtxRefIdeal.nD Cert.MergeCtxRefIdeal.τ).loc Cert.MergeCtxRefIdeal.main_arg1) = m ((c.tc : Thread Cert.MergeCtxRefIdeal.nD Cert.MergeCtxRefIdeal.τ).loc Cert.MergeCtxRefIdeal.main_arg1)
      ∧ r.2.mem ((c.tc : Thread Cert.MergeCtxRefIdeal.nD Cert.MergeCtxRefIdeal.τ).loc Cert.MergeCtxRefIdeal.main_arg2) = m ((c.tc : Thread Cert.MergeCtxRefIdeal.nD Cert.MergeCtxRefIdeal.τ).loc Cert.MergeCtxRefIdeal.main_arg2)
      ∧ r.2.mem ((c.tc : Thread Cert.MergeCtxRefIdeal.nD Cert.MergeCtxRefIdeal.τ).loc Cert.MergeCtxRefIdeal.main_arg3) = m ((c.tc : Thread Cert.MergeCtxRefIdeal.nD Cert.MergeCtxRefIdeal.τ).loc Cert.MergeCtxRefIdeal.main_arg3)
      ∧ r.2.mem ((c.tc : Thread Cert.MergeCtxRefIdeal.nD Cert.MergeCtxRefIdeal.τ).loc Cert.MergeCtxRefIdeal.main_arg4) = m ((c.tc : Thread Cert.MergeCtxRefIdeal.nD Cert.MergeCtxRefIdeal.τ).loc Cert.MergeCtxRefIdeal.main_arg4)
      ∧ r.2.mem ((c.tc : Thread Cert.MergeCtxRefIdeal.nD Cert.MergeCtxRefIdeal.τ).loc Cert.MergeCtxRefIdeal.main_arg5) = m ((c.tc : Thread Cert.MergeCtxRefIdeal.nD Cert.MergeCtxRefIdeal.τ).loc Cert.MergeCtxRefIdeal.main_arg5)
      ∧ r.2.mem ((c.tc : Thread Cert.MergeCtxRefIdeal.nD Cert.MergeCtxRefIdeal.τ).loc Cert.MergeCtxRefIdeal.main_arg6) = m ((c.tc : Thread Cert.MergeCtxRefIdeal.nD Cert.MergeCtxRefIdeal.τ).loc Cert.MergeCtxRefIdeal.main_arg6)
      ∧ r.2.mem ((c.tc : Thread Cert.MergeCtxRefIdeal.nD Cert.MergeCtxRefIdeal.τ).loc Cert.MergeCtxRefIdeal.main_arg7) = m ((c.tc : Thread Cert.MergeCtxRefIdeal.nD Cert.MergeCtxRefIdeal.τ).loc Cert.MergeCtxRefIdeal.main_arg7)
      ∧ r.2.mem ((c.tc : Thread Cert.MergeCtxRefIdeal.nD Cert.MergeCtxRefIdeal.τ).loc Cert.MergeCtxRefIdeal.main_arg8) = m ((c.tc : Thread Cert.MergeCtxRefIdeal.nD Cert.MergeCtxRefIdeal.τ).loc Cert.MergeCtxRefIdeal.main_arg8)
      ∧ r.2.mem ((c.tc : Thread Cert.MergeCtxRefIdeal.nD Cert.MergeCtxRefIdeal.τ).loc Cert.MergeCtxRefIdeal.main_arg9) = m ((c.tc : Thread Cert.MergeCtxRefIdeal.nD Cert.MergeCtxRefIdeal.τ).loc Cert.MergeCtxRefIdeal.main_arg9)
      ∧ r.2.mem ((c.tc : Thread Cert.MergeCtxRefIdeal.nD Cert.MergeCtxRefIdeal.τ).loc Cert.MergeCtxRefIdeal.main_arg10) = m ((c.tc : Thread Cert.MergeCtxRefIdeal.nD Cert.MergeCtxRefIdeal.τ).loc Cert.MergeCtxRefIdeal.main_arg10)
      ∧ r.2.mem ((c.tc : Thread Cert.MergeCtxRefIdeal.nD Cert.MergeCtxRefIdeal.τ).loc Cert.MergeCtxRefIdeal.main_arg11) = m ((c.tc : Thread Cert.MergeCtxRefIdeal.nD Cert.MergeCtxRefIdeal.τ).loc Cert.MergeCtxRefIdeal.main_arg11))
      ∧ r.2.sem = fun _ => 0)

def quiescent_InProjCtx [hInProjCtx : Cert.InProjCtx.Facts] : Prop :=
  ∀ (m : (ℓ : Loc Cert.InProjCtx.nD Cert.InProjCtx.τ Cert.InProjCtx.sig) → Buf (Elt Bits) ℓ) (g : Dev Cert.InProjCtx.nD → PrngReg), Pre_InProjCtx m →
    θ_run (Cert.InProjCtx.defs (F := Bits)) (onTc (τ := Cert.InProjCtx.τ) (Cert.InProjCtx.main (F := Bits))) ⟨m, fun _ => 0, g⟩ (fun r => (∀ c : Dev Cert.InProjCtx.nD,
      r.2.mem ((c.tc : Thread Cert.InProjCtx.nD Cert.InProjCtx.τ).loc Cert.InProjCtx.main_arg0) = m ((c.tc : Thread Cert.InProjCtx.nD Cert.InProjCtx.τ).loc Cert.InProjCtx.main_arg0)
      ∧ r.2.mem ((c.tc : Thread Cert.InProjCtx.nD Cert.InProjCtx.τ).loc Cert.InProjCtx.main_arg1) = m ((c.tc : Thread Cert.InProjCtx.nD Cert.InProjCtx.τ).loc Cert.InProjCtx.main_arg1)
      ∧ r.2.mem ((c.tc : Thread Cert.InProjCtx.nD Cert.InProjCtx.τ).loc Cert.InProjCtx.main_arg2) = m ((c.tc : Thread Cert.InProjCtx.nD Cert.InProjCtx.τ).loc Cert.InProjCtx.main_arg2)
      ∧ r.2.mem ((c.tc : Thread Cert.InProjCtx.nD Cert.InProjCtx.τ).loc Cert.InProjCtx.main_arg3) = m ((c.tc : Thread Cert.InProjCtx.nD Cert.InProjCtx.τ).loc Cert.InProjCtx.main_arg3))
      ∧ r.2.sem = fun _ => 0)

def quiescent_InProjCtxIdeal [hInProjCtxIdeal : Cert.InProjCtxIdeal.Facts] : Prop :=
  ∀ (m : (ℓ : Loc Cert.InProjCtxIdeal.nD Cert.InProjCtxIdeal.τ Cert.InProjCtxIdeal.sig) → Buf (Elt Ideal) ℓ) (g : Dev Cert.InProjCtxIdeal.nD → PrngReg), Pre_InProjCtxIdeal m →
    θ_run (Cert.InProjCtxIdeal.defs (F := Ideal)) (onTc (τ := Cert.InProjCtxIdeal.τ) (Cert.InProjCtxIdeal.main (F := Ideal))) ⟨m, fun _ => 0, g⟩ (fun r => (∀ c : Dev Cert.InProjCtxIdeal.nD,
      r.2.mem ((c.tc : Thread Cert.InProjCtxIdeal.nD Cert.InProjCtxIdeal.τ).loc Cert.InProjCtxIdeal.main_arg0) = m ((c.tc : Thread Cert.InProjCtxIdeal.nD Cert.InProjCtxIdeal.τ).loc Cert.InProjCtxIdeal.main_arg0)
      ∧ r.2.mem ((c.tc : Thread Cert.InProjCtxIdeal.nD Cert.InProjCtxIdeal.τ).loc Cert.InProjCtxIdeal.main_arg1) = m ((c.tc : Thread Cert.InProjCtxIdeal.nD Cert.InProjCtxIdeal.τ).loc Cert.InProjCtxIdeal.main_arg1)
      ∧ r.2.mem ((c.tc : Thread Cert.InProjCtxIdeal.nD Cert.InProjCtxIdeal.τ).loc Cert.InProjCtxIdeal.main_arg2) = m ((c.tc : Thread Cert.InProjCtxIdeal.nD Cert.InProjCtxIdeal.τ).loc Cert.InProjCtxIdeal.main_arg2)
      ∧ r.2.mem ((c.tc : Thread Cert.InProjCtxIdeal.nD Cert.InProjCtxIdeal.τ).loc Cert.InProjCtxIdeal.main_arg3) = m ((c.tc : Thread Cert.InProjCtxIdeal.nD Cert.InProjCtxIdeal.τ).loc Cert.InProjCtxIdeal.main_arg3))
      ∧ r.2.sem = fun _ => 0)

def quiescent_InProjCtxRefIdeal [hInProjCtxRefIdeal : Cert.InProjCtxRefIdeal.Facts] : Prop :=
  ∀ (m : (ℓ : Loc Cert.InProjCtxRefIdeal.nD Cert.InProjCtxRefIdeal.τ Cert.InProjCtxRefIdeal.sig) → Buf (Elt Ideal) ℓ) (g : Dev Cert.InProjCtxRefIdeal.nD → PrngReg), Pre_InProjCtxRefIdeal m →
    θ_run (Cert.InProjCtxRefIdeal.defs (F := Ideal)) (onTc (τ := Cert.InProjCtxRefIdeal.τ) (Cert.InProjCtxRefIdeal.main (F := Ideal))) ⟨m, fun _ => 0, g⟩ (fun r => (∀ c : Dev Cert.InProjCtxRefIdeal.nD,
      r.2.mem ((c.tc : Thread Cert.InProjCtxRefIdeal.nD Cert.InProjCtxRefIdeal.τ).loc Cert.InProjCtxRefIdeal.main_arg0) = m ((c.tc : Thread Cert.InProjCtxRefIdeal.nD Cert.InProjCtxRefIdeal.τ).loc Cert.InProjCtxRefIdeal.main_arg0)
      ∧ r.2.mem ((c.tc : Thread Cert.InProjCtxRefIdeal.nD Cert.InProjCtxRefIdeal.τ).loc Cert.InProjCtxRefIdeal.main_arg1) = m ((c.tc : Thread Cert.InProjCtxRefIdeal.nD Cert.InProjCtxRefIdeal.τ).loc Cert.InProjCtxRefIdeal.main_arg1)
      ∧ r.2.mem ((c.tc : Thread Cert.InProjCtxRefIdeal.nD Cert.InProjCtxRefIdeal.τ).loc Cert.InProjCtxRefIdeal.main_arg2) = m ((c.tc : Thread Cert.InProjCtxRefIdeal.nD Cert.InProjCtxRefIdeal.τ).loc Cert.InProjCtxRefIdeal.main_arg2)
      ∧ r.2.mem ((c.tc : Thread Cert.InProjCtxRefIdeal.nD Cert.InProjCtxRefIdeal.τ).loc Cert.InProjCtxRefIdeal.main_arg3) = m ((c.tc : Thread Cert.InProjCtxRefIdeal.nD Cert.InProjCtxRefIdeal.τ).loc Cert.InProjCtxRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_ConvCtx [hConvCtx : Cert.ConvCtx.Facts] : Prop :=
  ∀ (m : (ℓ : Loc Cert.ConvCtx.nD Cert.ConvCtx.τ Cert.ConvCtx.sig) → Buf (Elt Bits) ℓ) (g : Dev Cert.ConvCtx.nD → PrngReg), Pre_ConvCtx m →
    θ_run (Cert.ConvCtx.defs (F := Bits)) (onTc (τ := Cert.ConvCtx.τ) (Cert.ConvCtx.main (F := Bits))) ⟨m, fun _ => 0, g⟩ (fun r => (∀ c : Dev Cert.ConvCtx.nD,
      r.2.mem ((c.tc : Thread Cert.ConvCtx.nD Cert.ConvCtx.τ).loc Cert.ConvCtx.main_arg0) = m ((c.tc : Thread Cert.ConvCtx.nD Cert.ConvCtx.τ).loc Cert.ConvCtx.main_arg0)
      ∧ r.2.mem ((c.tc : Thread Cert.ConvCtx.nD Cert.ConvCtx.τ).loc Cert.ConvCtx.main_arg1) = m ((c.tc : Thread Cert.ConvCtx.nD Cert.ConvCtx.τ).loc Cert.ConvCtx.main_arg1)
      ∧ r.2.mem ((c.tc : Thread Cert.ConvCtx.nD Cert.ConvCtx.τ).loc Cert.ConvCtx.main_arg2) = m ((c.tc : Thread Cert.ConvCtx.nD Cert.ConvCtx.τ).loc Cert.ConvCtx.main_arg2))
      ∧ r.2.sem = fun _ => 0)

def quiescent_ConvCtxIdeal [hConvCtxIdeal : Cert.ConvCtxIdeal.Facts] : Prop :=
  ∀ (m : (ℓ : Loc Cert.ConvCtxIdeal.nD Cert.ConvCtxIdeal.τ Cert.ConvCtxIdeal.sig) → Buf (Elt Ideal) ℓ) (g : Dev Cert.ConvCtxIdeal.nD → PrngReg), Pre_ConvCtxIdeal m →
    θ_run (Cert.ConvCtxIdeal.defs (F := Ideal)) (onTc (τ := Cert.ConvCtxIdeal.τ) (Cert.ConvCtxIdeal.main (F := Ideal))) ⟨m, fun _ => 0, g⟩ (fun r => (∀ c : Dev Cert.ConvCtxIdeal.nD,
      r.2.mem ((c.tc : Thread Cert.ConvCtxIdeal.nD Cert.ConvCtxIdeal.τ).loc Cert.ConvCtxIdeal.main_arg0) = m ((c.tc : Thread Cert.ConvCtxIdeal.nD Cert.ConvCtxIdeal.τ).loc Cert.ConvCtxIdeal.main_arg0)
      ∧ r.2.mem ((c.tc : Thread Cert.ConvCtxIdeal.nD Cert.ConvCtxIdeal.τ).loc Cert.ConvCtxIdeal.main_arg1) = m ((c.tc : Thread Cert.ConvCtxIdeal.nD Cert.ConvCtxIdeal.τ).loc Cert.ConvCtxIdeal.main_arg1)
      ∧ r.2.mem ((c.tc : Thread Cert.ConvCtxIdeal.nD Cert.ConvCtxIdeal.τ).loc Cert.ConvCtxIdeal.main_arg2) = m ((c.tc : Thread Cert.ConvCtxIdeal.nD Cert.ConvCtxIdeal.τ).loc Cert.ConvCtxIdeal.main_arg2))
      ∧ r.2.sem = fun _ => 0)

def quiescent_ConvCtxRefIdeal [hConvCtxRefIdeal : Cert.ConvCtxRefIdeal.Facts] : Prop :=
  ∀ (m : (ℓ : Loc Cert.ConvCtxRefIdeal.nD Cert.ConvCtxRefIdeal.τ Cert.ConvCtxRefIdeal.sig) → Buf (Elt Ideal) ℓ) (g : Dev Cert.ConvCtxRefIdeal.nD → PrngReg), Pre_ConvCtxRefIdeal m →
    θ_run (Cert.ConvCtxRefIdeal.defs (F := Ideal)) (onTc (τ := Cert.ConvCtxRefIdeal.τ) (Cert.ConvCtxRefIdeal.main (F := Ideal))) ⟨m, fun _ => 0, g⟩ (fun r => (∀ c : Dev Cert.ConvCtxRefIdeal.nD,
      r.2.mem ((c.tc : Thread Cert.ConvCtxRefIdeal.nD Cert.ConvCtxRefIdeal.τ).loc Cert.ConvCtxRefIdeal.main_arg0) = m ((c.tc : Thread Cert.ConvCtxRefIdeal.nD Cert.ConvCtxRefIdeal.τ).loc Cert.ConvCtxRefIdeal.main_arg0)
      ∧ r.2.mem ((c.tc : Thread Cert.ConvCtxRefIdeal.nD Cert.ConvCtxRefIdeal.τ).loc Cert.ConvCtxRefIdeal.main_arg1) = m ((c.tc : Thread Cert.ConvCtxRefIdeal.nD Cert.ConvCtxRefIdeal.τ).loc Cert.ConvCtxRefIdeal.main_arg1)
      ∧ r.2.mem ((c.tc : Thread Cert.ConvCtxRefIdeal.nD Cert.ConvCtxRefIdeal.τ).loc Cert.ConvCtxRefIdeal.main_arg2) = m ((c.tc : Thread Cert.ConvCtxRefIdeal.nD Cert.ConvCtxRefIdeal.τ).loc Cert.ConvCtxRefIdeal.main_arg2))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def preserves_Kernel_KernelIdeal : Prop :=
  True

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v68) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v43_0)) (v1 : (c : Dev Cert.InProjIdeal.nD) → Buf (Elt Ideal) ((c.tc : Thread Cert.InProjIdeal.nD Cert.InProjIdeal.τ).loc Cert.InProjIdeal.main_v43_1)) (v2 : (c : Dev Cert.InProjIdeal.nD) → Buf (Elt Ideal) ((c.tc : Thread Cert.InProjIdeal.nD Cert.InProjIdeal.τ).loc Cert.InProjIdeal.main_v43_2)) (v3 : (c : Dev Cert.InProjIdeal.nD) → Buf (Elt Ideal) ((c.tc : Thread Cert.InProjIdeal.nD Cert.InProjIdeal.τ).loc Cert.InProjIdeal.main_v43_3)) (v4 : (c : Dev Cert.InProjIdeal.nD) → Buf (Elt Ideal) ((c.tc : Thread Cert.InProjIdeal.nD Cert.InProjIdeal.τ).loc Cert.InProjIdeal.main_v43_4)) (v5 : (c : Dev Cert.InProjIdeal.nD) → Buf (Elt Ideal) ((c.tc : Thread Cert.InProjIdeal.nD Cert.InProjIdeal.τ).loc Cert.InProjIdeal.main_v43_5)) (v6 : (c : Dev Cert.InProjIdeal.nD) → Buf (Elt Ideal) ((c.tc : Thread Cert.InProjIdeal.nD Cert.InProjIdeal.τ).loc Cert.InProjIdeal.main_v43_6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v43_0) = v0 c
          ∧ r.2.mem ((c.tc : Thread Cert.InProjIdeal.nD Cert.InProjIdeal.τ).loc Cert.InProjIdeal.main_v43_1) = v1 c
          ∧ r.2.mem ((c.tc : Thread Cert.InProjIdeal.nD Cert.InProjIdeal.τ).loc Cert.InProjIdeal.main_v43_2) = v2 c
          ∧ r.2.mem ((c.tc : Thread Cert.InProjIdeal.nD Cert.InProjIdeal.τ).loc Cert.InProjIdeal.main_v43_3) = v3 c
          ∧ r.2.mem ((c.tc : Thread Cert.InProjIdeal.nD Cert.InProjIdeal.τ).loc Cert.InProjIdeal.main_v43_4) = v4 c
          ∧ r.2.mem ((c.tc : Thread Cert.InProjIdeal.nD Cert.InProjIdeal.τ).loc Cert.InProjIdeal.main_v43_5) = v5 c
          ∧ r.2.mem ((c.tc : Thread Cert.InProjIdeal.nD Cert.InProjIdeal.τ).loc Cert.InProjIdeal.main_v43_6) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v202) = v0 c
          ∧ r.2.mem ((c.tc : Thread Cert.InProjRefIdeal.nD Cert.InProjRefIdeal.τ).loc Cert.InProjRefIdeal.main_v203) = v1 c
          ∧ r.2.mem ((c.tc : Thread Cert.InProjRefIdeal.nD Cert.InProjRefIdeal.τ).loc Cert.InProjRefIdeal.main_v204) = v2 c
          ∧ r.2.mem ((c.tc : Thread Cert.InProjRefIdeal.nD Cert.InProjRefIdeal.τ).loc Cert.InProjRefIdeal.main_v206) = v3 c
          ∧ r.2.mem ((c.tc : Thread Cert.InProjRefIdeal.nD Cert.InProjRefIdeal.τ).loc Cert.InProjRefIdeal.main_v207) = v4 c
          ∧ r.2.mem ((c.tc : Thread Cert.InProjRefIdeal.nD Cert.InProjRefIdeal.τ).loc Cert.InProjRefIdeal.main_v209) = v5 c
          ∧ r.2.mem ((c.tc : Thread Cert.InProjRefIdeal.nD Cert.InProjRefIdeal.τ).loc Cert.InProjRefIdeal.main_v216) = v6 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_MergeFirst_MergeFirstIdeal : Prop :=
  True

def algebraic_MergeFirstIdeal_MergeFirstRefIdeal [hMergeFirstIdeal : Cert.MergeFirstIdeal.Facts] [hMergeFirstRefIdeal : Cert.MergeFirstRefIdeal.Facts] : Prop :=
  ∀ (m : (ℓ : Loc Cert.MergeFirstIdeal.nD Cert.MergeFirstIdeal.τ Cert.MergeFirstIdeal.sig) → Buf (Elt Ideal) ℓ) (g : Dev Cert.MergeFirstIdeal.nD → PrngReg)
    (m' : (ℓ : Loc Cert.MergeFirstRefIdeal.nD Cert.MergeFirstRefIdeal.τ Cert.MergeFirstRefIdeal.sig) → Buf (Elt Ideal) ℓ) (g' : Dev Cert.MergeFirstRefIdeal.nD → PrngReg), Pre_MergeFirstIdeal m →
    (∀ c : Dev Cert.MergeFirstIdeal.nD,
      m' ((c.tc : Thread Cert.MergeFirstRefIdeal.nD Cert.MergeFirstRefIdeal.τ).loc Cert.MergeFirstRefIdeal.main_arg0) = m ((c.tc : Thread Cert.MergeFirstIdeal.nD Cert.MergeFirstIdeal.τ).loc Cert.MergeFirstIdeal.main_arg0)
      ∧ m' ((c.tc : Thread Cert.MergeFirstRefIdeal.nD Cert.MergeFirstRefIdeal.τ).loc Cert.MergeFirstRefIdeal.main_arg1) = m ((c.tc : Thread Cert.MergeFirstIdeal.nD Cert.MergeFirstIdeal.τ).loc Cert.MergeFirstIdeal.main_arg1)
      ∧ m' ((c.tc : Thread Cert.MergeFirstRefIdeal.nD Cert.MergeFirstRefIdeal.τ).loc Cert.MergeFirstRefIdeal.main_arg2) = m ((c.tc : Thread Cert.MergeFirstIdeal.nD Cert.MergeFirstIdeal.τ).loc Cert.MergeFirstIdeal.main_arg2)
      ∧ m' ((c.tc : Thread Cert.MergeFirstRefIdeal.nD Cert.MergeFirstRefIdeal.τ).loc Cert.MergeFirstRefIdeal.main_arg3) = m ((c.tc : Thread Cert.MergeFirstIdeal.nD Cert.MergeFirstIdeal.τ).loc Cert.MergeFirstIdeal.main_arg3)
      ∧ m' ((c.tc : Thread Cert.MergeFirstRefIdeal.nD Cert.MergeFirstRefIdeal.τ).loc Cert.MergeFirstRefIdeal.main_arg4) = m ((c.tc : Thread Cert.MergeFirstIdeal.nD Cert.MergeFirstIdeal.τ).loc Cert.MergeFirstIdeal.main_arg4)
      ∧ m' ((c.tc : Thread Cert.MergeFirstRefIdeal.nD Cert.MergeFirstRefIdeal.τ).loc Cert.MergeFirstRefIdeal.main_arg5) = m ((c.tc : Thread Cert.MergeFirstIdeal.nD Cert.MergeFirstIdeal.τ).loc Cert.MergeFirstIdeal.main_arg5)
      ∧ m' ((c.tc : Thread Cert.MergeFirstRefIdeal.nD Cert.MergeFirstRefIdeal.τ).loc Cert.MergeFirstRefIdeal.main_arg6) = m ((c.tc : Thread Cert.MergeFirstIdeal.nD Cert.MergeFirstIdeal.τ).loc Cert.MergeFirstIdeal.main_arg6)
      ∧ m' ((c.tc : Thread Cert.MergeFirstRefIdeal.nD Cert.MergeFirstRefIdeal.τ).loc Cert.MergeFirstRefIdeal.main_arg7) = m ((c.tc : Thread Cert.MergeFirstIdeal.nD Cert.MergeFirstIdeal.τ).loc Cert.MergeFirstIdeal.main_arg7)
      ∧ m' ((c.tc : Thread Cert.MergeFirstRefIdeal.nD Cert.MergeFirstRefIdeal.τ).loc Cert.MergeFirstRefIdeal.main_arg8) = m ((c.tc : Thread Cert.MergeFirstIdeal.nD Cert.MergeFirstIdeal.τ).loc Cert.MergeFirstIdeal.main_arg8)
      ∧ m' ((c.tc : Thread Cert.MergeFirstRefIdeal.nD Cert.MergeFirstRefIdeal.τ).loc Cert.MergeFirstRefIdeal.main_arg9) = m ((c.tc : Thread Cert.MergeFirstIdeal.nD Cert.MergeFirstIdeal.τ).loc Cert.MergeFirstIdeal.main_arg9)
      ∧ m' ((c.tc : Thread Cert.MergeFirstRefIdeal.nD Cert.MergeFirstRefIdeal.τ).loc Cert.MergeFirstRefIdeal.main_arg10) = m ((c.tc : Thread Cert.MergeFirstIdeal.nD Cert.MergeFirstIdeal.τ).loc Cert.MergeFirstIdeal.main_arg10)
      ∧ m' ((c.tc : Thread Cert.MergeFirstRefIdeal.nD Cert.MergeFirstRefIdeal.τ).loc Cert.MergeFirstRefIdeal.main_arg11) = m ((c.tc : Thread Cert.MergeFirstIdeal.nD Cert.MergeFirstIdeal.τ).loc Cert.MergeFirstIdeal.main_arg11)) →
    ∃ (v0 : (c : Dev Cert.MergeFirstIdeal.nD) → Buf (Elt Ideal) ((c.tc : Thread Cert.MergeFirstIdeal.nD Cert.MergeFirstIdeal.τ).loc Cert.MergeFirstIdeal.main_v2)),
      θ_run (Cert.MergeFirstIdeal.defs (F := Ideal)) (onTc (τ := Cert.MergeFirstIdeal.τ) (Cert.MergeFirstIdeal.main (F := Ideal))) ⟨m, fun _ => 0, g⟩ (fun r => ∀ c : Dev Cert.MergeFirstIdeal.nD,
          r.2.mem ((c.tc : Thread Cert.MergeFirstIdeal.nD Cert.MergeFirstIdeal.τ).loc Cert.MergeFirstIdeal.main_v2) = v0 c
          ∧ r.2.mem ((c.tc : Thread Cert.MergeFirstIdeal.nD Cert.MergeFirstIdeal.τ).loc Cert.MergeFirstIdeal.main_arg0) = m ((c.tc : Thread Cert.MergeFirstIdeal.nD Cert.MergeFirstIdeal.τ).loc Cert.MergeFirstIdeal.main_arg0)
          ∧ r.2.mem ((c.tc : Thread Cert.MergeFirstIdeal.nD Cert.MergeFirstIdeal.τ).loc Cert.MergeFirstIdeal.main_arg1) = m ((c.tc : Thread Cert.MergeFirstIdeal.nD Cert.MergeFirstIdeal.τ).loc Cert.MergeFirstIdeal.main_arg1)
          ∧ r.2.mem ((c.tc : Thread Cert.MergeFirstIdeal.nD Cert.MergeFirstIdeal.τ).loc Cert.MergeFirstIdeal.main_arg2) = m ((c.tc : Thread Cert.MergeFirstIdeal.nD Cert.MergeFirstIdeal.τ).loc Cert.MergeFirstIdeal.main_arg2)
          ∧ r.2.mem ((c.tc : Thread Cert.MergeFirstIdeal.nD Cert.MergeFirstIdeal.τ).loc Cert.MergeFirstIdeal.main_arg3) = m ((c.tc : Thread Cert.MergeFirstIdeal.nD Cert.MergeFirstIdeal.τ).loc Cert.MergeFirstIdeal.main_arg3)
          ∧ r.2.mem ((c.tc : Thread Cert.MergeFirstIdeal.nD Cert.MergeFirstIdeal.τ).loc Cert.MergeFirstIdeal.main_arg4) = m ((c.tc : Thread Cert.MergeFirstIdeal.nD Cert.MergeFirstIdeal.τ).loc Cert.MergeFirstIdeal.main_arg4)
          ∧ r.2.mem ((c.tc : Thread Cert.MergeFirstIdeal.nD Cert.MergeFirstIdeal.τ).loc Cert.MergeFirstIdeal.main_arg5) = m ((c.tc : Thread Cert.MergeFirstIdeal.nD Cert.MergeFirstIdeal.τ).loc Cert.MergeFirstIdeal.main_arg5)
          ∧ r.2.mem ((c.tc : Thread Cert.MergeFirstIdeal.nD Cert.MergeFirstIdeal.τ).loc Cert.MergeFirstIdeal.main_arg6) = m ((c.tc : Thread Cert.MergeFirstIdeal.nD Cert.MergeFirstIdeal.τ).loc Cert.MergeFirstIdeal.main_arg6)
          ∧ r.2.mem ((c.tc : Thread Cert.MergeFirstIdeal.nD Cert.MergeFirstIdeal.τ).loc Cert.MergeFirstIdeal.main_arg7) = m ((c.tc : Thread Cert.MergeFirstIdeal.nD Cert.MergeFirstIdeal.τ).loc Cert.MergeFirstIdeal.main_arg7)
          ∧ r.2.mem ((c.tc : Thread Cert.MergeFirstIdeal.nD Cert.MergeFirstIdeal.τ).loc Cert.MergeFirstIdeal.main_arg8) = m ((c.tc : Thread Cert.MergeFirstIdeal.nD Cert.MergeFirstIdeal.τ).loc Cert.MergeFirstIdeal.main_arg8)
          ∧ r.2.mem ((c.tc : Thread Cert.MergeFirstIdeal.nD Cert.MergeFirstIdeal.τ).loc Cert.MergeFirstIdeal.main_arg9) = m ((c.tc : Thread Cert.MergeFirstIdeal.nD Cert.MergeFirstIdeal.τ).loc Cert.MergeFirstIdeal.main_arg9)
          ∧ r.2.mem ((c.tc : Thread Cert.MergeFirstIdeal.nD Cert.MergeFirstIdeal.τ).loc Cert.MergeFirstIdeal.main_arg10) = m ((c.tc : Thread Cert.MergeFirstIdeal.nD Cert.MergeFirstIdeal.τ).loc Cert.MergeFirstIdeal.main_arg10)
          ∧ r.2.mem ((c.tc : Thread Cert.MergeFirstIdeal.nD Cert.MergeFirstIdeal.τ).loc Cert.MergeFirstIdeal.main_arg11) = m ((c.tc : Thread Cert.MergeFirstIdeal.nD Cert.MergeFirstIdeal.τ).loc Cert.MergeFirstIdeal.main_arg11))
      ∧ θ_run (Cert.MergeFirstRefIdeal.defs (F := Ideal)) (onTc (τ := Cert.MergeFirstRefIdeal.τ) (Cert.MergeFirstRefIdeal.main (F := Ideal))) ⟨m', fun _ => 0, g'⟩ (fun r => ∀ c : Dev Cert.MergeFirstRefIdeal.nD,
          r.2.mem ((c.tc : Thread Cert.MergeFirstRefIdeal.nD Cert.MergeFirstRefIdeal.τ).loc Cert.MergeFirstRefIdeal.main_v55) = v0 c
          ∧ r.2.mem ((c.tc : Thread Cert.MergeFirstRefIdeal.nD Cert.MergeFirstRefIdeal.τ).loc Cert.MergeFirstRefIdeal.main_arg0) = m' ((c.tc : Thread Cert.MergeFirstRefIdeal.nD Cert.MergeFirstRefIdeal.τ).loc Cert.MergeFirstRefIdeal.main_arg0)
          ∧ r.2.mem ((c.tc : Thread Cert.MergeFirstRefIdeal.nD Cert.MergeFirstRefIdeal.τ).loc Cert.MergeFirstRefIdeal.main_arg1) = m' ((c.tc : Thread Cert.MergeFirstRefIdeal.nD Cert.MergeFirstRefIdeal.τ).loc Cert.MergeFirstRefIdeal.main_arg1)
          ∧ r.2.mem ((c.tc : Thread Cert.MergeFirstRefIdeal.nD Cert.MergeFirstRefIdeal.τ).loc Cert.MergeFirstRefIdeal.main_arg2) = m' ((c.tc : Thread Cert.MergeFirstRefIdeal.nD Cert.MergeFirstRefIdeal.τ).loc Cert.MergeFirstRefIdeal.main_arg2)
          ∧ r.2.mem ((c.tc : Thread Cert.MergeFirstRefIdeal.nD Cert.MergeFirstRefIdeal.τ).loc Cert.MergeFirstRefIdeal.main_arg3) = m' ((c.tc : Thread Cert.MergeFirstRefIdeal.nD Cert.MergeFirstRefIdeal.τ).loc Cert.MergeFirstRefIdeal.main_arg3)
          ∧ r.2.mem ((c.tc : Thread Cert.MergeFirstRefIdeal.nD Cert.MergeFirstRefIdeal.τ).loc Cert.MergeFirstRefIdeal.main_arg4) = m' ((c.tc : Thread Cert.MergeFirstRefIdeal.nD Cert.MergeFirstRefIdeal.τ).loc Cert.MergeFirstRefIdeal.main_arg4)
          ∧ r.2.mem ((c.tc : Thread Cert.MergeFirstRefIdeal.nD Cert.MergeFirstRefIdeal.τ).loc Cert.MergeFirstRefIdeal.main_arg5) = m' ((c.tc : Thread Cert.MergeFirstRefIdeal.nD Cert.MergeFirstRefIdeal.τ).loc Cert.MergeFirstRefIdeal.main_arg5)
          ∧ r.2.mem ((c.tc : Thread Cert.MergeFirstRefIdeal.nD Cert.MergeFirstRefIdeal.τ).loc Cert.MergeFirstRefIdeal.main_arg6) = m' ((c.tc : Thread Cert.MergeFirstRefIdeal.nD Cert.MergeFirstRefIdeal.τ).loc Cert.MergeFirstRefIdeal.main_arg6)
          ∧ r.2.mem ((c.tc : Thread Cert.MergeFirstRefIdeal.nD Cert.MergeFirstRefIdeal.τ).loc Cert.MergeFirstRefIdeal.main_arg7) = m' ((c.tc : Thread Cert.MergeFirstRefIdeal.nD Cert.MergeFirstRefIdeal.τ).loc Cert.MergeFirstRefIdeal.main_arg7)
          ∧ r.2.mem ((c.tc : Thread Cert.MergeFirstRefIdeal.nD Cert.MergeFirstRefIdeal.τ).loc Cert.MergeFirstRefIdeal.main_arg8) = m' ((c.tc : Thread Cert.MergeFirstRefIdeal.nD Cert.MergeFirstRefIdeal.τ).loc Cert.MergeFirstRefIdeal.main_arg8)
          ∧ r.2.mem ((c.tc : Thread Cert.MergeFirstRefIdeal.nD Cert.MergeFirstRefIdeal.τ).loc Cert.MergeFirstRefIdeal.main_arg9) = m' ((c.tc : Thread Cert.MergeFirstRefIdeal.nD Cert.MergeFirstRefIdeal.τ).loc Cert.MergeFirstRefIdeal.main_arg9)
          ∧ r.2.mem ((c.tc : Thread Cert.MergeFirstRefIdeal.nD Cert.MergeFirstRefIdeal.τ).loc Cert.MergeFirstRefIdeal.main_arg10) = m' ((c.tc : Thread Cert.MergeFirstRefIdeal.nD Cert.MergeFirstRefIdeal.τ).loc Cert.MergeFirstRefIdeal.main_arg10)
          ∧ r.2.mem ((c.tc : Thread Cert.MergeFirstRefIdeal.nD Cert.MergeFirstRefIdeal.τ).loc Cert.MergeFirstRefIdeal.main_arg11) = m' ((c.tc : Thread Cert.MergeFirstRefIdeal.nD Cert.MergeFirstRefIdeal.τ).loc Cert.MergeFirstRefIdeal.main_arg11))

def preserves_MergeCtx_MergeCtxIdeal : Prop :=
  True

def algebraic_MergeCtxIdeal_MergeCtxRefIdeal [hMergeCtxIdeal : Cert.MergeCtxIdeal.Facts] [hMergeCtxRefIdeal : Cert.MergeCtxRefIdeal.Facts] : Prop :=
  ∀ (m : (ℓ : Loc Cert.MergeCtxIdeal.nD Cert.MergeCtxIdeal.τ Cert.MergeCtxIdeal.sig) → Buf (Elt Ideal) ℓ) (g : Dev Cert.MergeCtxIdeal.nD → PrngReg)
    (m' : (ℓ : Loc Cert.MergeCtxRefIdeal.nD Cert.MergeCtxRefIdeal.τ Cert.MergeCtxRefIdeal.sig) → Buf (Elt Ideal) ℓ) (g' : Dev Cert.MergeCtxRefIdeal.nD → PrngReg), Pre_MergeCtxIdeal m →
    (∀ c : Dev Cert.MergeCtxIdeal.nD,
      m' ((c.tc : Thread Cert.MergeCtxRefIdeal.nD Cert.MergeCtxRefIdeal.τ).loc Cert.MergeCtxRefIdeal.main_arg0) = m ((c.tc : Thread Cert.MergeCtxIdeal.nD Cert.MergeCtxIdeal.τ).loc Cert.MergeCtxIdeal.main_arg0)
      ∧ m' ((c.tc : Thread Cert.MergeCtxRefIdeal.nD Cert.MergeCtxRefIdeal.τ).loc Cert.MergeCtxRefIdeal.main_arg1) = m ((c.tc : Thread Cert.MergeCtxIdeal.nD Cert.MergeCtxIdeal.τ).loc Cert.MergeCtxIdeal.main_arg1)
      ∧ m' ((c.tc : Thread Cert.MergeCtxRefIdeal.nD Cert.MergeCtxRefIdeal.τ).loc Cert.MergeCtxRefIdeal.main_arg2) = m ((c.tc : Thread Cert.MergeCtxIdeal.nD Cert.MergeCtxIdeal.τ).loc Cert.MergeCtxIdeal.main_arg2)
      ∧ m' ((c.tc : Thread Cert.MergeCtxRefIdeal.nD Cert.MergeCtxRefIdeal.τ).loc Cert.MergeCtxRefIdeal.main_arg3) = m ((c.tc : Thread Cert.MergeCtxIdeal.nD Cert.MergeCtxIdeal.τ).loc Cert.MergeCtxIdeal.main_arg3)
      ∧ m' ((c.tc : Thread Cert.MergeCtxRefIdeal.nD Cert.MergeCtxRefIdeal.τ).loc Cert.MergeCtxRefIdeal.main_arg4) = m ((c.tc : Thread Cert.MergeCtxIdeal.nD Cert.MergeCtxIdeal.τ).loc Cert.MergeCtxIdeal.main_arg4)
      ∧ m' ((c.tc : Thread Cert.MergeCtxRefIdeal.nD Cert.MergeCtxRefIdeal.τ).loc Cert.MergeCtxRefIdeal.main_arg5) = m ((c.tc : Thread Cert.MergeCtxIdeal.nD Cert.MergeCtxIdeal.τ).loc Cert.MergeCtxIdeal.main_arg5)
      ∧ m' ((c.tc : Thread Cert.MergeCtxRefIdeal.nD Cert.MergeCtxRefIdeal.τ).loc Cert.MergeCtxRefIdeal.main_arg6) = m ((c.tc : Thread Cert.MergeCtxIdeal.nD Cert.MergeCtxIdeal.τ).loc Cert.MergeCtxIdeal.main_arg6)
      ∧ m' ((c.tc : Thread Cert.MergeCtxRefIdeal.nD Cert.MergeCtxRefIdeal.τ).loc Cert.MergeCtxRefIdeal.main_arg7) = m ((c.tc : Thread Cert.MergeCtxIdeal.nD Cert.MergeCtxIdeal.τ).loc Cert.MergeCtxIdeal.main_arg7)
      ∧ m' ((c.tc : Thread Cert.MergeCtxRefIdeal.nD Cert.MergeCtxRefIdeal.τ).loc Cert.MergeCtxRefIdeal.main_arg8) = m ((c.tc : Thread Cert.MergeCtxIdeal.nD Cert.MergeCtxIdeal.τ).loc Cert.MergeCtxIdeal.main_arg8)
      ∧ m' ((c.tc : Thread Cert.MergeCtxRefIdeal.nD Cert.MergeCtxRefIdeal.τ).loc Cert.MergeCtxRefIdeal.main_arg9) = m ((c.tc : Thread Cert.MergeCtxIdeal.nD Cert.MergeCtxIdeal.τ).loc Cert.MergeCtxIdeal.main_arg9)
      ∧ m' ((c.tc : Thread Cert.MergeCtxRefIdeal.nD Cert.MergeCtxRefIdeal.τ).loc Cert.MergeCtxRefIdeal.main_arg10) = m ((c.tc : Thread Cert.MergeCtxIdeal.nD Cert.MergeCtxIdeal.τ).loc Cert.MergeCtxIdeal.main_arg10)
      ∧ m' ((c.tc : Thread Cert.MergeCtxRefIdeal.nD Cert.MergeCtxRefIdeal.τ).loc Cert.MergeCtxRefIdeal.main_arg11) = m ((c.tc : Thread Cert.MergeCtxIdeal.nD Cert.MergeCtxIdeal.τ).loc Cert.MergeCtxIdeal.main_arg11)) →
    ∃ (v0 : (c : Dev Cert.MergeCtxIdeal.nD) → Buf (Elt Ideal) ((c.tc : Thread Cert.MergeCtxIdeal.nD Cert.MergeCtxIdeal.τ).loc Cert.MergeCtxIdeal.main_v2)),
      θ_run (Cert.MergeCtxIdeal.defs (F := Ideal)) (onTc (τ := Cert.MergeCtxIdeal.τ) (Cert.MergeCtxIdeal.main (F := Ideal))) ⟨m, fun _ => 0, g⟩ (fun r => ∀ c : Dev Cert.MergeCtxIdeal.nD,
          r.2.mem ((c.tc : Thread Cert.MergeCtxIdeal.nD Cert.MergeCtxIdeal.τ).loc Cert.MergeCtxIdeal.main_v2) = v0 c
          ∧ r.2.mem ((c.tc : Thread Cert.MergeCtxIdeal.nD Cert.MergeCtxIdeal.τ).loc Cert.MergeCtxIdeal.main_arg0) = m ((c.tc : Thread Cert.MergeCtxIdeal.nD Cert.MergeCtxIdeal.τ).loc Cert.MergeCtxIdeal.main_arg0)
          ∧ r.2.mem ((c.tc : Thread Cert.MergeCtxIdeal.nD Cert.MergeCtxIdeal.τ).loc Cert.MergeCtxIdeal.main_arg1) = m ((c.tc : Thread Cert.MergeCtxIdeal.nD Cert.MergeCtxIdeal.τ).loc Cert.MergeCtxIdeal.main_arg1)
          ∧ r.2.mem ((c.tc : Thread Cert.MergeCtxIdeal.nD Cert.MergeCtxIdeal.τ).loc Cert.MergeCtxIdeal.main_arg2) = m ((c.tc : Thread Cert.MergeCtxIdeal.nD Cert.MergeCtxIdeal.τ).loc Cert.MergeCtxIdeal.main_arg2)
          ∧ r.2.mem ((c.tc : Thread Cert.MergeCtxIdeal.nD Cert.MergeCtxIdeal.τ).loc Cert.MergeCtxIdeal.main_arg3) = m ((c.tc : Thread Cert.MergeCtxIdeal.nD Cert.MergeCtxIdeal.τ).loc Cert.MergeCtxIdeal.main_arg3)
          ∧ r.2.mem ((c.tc : Thread Cert.MergeCtxIdeal.nD Cert.MergeCtxIdeal.τ).loc Cert.MergeCtxIdeal.main_arg4) = m ((c.tc : Thread Cert.MergeCtxIdeal.nD Cert.MergeCtxIdeal.τ).loc Cert.MergeCtxIdeal.main_arg4)
          ∧ r.2.mem ((c.tc : Thread Cert.MergeCtxIdeal.nD Cert.MergeCtxIdeal.τ).loc Cert.MergeCtxIdeal.main_arg5) = m ((c.tc : Thread Cert.MergeCtxIdeal.nD Cert.MergeCtxIdeal.τ).loc Cert.MergeCtxIdeal.main_arg5)
          ∧ r.2.mem ((c.tc : Thread Cert.MergeCtxIdeal.nD Cert.MergeCtxIdeal.τ).loc Cert.MergeCtxIdeal.main_arg6) = m ((c.tc : Thread Cert.MergeCtxIdeal.nD Cert.MergeCtxIdeal.τ).loc Cert.MergeCtxIdeal.main_arg6)
          ∧ r.2.mem ((c.tc : Thread Cert.MergeCtxIdeal.nD Cert.MergeCtxIdeal.τ).loc Cert.MergeCtxIdeal.main_arg7) = m ((c.tc : Thread Cert.MergeCtxIdeal.nD Cert.MergeCtxIdeal.τ).loc Cert.MergeCtxIdeal.main_arg7)
          ∧ r.2.mem ((c.tc : Thread Cert.MergeCtxIdeal.nD Cert.MergeCtxIdeal.τ).loc Cert.MergeCtxIdeal.main_arg8) = m ((c.tc : Thread Cert.MergeCtxIdeal.nD Cert.MergeCtxIdeal.τ).loc Cert.MergeCtxIdeal.main_arg8)
          ∧ r.2.mem ((c.tc : Thread Cert.MergeCtxIdeal.nD Cert.MergeCtxIdeal.τ).loc Cert.MergeCtxIdeal.main_arg9) = m ((c.tc : Thread Cert.MergeCtxIdeal.nD Cert.MergeCtxIdeal.τ).loc Cert.MergeCtxIdeal.main_arg9)
          ∧ r.2.mem ((c.tc : Thread Cert.MergeCtxIdeal.nD Cert.MergeCtxIdeal.τ).loc Cert.MergeCtxIdeal.main_arg10) = m ((c.tc : Thread Cert.MergeCtxIdeal.nD Cert.MergeCtxIdeal.τ).loc Cert.MergeCtxIdeal.main_arg10)
          ∧ r.2.mem ((c.tc : Thread Cert.MergeCtxIdeal.nD Cert.MergeCtxIdeal.τ).loc Cert.MergeCtxIdeal.main_arg11) = m ((c.tc : Thread Cert.MergeCtxIdeal.nD Cert.MergeCtxIdeal.τ).loc Cert.MergeCtxIdeal.main_arg11))
      ∧ θ_run (Cert.MergeCtxRefIdeal.defs (F := Ideal)) (onTc (τ := Cert.MergeCtxRefIdeal.τ) (Cert.MergeCtxRefIdeal.main (F := Ideal))) ⟨m', fun _ => 0, g'⟩ (fun r => ∀ c : Dev Cert.MergeCtxRefIdeal.nD,
          r.2.mem ((c.tc : Thread Cert.MergeCtxRefIdeal.nD Cert.MergeCtxRefIdeal.τ).loc Cert.MergeCtxRefIdeal.main_v59) = v0 c
          ∧ r.2.mem ((c.tc : Thread Cert.MergeCtxRefIdeal.nD Cert.MergeCtxRefIdeal.τ).loc Cert.MergeCtxRefIdeal.main_arg0) = m' ((c.tc : Thread Cert.MergeCtxRefIdeal.nD Cert.MergeCtxRefIdeal.τ).loc Cert.MergeCtxRefIdeal.main_arg0)
          ∧ r.2.mem ((c.tc : Thread Cert.MergeCtxRefIdeal.nD Cert.MergeCtxRefIdeal.τ).loc Cert.MergeCtxRefIdeal.main_arg1) = m' ((c.tc : Thread Cert.MergeCtxRefIdeal.nD Cert.MergeCtxRefIdeal.τ).loc Cert.MergeCtxRefIdeal.main_arg1)
          ∧ r.2.mem ((c.tc : Thread Cert.MergeCtxRefIdeal.nD Cert.MergeCtxRefIdeal.τ).loc Cert.MergeCtxRefIdeal.main_arg2) = m' ((c.tc : Thread Cert.MergeCtxRefIdeal.nD Cert.MergeCtxRefIdeal.τ).loc Cert.MergeCtxRefIdeal.main_arg2)
          ∧ r.2.mem ((c.tc : Thread Cert.MergeCtxRefIdeal.nD Cert.MergeCtxRefIdeal.τ).loc Cert.MergeCtxRefIdeal.main_arg3) = m' ((c.tc : Thread Cert.MergeCtxRefIdeal.nD Cert.MergeCtxRefIdeal.τ).loc Cert.MergeCtxRefIdeal.main_arg3)
          ∧ r.2.mem ((c.tc : Thread Cert.MergeCtxRefIdeal.nD Cert.MergeCtxRefIdeal.τ).loc Cert.MergeCtxRefIdeal.main_arg4) = m' ((c.tc : Thread Cert.MergeCtxRefIdeal.nD Cert.MergeCtxRefIdeal.τ).loc Cert.MergeCtxRefIdeal.main_arg4)
          ∧ r.2.mem ((c.tc : Thread Cert.MergeCtxRefIdeal.nD Cert.MergeCtxRefIdeal.τ).loc Cert.MergeCtxRefIdeal.main_arg5) = m' ((c.tc : Thread Cert.MergeCtxRefIdeal.nD Cert.MergeCtxRefIdeal.τ).loc Cert.MergeCtxRefIdeal.main_arg5)
          ∧ r.2.mem ((c.tc : Thread Cert.MergeCtxRefIdeal.nD Cert.MergeCtxRefIdeal.τ).loc Cert.MergeCtxRefIdeal.main_arg6) = m' ((c.tc : Thread Cert.MergeCtxRefIdeal.nD Cert.MergeCtxRefIdeal.τ).loc Cert.MergeCtxRefIdeal.main_arg6)
          ∧ r.2.mem ((c.tc : Thread Cert.MergeCtxRefIdeal.nD Cert.MergeCtxRefIdeal.τ).loc Cert.MergeCtxRefIdeal.main_arg7) = m' ((c.tc : Thread Cert.MergeCtxRefIdeal.nD Cert.MergeCtxRefIdeal.τ).loc Cert.MergeCtxRefIdeal.main_arg7)
          ∧ r.2.mem ((c.tc : Thread Cert.MergeCtxRefIdeal.nD Cert.MergeCtxRefIdeal.τ).loc Cert.MergeCtxRefIdeal.main_arg8) = m' ((c.tc : Thread Cert.MergeCtxRefIdeal.nD Cert.MergeCtxRefIdeal.τ).loc Cert.MergeCtxRefIdeal.main_arg8)
          ∧ r.2.mem ((c.tc : Thread Cert.MergeCtxRefIdeal.nD Cert.MergeCtxRefIdeal.τ).loc Cert.MergeCtxRefIdeal.main_arg9) = m' ((c.tc : Thread Cert.MergeCtxRefIdeal.nD Cert.MergeCtxRefIdeal.τ).loc Cert.MergeCtxRefIdeal.main_arg9)
          ∧ r.2.mem ((c.tc : Thread Cert.MergeCtxRefIdeal.nD Cert.MergeCtxRefIdeal.τ).loc Cert.MergeCtxRefIdeal.main_arg10) = m' ((c.tc : Thread Cert.MergeCtxRefIdeal.nD Cert.MergeCtxRefIdeal.τ).loc Cert.MergeCtxRefIdeal.main_arg10)
          ∧ r.2.mem ((c.tc : Thread Cert.MergeCtxRefIdeal.nD Cert.MergeCtxRefIdeal.τ).loc Cert.MergeCtxRefIdeal.main_arg11) = m' ((c.tc : Thread Cert.MergeCtxRefIdeal.nD Cert.MergeCtxRefIdeal.τ).loc Cert.MergeCtxRefIdeal.main_arg11))

def preserves_InProjCtx_InProjCtxIdeal : Prop :=
  True

def algebraic_InProjCtxIdeal_InProjCtxRefIdeal [hInProjCtxIdeal : Cert.InProjCtxIdeal.Facts] [hInProjCtxRefIdeal : Cert.InProjCtxRefIdeal.Facts] : Prop :=
  ∀ (m : (ℓ : Loc Cert.InProjCtxIdeal.nD Cert.InProjCtxIdeal.τ Cert.InProjCtxIdeal.sig) → Buf (Elt Ideal) ℓ) (g : Dev Cert.InProjCtxIdeal.nD → PrngReg)
    (m' : (ℓ : Loc Cert.InProjCtxRefIdeal.nD Cert.InProjCtxRefIdeal.τ Cert.InProjCtxRefIdeal.sig) → Buf (Elt Ideal) ℓ) (g' : Dev Cert.InProjCtxRefIdeal.nD → PrngReg), Pre_InProjCtxIdeal m →
    (∀ c : Dev Cert.InProjCtxIdeal.nD,
      m' ((c.tc : Thread Cert.InProjCtxRefIdeal.nD Cert.InProjCtxRefIdeal.τ).loc Cert.InProjCtxRefIdeal.main_arg0) = m ((c.tc : Thread Cert.InProjCtxIdeal.nD Cert.InProjCtxIdeal.τ).loc Cert.InProjCtxIdeal.main_arg0)
      ∧ m' ((c.tc : Thread Cert.InProjCtxRefIdeal.nD Cert.InProjCtxRefIdeal.τ).loc Cert.InProjCtxRefIdeal.main_arg1) = m ((c.tc : Thread Cert.InProjCtxIdeal.nD Cert.InProjCtxIdeal.τ).loc Cert.InProjCtxIdeal.main_arg1)
      ∧ m' ((c.tc : Thread Cert.InProjCtxRefIdeal.nD Cert.InProjCtxRefIdeal.τ).loc Cert.InProjCtxRefIdeal.main_arg2) = m ((c.tc : Thread Cert.InProjCtxIdeal.nD Cert.InProjCtxIdeal.τ).loc Cert.InProjCtxIdeal.main_arg2)
      ∧ m' ((c.tc : Thread Cert.InProjCtxRefIdeal.nD Cert.InProjCtxRefIdeal.τ).loc Cert.InProjCtxRefIdeal.main_arg3) = m ((c.tc : Thread Cert.InProjCtxIdeal.nD Cert.InProjCtxIdeal.τ).loc Cert.InProjCtxIdeal.main_arg3)) →
    ∃ (v0 : (c : Dev Cert.InProjCtxIdeal.nD) → Buf (Elt Ideal) ((c.tc : Thread Cert.InProjCtxIdeal.nD Cert.InProjCtxIdeal.τ).loc Cert.InProjCtxIdeal.main_v5_0)) (v1 : (c : Dev Cert.InProjCtxIdeal.nD) → Buf (Elt Ideal) ((c.tc : Thread Cert.InProjCtxIdeal.nD Cert.InProjCtxIdeal.τ).loc Cert.InProjCtxIdeal.main_v5_1)) (v2 : (c : Dev Cert.InProjCtxIdeal.nD) → Buf (Elt Ideal) ((c.tc : Thread Cert.InProjCtxIdeal.nD Cert.InProjCtxIdeal.τ).loc Cert.InProjCtxIdeal.main_v5_2)) (v3 : (c : Dev Cert.InProjCtxIdeal.nD) → Buf (Elt Ideal) ((c.tc : Thread Cert.InProjCtxIdeal.nD Cert.InProjCtxIdeal.τ).loc Cert.InProjCtxIdeal.main_v5_3)) (v4 : (c : Dev Cert.InProjCtxIdeal.nD) → Buf (Elt Ideal) ((c.tc : Thread Cert.InProjCtxIdeal.nD Cert.InProjCtxIdeal.τ).loc Cert.InProjCtxIdeal.main_v5_4)) (v5 : (c : Dev Cert.InProjCtxIdeal.nD) → Buf (Elt Ideal) ((c.tc : Thread Cert.InProjCtxIdeal.nD Cert.InProjCtxIdeal.τ).loc Cert.InProjCtxIdeal.main_v5_5)) (v6 : (c : Dev Cert.InProjCtxIdeal.nD) → Buf (Elt Ideal) ((c.tc : Thread Cert.InProjCtxIdeal.nD Cert.InProjCtxIdeal.τ).loc Cert.InProjCtxIdeal.main_v5_6)),
      θ_run (Cert.InProjCtxIdeal.defs (F := Ideal)) (onTc (τ := Cert.InProjCtxIdeal.τ) (Cert.InProjCtxIdeal.main (F := Ideal))) ⟨m, fun _ => 0, g⟩ (fun r => ∀ c : Dev Cert.InProjCtxIdeal.nD,
          r.2.mem ((c.tc : Thread Cert.InProjCtxIdeal.nD Cert.InProjCtxIdeal.τ).loc Cert.InProjCtxIdeal.main_v5_0) = v0 c
          ∧ r.2.mem ((c.tc : Thread Cert.InProjCtxIdeal.nD Cert.InProjCtxIdeal.τ).loc Cert.InProjCtxIdeal.main_v5_1) = v1 c
          ∧ r.2.mem ((c.tc : Thread Cert.InProjCtxIdeal.nD Cert.InProjCtxIdeal.τ).loc Cert.InProjCtxIdeal.main_v5_2) = v2 c
          ∧ r.2.mem ((c.tc : Thread Cert.InProjCtxIdeal.nD Cert.InProjCtxIdeal.τ).loc Cert.InProjCtxIdeal.main_v5_3) = v3 c
          ∧ r.2.mem ((c.tc : Thread Cert.InProjCtxIdeal.nD Cert.InProjCtxIdeal.τ).loc Cert.InProjCtxIdeal.main_v5_4) = v4 c
          ∧ r.2.mem ((c.tc : Thread Cert.InProjCtxIdeal.nD Cert.InProjCtxIdeal.τ).loc Cert.InProjCtxIdeal.main_v5_5) = v5 c
          ∧ r.2.mem ((c.tc : Thread Cert.InProjCtxIdeal.nD Cert.InProjCtxIdeal.τ).loc Cert.InProjCtxIdeal.main_v5_6) = v6 c
          ∧ r.2.mem ((c.tc : Thread Cert.InProjCtxIdeal.nD Cert.InProjCtxIdeal.τ).loc Cert.InProjCtxIdeal.main_arg0) = m ((c.tc : Thread Cert.InProjCtxIdeal.nD Cert.InProjCtxIdeal.τ).loc Cert.InProjCtxIdeal.main_arg0)
          ∧ r.2.mem ((c.tc : Thread Cert.InProjCtxIdeal.nD Cert.InProjCtxIdeal.τ).loc Cert.InProjCtxIdeal.main_arg1) = m ((c.tc : Thread Cert.InProjCtxIdeal.nD Cert.InProjCtxIdeal.τ).loc Cert.InProjCtxIdeal.main_arg1)
          ∧ r.2.mem ((c.tc : Thread Cert.InProjCtxIdeal.nD Cert.InProjCtxIdeal.τ).loc Cert.InProjCtxIdeal.main_arg2) = m ((c.tc : Thread Cert.InProjCtxIdeal.nD Cert.InProjCtxIdeal.τ).loc Cert.InProjCtxIdeal.main_arg2)
          ∧ r.2.mem ((c.tc : Thread Cert.InProjCtxIdeal.nD Cert.InProjCtxIdeal.τ).loc Cert.InProjCtxIdeal.main_arg3) = m ((c.tc : Thread Cert.InProjCtxIdeal.nD Cert.InProjCtxIdeal.τ).loc Cert.InProjCtxIdeal.main_arg3))
      ∧ θ_run (Cert.InProjCtxRefIdeal.defs (F := Ideal)) (onTc (τ := Cert.InProjCtxRefIdeal.τ) (Cert.InProjCtxRefIdeal.main (F := Ideal))) ⟨m', fun _ => 0, g'⟩ (fun r => ∀ c : Dev Cert.InProjCtxRefIdeal.nD,
          r.2.mem ((c.tc : Thread Cert.InProjCtxRefIdeal.nD Cert.InProjCtxRefIdeal.τ).loc Cert.InProjCtxRefIdeal.main_v38) = v0 c
          ∧ r.2.mem ((c.tc : Thread Cert.InProjCtxRefIdeal.nD Cert.InProjCtxRefIdeal.τ).loc Cert.InProjCtxRefIdeal.main_v39) = v1 c
          ∧ r.2.mem ((c.tc : Thread Cert.InProjCtxRefIdeal.nD Cert.InProjCtxRefIdeal.τ).loc Cert.InProjCtxRefIdeal.main_v40) = v2 c
          ∧ r.2.mem ((c.tc : Thread Cert.InProjCtxRefIdeal.nD Cert.InProjCtxRefIdeal.τ).loc Cert.InProjCtxRefIdeal.main_v42) = v3 c
          ∧ r.2.mem ((c.tc : Thread Cert.InProjCtxRefIdeal.nD Cert.InProjCtxRefIdeal.τ).loc Cert.InProjCtxRefIdeal.main_v43) = v4 c
          ∧ r.2.mem ((c.tc : Thread Cert.InProjCtxRefIdeal.nD Cert.InProjCtxRefIdeal.τ).loc Cert.InProjCtxRefIdeal.main_v45) = v5 c
          ∧ r.2.mem ((c.tc : Thread Cert.InProjCtxRefIdeal.nD Cert.InProjCtxRefIdeal.τ).loc Cert.InProjCtxRefIdeal.main_v52) = v6 c
          ∧ r.2.mem ((c.tc : Thread Cert.InProjCtxRefIdeal.nD Cert.InProjCtxRefIdeal.τ).loc Cert.InProjCtxRefIdeal.main_arg0) = m' ((c.tc : Thread Cert.InProjCtxRefIdeal.nD Cert.InProjCtxRefIdeal.τ).loc Cert.InProjCtxRefIdeal.main_arg0)
          ∧ r.2.mem ((c.tc : Thread Cert.InProjCtxRefIdeal.nD Cert.InProjCtxRefIdeal.τ).loc Cert.InProjCtxRefIdeal.main_arg1) = m' ((c.tc : Thread Cert.InProjCtxRefIdeal.nD Cert.InProjCtxRefIdeal.τ).loc Cert.InProjCtxRefIdeal.main_arg1)
          ∧ r.2.mem ((c.tc : Thread Cert.InProjCtxRefIdeal.nD Cert.InProjCtxRefIdeal.τ).loc Cert.InProjCtxRefIdeal.main_arg2) = m' ((c.tc : Thread Cert.InProjCtxRefIdeal.nD Cert.InProjCtxRefIdeal.τ).loc Cert.InProjCtxRefIdeal.main_arg2)
          ∧ r.2.mem ((c.tc : Thread Cert.InProjCtxRefIdeal.nD Cert.InProjCtxRefIdeal.τ).loc Cert.InProjCtxRefIdeal.main_arg3) = m' ((c.tc : Thread Cert.InProjCtxRefIdeal.nD Cert.InProjCtxRefIdeal.τ).loc Cert.InProjCtxRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v24) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_ConvCtx_ConvCtxIdeal : Prop :=
  True

def algebraic_ConvCtxIdeal_ConvCtxRefIdeal [hConvCtxIdeal : Cert.ConvCtxIdeal.Facts] [hConvCtxRefIdeal : Cert.ConvCtxRefIdeal.Facts] : Prop :=
  ∀ (m : (ℓ : Loc Cert.ConvCtxIdeal.nD Cert.ConvCtxIdeal.τ Cert.ConvCtxIdeal.sig) → Buf (Elt Ideal) ℓ) (g : Dev Cert.ConvCtxIdeal.nD → PrngReg)
    (m' : (ℓ : Loc Cert.ConvCtxRefIdeal.nD Cert.ConvCtxRefIdeal.τ Cert.ConvCtxRefIdeal.sig) → Buf (Elt Ideal) ℓ) (g' : Dev Cert.ConvCtxRefIdeal.nD → PrngReg), Pre_ConvCtxIdeal m →
    (∀ c : Dev Cert.ConvCtxIdeal.nD,
      m' ((c.tc : Thread Cert.ConvCtxRefIdeal.nD Cert.ConvCtxRefIdeal.τ).loc Cert.ConvCtxRefIdeal.main_arg0) = m ((c.tc : Thread Cert.ConvCtxIdeal.nD Cert.ConvCtxIdeal.τ).loc Cert.ConvCtxIdeal.main_arg0)
      ∧ m' ((c.tc : Thread Cert.ConvCtxRefIdeal.nD Cert.ConvCtxRefIdeal.τ).loc Cert.ConvCtxRefIdeal.main_arg1) = m ((c.tc : Thread Cert.ConvCtxIdeal.nD Cert.ConvCtxIdeal.τ).loc Cert.ConvCtxIdeal.main_arg1)
      ∧ m' ((c.tc : Thread Cert.ConvCtxRefIdeal.nD Cert.ConvCtxRefIdeal.τ).loc Cert.ConvCtxRefIdeal.main_arg2) = m ((c.tc : Thread Cert.ConvCtxIdeal.nD Cert.ConvCtxIdeal.τ).loc Cert.ConvCtxIdeal.main_arg2)) →
    ∃ (v0 : (c : Dev Cert.ConvCtxIdeal.nD) → Buf (Elt Ideal) ((c.tc : Thread Cert.ConvCtxIdeal.nD Cert.ConvCtxIdeal.τ).loc Cert.ConvCtxIdeal.main_v0)),
      θ_run (Cert.ConvCtxIdeal.defs (F := Ideal)) (onTc (τ := Cert.ConvCtxIdeal.τ) (Cert.ConvCtxIdeal.main (F := Ideal))) ⟨m, fun _ => 0, g⟩ (fun r => ∀ c : Dev Cert.ConvCtxIdeal.nD,
          r.2.mem ((c.tc : Thread Cert.ConvCtxIdeal.nD Cert.ConvCtxIdeal.τ).loc Cert.ConvCtxIdeal.main_v0) = v0 c
          ∧ r.2.mem ((c.tc : Thread Cert.ConvCtxIdeal.nD Cert.ConvCtxIdeal.τ).loc Cert.ConvCtxIdeal.main_arg0) = m ((c.tc : Thread Cert.ConvCtxIdeal.nD Cert.ConvCtxIdeal.τ).loc Cert.ConvCtxIdeal.main_arg0)
          ∧ r.2.mem ((c.tc : Thread Cert.ConvCtxIdeal.nD Cert.ConvCtxIdeal.τ).loc Cert.ConvCtxIdeal.main_arg1) = m ((c.tc : Thread Cert.ConvCtxIdeal.nD Cert.ConvCtxIdeal.τ).loc Cert.ConvCtxIdeal.main_arg1)
          ∧ r.2.mem ((c.tc : Thread Cert.ConvCtxIdeal.nD Cert.ConvCtxIdeal.τ).loc Cert.ConvCtxIdeal.main_arg2) = m ((c.tc : Thread Cert.ConvCtxIdeal.nD Cert.ConvCtxIdeal.τ).loc Cert.ConvCtxIdeal.main_arg2))
      ∧ θ_run (Cert.ConvCtxRefIdeal.defs (F := Ideal)) (onTc (τ := Cert.ConvCtxRefIdeal.τ) (Cert.ConvCtxRefIdeal.main (F := Ideal))) ⟨m', fun _ => 0, g'⟩ (fun r => ∀ c : Dev Cert.ConvCtxRefIdeal.nD,
          r.2.mem ((c.tc : Thread Cert.ConvCtxRefIdeal.nD Cert.ConvCtxRefIdeal.τ).loc Cert.ConvCtxRefIdeal.main_v24) = v0 c
          ∧ r.2.mem ((c.tc : Thread Cert.ConvCtxRefIdeal.nD Cert.ConvCtxRefIdeal.τ).loc Cert.ConvCtxRefIdeal.main_arg0) = m' ((c.tc : Thread Cert.ConvCtxRefIdeal.nD Cert.ConvCtxRefIdeal.τ).loc Cert.ConvCtxRefIdeal.main_arg0)
          ∧ r.2.mem ((c.tc : Thread Cert.ConvCtxRefIdeal.nD Cert.ConvCtxRefIdeal.τ).loc Cert.ConvCtxRefIdeal.main_arg1) = m' ((c.tc : Thread Cert.ConvCtxRefIdeal.nD Cert.ConvCtxRefIdeal.τ).loc Cert.ConvCtxRefIdeal.main_arg1)
          ∧ r.2.mem ((c.tc : Thread Cert.ConvCtxRefIdeal.nD Cert.ConvCtxRefIdeal.τ).loc Cert.ConvCtxRefIdeal.main_arg2) = m' ((c.tc : Thread Cert.ConvCtxRefIdeal.nD Cert.ConvCtxRefIdeal.τ).loc Cert.ConvCtxRefIdeal.main_arg2))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v20) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hMergeFirst : Cert.MergeFirst.Facts) (hMergeFirstIdeal : Cert.MergeFirstIdeal.Facts) (hMergeFirstRefIdeal : Cert.MergeFirstRefIdeal.Facts) (hMergeCtx : Cert.MergeCtx.Facts) (hMergeCtxIdeal : Cert.MergeCtxIdeal.Facts) (hMergeCtxRefIdeal : Cert.MergeCtxRefIdeal.Facts) (hInProjCtx : Cert.InProjCtx.Facts) (hInProjCtxIdeal : Cert.InProjCtxIdeal.Facts) (hInProjCtxRefIdeal : Cert.InProjCtxRefIdeal.Facts) (hConv : Cert.Conv.Facts) (hConvIdeal : Cert.ConvIdeal.Facts) (hConvRefIdeal : Cert.ConvRefIdeal.Facts) (hConvCtx : Cert.ConvCtx.Facts) (hConvCtxIdeal : Cert.ConvCtxIdeal.Facts) (hConvCtxRefIdeal : Cert.ConvCtxRefIdeal.Facts) (hMod : Cert.Mod.Facts) (hModIdeal : Cert.ModIdeal.Facts) (hModRefIdeal : Cert.ModRefIdeal.Facts),
    quiescent_Kernel (hKernel := hKernel)
    ∧ quiescent_KernelIdeal (hKernelIdeal := hKernelIdeal)
    ∧ quiescent_ReferenceIdeal (hReferenceIdeal := hReferenceIdeal)
    ∧ quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjRefIdeal (hInProjRefIdeal := hInProjRefIdeal)
    ∧ quiescent_MergeFirst (hMergeFirst := hMergeFirst)
    ∧ quiescent_MergeFirstIdeal (hMergeFirstIdeal := hMergeFirstIdeal)
    ∧ quiescent_MergeFirstRefIdeal (hMergeFirstRefIdeal := hMergeFirstRefIdeal)
    ∧ quiescent_MergeCtx (hMergeCtx := hMergeCtx)
    ∧ quiescent_MergeCtxIdeal (hMergeCtxIdeal := hMergeCtxIdeal)
    ∧ quiescent_MergeCtxRefIdeal (hMergeCtxRefIdeal := hMergeCtxRefIdeal)
    ∧ quiescent_InProjCtx (hInProjCtx := hInProjCtx)
    ∧ quiescent_InProjCtxIdeal (hInProjCtxIdeal := hInProjCtxIdeal)
    ∧ quiescent_InProjCtxRefIdeal (hInProjCtxRefIdeal := hInProjCtxRefIdeal)
    ∧ quiescent_Conv (hConv := hConv)
    ∧ quiescent_ConvIdeal (hConvIdeal := hConvIdeal)
    ∧ quiescent_ConvRefIdeal (hConvRefIdeal := hConvRefIdeal)
    ∧ quiescent_ConvCtx (hConvCtx := hConvCtx)
    ∧ quiescent_ConvCtxIdeal (hConvCtxIdeal := hConvCtxIdeal)
    ∧ quiescent_ConvCtxRefIdeal (hConvCtxRefIdeal := hConvCtxRefIdeal)
    ∧ quiescent_Mod (hMod := hMod)
    ∧ quiescent_ModIdeal (hModIdeal := hModIdeal)
    ∧ quiescent_ModRefIdeal (hModRefIdeal := hModRefIdeal)
    ∧ preserves_Kernel_KernelIdeal
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal (hInProjIdeal := hInProjIdeal) (hInProjRefIdeal := hInProjRefIdeal)
    ∧ preserves_MergeFirst_MergeFirstIdeal
    ∧ algebraic_MergeFirstIdeal_MergeFirstRefIdeal (hMergeFirstIdeal := hMergeFirstIdeal) (hMergeFirstRefIdeal := hMergeFirstRefIdeal)
    ∧ preserves_MergeCtx_MergeCtxIdeal
    ∧ algebraic_MergeCtxIdeal_MergeCtxRefIdeal (hMergeCtxIdeal := hMergeCtxIdeal) (hMergeCtxRefIdeal := hMergeCtxRefIdeal)
    ∧ preserves_InProjCtx_InProjCtxIdeal
    ∧ algebraic_InProjCtxIdeal_InProjCtxRefIdeal (hInProjCtxIdeal := hInProjCtxIdeal) (hInProjCtxRefIdeal := hInProjCtxRefIdeal)
    ∧ preserves_Conv_ConvIdeal
    ∧ algebraic_ConvIdeal_ConvRefIdeal (hConvIdeal := hConvIdeal) (hConvRefIdeal := hConvRefIdeal)
    ∧ preserves_ConvCtx_ConvCtxIdeal
    ∧ algebraic_ConvCtxIdeal_ConvCtxRefIdeal (hConvCtxIdeal := hConvCtxIdeal) (hConvCtxRefIdeal := hConvCtxRefIdeal)
    ∧ preserves_Mod_ModIdeal
    ∧ algebraic_ModIdeal_ModRefIdeal (hModIdeal := hModIdeal) (hModRefIdeal := hModRefIdeal)
-- ==== Kernel.lean ====
abbrev S2x8 : Shape := ⟨2, ![2, 8]⟩
abbrev S32x2048x1024 : Shape := ⟨3, ![32, 2048, 1024]⟩
abbrev S32x2048x2048 : Shape := ⟨3, ![32, 2048, 2048]⟩
abbrev S32x8x256x256 : Shape := ⟨4, ![32, 8, 256, 256]⟩
abbrev S2x8x1x1 : Shape := ⟨4, ![2, 8, 1, 1]⟩
abbrev S2x8x8x256 : Shape := ⟨4, ![2, 8, 8, 256]⟩
abbrev S2x1x8x256 : Shape := ⟨4, ![2, 1, 8, 256]⟩
abbrev S1x2048x128 : Shape := ⟨3, ![1, 2048, 128]⟩
abbrev S1x2048x256 : Shape := ⟨3, ![1, 2048, 256]⟩
abbrev S1x1x256x256 : Shape := ⟨4, ![1, 1, 256, 256]⟩
abbrev S8x256x256 : Shape := ⟨3, ![8, 256, 256]⟩
abbrev S1x1x1x256 : Shape := ⟨4, ![1, 1, 1, 256]⟩
abbrev S1x256 : Shape := ⟨2, ![1, 256]⟩
abbrev S256x256 : Shape := ⟨2, ![256, 256]⟩
abbrev S256x128 : Shape := ⟨2, ![256, 128]⟩
abbrev S1x128 : Shape := ⟨2, ![1, 128]⟩
abbrev S1x256x128 : Shape := ⟨3, ![1, 256, 128]⟩
abbrev S1x256x256 : Shape := ⟨3, ![1, 256, 256]⟩
abbrev S1x1x128x256 : Shape := ⟨4, ![1, 1, 128, 256]⟩
abbrev S128x256 : Shape := ⟨2, ![128, 256]⟩
abbrev S1x128x256 : Shape := ⟨3, ![1, 128, 256]⟩
abbrev S256 : Shape := ⟨1, ![256]⟩
abbrev S256x1 : Shape := ⟨2, ![256, 1]⟩

abbrev nBuf : Space → Nat
  | .hbm => 10
  | .vmem => 18
  | .smem => 0
  | _ => 0

abbrev bufTy : (tb : Table) → Fin (tcTables nBuf tb) → BufTy
  | .hbm, ⟨0, _⟩ => ⟨S2x8, .f32⟩
  | .hbm, ⟨1, _⟩ => ⟨S32x2048x1024, .bf16⟩
  | .hbm, ⟨2, _⟩ => ⟨S32x2048x1024, .bf16⟩
  | .hbm, ⟨3, _⟩ => ⟨S32x2048x2048, .bf16⟩
  | .hbm, ⟨4, _⟩ => ⟨S32x2048x2048, .bf16⟩
  | .hbm, ⟨5, _⟩ => ⟨S32x8x256x256, .f32⟩
  | .hbm, ⟨6, _⟩ => ⟨S2x8x1x1, .f32⟩
  | .hbm, ⟨7, _⟩ => ⟨S2x8x8x256, .f32⟩
  | .hbm, ⟨8, _⟩ => ⟨S32x2048x2048, .bf16⟩
  | .hbm, ⟨9, _⟩ => ⟨S32x8x256x256, .f32⟩
  | .local _ .vmem, ⟨0, _⟩ => ⟨S2x1x8x256, .f32⟩
  | .local _ .vmem, ⟨1, _⟩ => ⟨S2x1x8x256, .f32⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x1x256x256, .f32⟩
  | .local _ .vmem, ⟨11, _⟩ => ⟨S1x1x256x256, .f32⟩
  | .local _ .vmem, ⟨12, _⟩ => ⟨S1x2048x256, .bf16⟩
  | .local _ .vmem, ⟨13, _⟩ => ⟨S1x2048x256, .bf16⟩
  | .local _ .vmem, ⟨14, _⟩ => ⟨S1x1x256x256, .f32⟩
  | .local _ .vmem, ⟨15, _⟩ => ⟨S1x1x256x256, .f32⟩
  | .local _ .vmem, ⟨16, _⟩ => ⟨S8x256x256, .f32⟩
  | .local _ .vmem, ⟨17, _⟩ => ⟨S8x256x256, .bf16⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 8], ![false, false]⟩

@[reducible] def k0_t1_loop : Scf.Loop 32 :=
  let c0_i32 : BitVec 32 := 0#32
  let c8_i32 : BitVec 32 := 8#32
  let v74 : BitVec 32 := Scalar.addi c0_i32 c8_i32
  let c1_i32 : BitVec 32 := 1#32
  ⟨c0_i32, v74, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32 : BitVec 32 := 256#32
  let v90 : BitVec 32 := Scalar.muli arg12 c256_i32
  v90
def k0_off1 (k0_t1 : Fin k0_t1_loop.trips) : Fin 3 → Nat :=
  let c0_49 : Index := 0#32
  let c0_i32 : BitVec 32 := 0#32
  let c1_i32 : BitVec 32 := 1#32
  let arg12 : BitVec 32 := Scf.iv c0_i32 c1_i32 k0_t1
  let c256_i32 : BitVec 32 := 256#32
  let v90 : BitVec 32 := Scalar.muli arg12 c256_i32
  let v91 : BitVec 32 := v90
  let v92 : Index := Scalar.indexCast v91
  let c0_50 : Index := 0#32
  ![0, v92.toNat, 0]
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_51 : BitVec 32 := 256#32
  let v100 : BitVec 32 := Scalar.muli arg12 c256_i32_51
  v100
def k0_off2 (k0_t1 : Fin k0_t1_loop.trips) : Fin 3 → Nat :=
  let c0_52 : Index := 0#32
  let c0_i32 : BitVec 32 := 0#32
  let c1_i32 : BitVec 32 := 1#32
  let arg12 : BitVec 32 := Scf.iv c0_i32 c1_i32 k0_t1
  let c256_i32_51 : BitVec 32 := 256#32
  let v100 : BitVec 32 := Scalar.muli arg12 c256_i32_51
  let v101 : BitVec 32 := v100
  let v102 : Index := Scalar.indexCast v101
  let c0_53 : Index := 0#32
  ![0, v102.toNat, 0]
def k0_off3 (k0_t1 : Fin k0_t1_loop.trips) : Fin 3 → Nat :=
  let c0_i32 : BitVec 32 := 0#32
  let c1_i32 : BitVec 32 := 1#32
  let arg12 : BitVec 32 := Scf.iv c0_i32 c1_i32 k0_t1
  let v106 : Index := Scalar.indexCast arg12
  let c0_55 : Index := 0#32
  let c0_56 : Index := 0#32
  ![v106.toNat, 0, 0]
@[reducible] def k0_t2_loop : Scf.Loop 32 :=
  let c0_i32_26 : BitVec 32 := 0#32
  let c8_i32_27 : BitVec 32 := 8#32
  let v77 : BitVec 32 := Scalar.addi c0_i32_26 c8_i32_27
  let c1_i32_28 : BitVec 32 := 1#32
  ⟨c0_i32_26, v77, c1_i32_28⟩
def k0_off4 (k0_t2 : Fin k0_t2_loop.trips) : Fin 3 → Nat :=
  let c0_i32_26 : BitVec 32 := 0#32
  let c1_i32_28 : BitVec 32 := 1#32
  let arg12 : BitVec 32 := Scf.iv c0_i32_26 c1_i32_28 k0_t2
  let v91 : Index := Scalar.indexCast arg12
  let c0_49 : Index := 0#32
  let c0_50 : Index := 0#32
  ![v91.toNat, 0, 0]
@[reducible] def k0_t3_loop : Scf.Loop 32 :=
  let c0_i32_33 : BitVec 32 := 0#32
  let c8_i32_34 : BitVec 32 := 8#32
  let v81 : BitVec 32 := Scalar.addi c0_i32_33 c8_i32_34
  let c1_i32_35 : BitVec 32 := 1#32
  ⟨c0_i32_33, v81, c1_i32_35⟩
def k0_off5 (k0_t3 : Fin k0_t3_loop.trips) : Fin 3 → Nat :=
  let c7_i32 : BitVec 32 := 7#32
  let c0_i32_33 : BitVec 32 := 0#32
  let c1_i32_35 : BitVec 32 := 1#32
  let arg12 : BitVec 32 := Scf.iv c0_i32_33 c1_i32_35 k0_t3
  let v90 : BitVec 32 := Scalar.subi c7_i32 arg12
  let v92 : Index := Scalar.indexCast v90
  let c128_49 : Index := 128#32
  let c0_50 : Index := 0#32
  ![v92.toNat, 128, 0]
@[reducible] def k0_t4_loop : Scf.Loop 32 :=
  let c0_i32_45 : BitVec 32 := 0#32
  let c8_i32_46 : BitVec 32 := 8#32
  let v89 : BitVec 32 := Scalar.addi c0_i32_45 c8_i32_46
  let c1_i32_47 : BitVec 32 := 1#32
  ⟨c0_i32_45, v89, c1_i32_47⟩
def k0_mult3 (k0_t4 : Fin k0_t4_loop.trips) : BitVec 32 :=
  let c0_i32_45 : BitVec 32 := 0#32
  let c1_i32_47 : BitVec 32 := 1#32
  let arg12 : BitVec 32 := Scf.iv c0_i32_45 c1_i32_47 k0_t4
  let c256_i32 : BitVec 32 := 256#32
  let v90 : BitVec 32 := Scalar.muli arg12 c256_i32
  v90
def k0_off6 (k0_t4 : Fin k0_t4_loop.trips) : Fin 3 → Nat :=
  let c0_49 : Index := 0#32
  let c0_i32_45 : BitVec 32 := 0#32
  let c1_i32_47 : BitVec 32 := 1#32
  let arg12 : BitVec 32 := Scf.iv c0_i32_45 c1_i32_47 k0_t4
  let c256_i32 : BitVec 32 := 256#32
  let v90 : BitVec 32 := Scalar.muli arg12 c256_i32
  let v91 : BitVec 32 := v90
  let v92 : Index := Scalar.indexCast v91
  let c0_50 : Index := 0#32
  ![0, v92.toNat, 0]
def k0_mult4 (k0_t4 : Fin k0_t4_loop.trips) : BitVec 32 :=
  let c0_i32_45 : BitVec 32 := 0#32
  let c1_i32_47 : BitVec 32 := 1#32
  let arg12 : BitVec 32 := Scf.iv c0_i32_45 c1_i32_47 k0_t4
  let c256_i32_51 : BitVec 32 := 256#32
  let v95 : BitVec 32 := Scalar.muli arg12 c256_i32_51
  v95
def k0_mult5 (k0_t4 : Fin k0_t4_loop.trips) : BitVec 32 :=
  let c0_i32_45 : BitVec 32 := 0#32
  let c1_i32_47 : BitVec 32 := 1#32
  let arg12 : BitVec 32 := Scf.iv c0_i32_45 c1_i32_47 k0_t4
  let c256_i32_55 : BitVec 32 := 256#32
  let v108 : BitVec 32 := Scalar.muli arg12 c256_i32_55
  v108
def k0_off7 (k0_t4 : Fin k0_t4_loop.trips) : Fin 3 → Nat :=
  let c0_56 : Index := 0#32
  let c0_i32_45 : BitVec 32 := 0#32
  let c1_i32_47 : BitVec 32 := 1#32
  let arg12 : BitVec 32 := Scf.iv c0_i32_45 c1_i32_47 k0_t4
  let c256_i32_55 : BitVec 32 := 256#32
  let v108 : BitVec 32 := Scalar.muli arg12 c256_i32_55
  let v109 : BitVec 32 := v108
  let v110 : Index := Scalar.indexCast v109
  let c0_57 : Index := 0#32
  ![0, v110.toNat, 0]
def k0_off8 (k0_t4 : Fin k0_t4_loop.trips) : Fin 3 → Nat :=
  let c0_i32_45 : BitVec 32 := 0#32
  let c1_i32_47 : BitVec 32 := 1#32
  let arg12 : BitVec 32 := Scf.iv c0_i32_45 c1_i32_47 k0_t4
  let v114 : Index := Scalar.indexCast arg12
  let c0_59 : Index := 0#32
  let c0_60 : Index := 0#32
  ![v114.toNat, 0, 0]
def k0_mult6 (k0_t4 : Fin k0_t4_loop.trips) : BitVec 32 :=
  let c0_i32_45 : BitVec 32 := 0#32
  let c1_i32_47 : BitVec 32 := 1#32
  let arg12 : BitVec 32 := Scf.iv c0_i32_45 c1_i32_47 k0_t4
  let c256_i32_67 : BitVec 32 := 256#32
  let v135 : BitVec 32 := Scalar.muli arg12 c256_i32_67
  v135
def k0_mult7 (k0_t4 : Fin k0_t4_loop.trips) : BitVec 32 :=
  let c0_i32_45 : BitVec 32 := 0#32
  let c1_i32_47 : BitVec 32 := 1#32
  let arg12 : BitVec 32 := Scf.iv c0_i32_45 c1_i32_47 k0_t4
  let c256_i32_70 : BitVec 32 := 256#32
  let v143 : BitVec 32 := Scalar.muli arg12 c256_i32_70
  v143
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2x1x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S2x8 : Shape := ⟨2, ![2, 8]⟩
abbrev S32x2048x1024 : Shape := ⟨3, ![32, 2048, 1024]⟩
abbrev S32x2048x2048 : Shape := ⟨3, ![32, 2048, 2048]⟩
abbrev S32x8x256x256 : Shape := ⟨4, ![32, 8, 256, 256]⟩
abbrev S_ : Shape := ⟨0, ![]⟩
abbrev S32x2048x8x128 : Shape := ⟨4, ![32, 2048, 8, 128]⟩
abbrev S32x2048x8x256 : Shape := ⟨4, ![32, 2048, 8, 256]⟩
abbrev S32x8x128x256 : Shape := ⟨4, ![32, 8, 128, 256]⟩
abbrev S1x32x2048x8x128 : Shape := ⟨5, ![1, 32, 2048, 8, 128]⟩
abbrev S2x32x2048x8x128 : Shape := ⟨5, ![2, 32, 2048, 8, 128]⟩
abbrev S1x32x2048x8x256 : Shape := ⟨5, ![1, 32, 2048, 8, 256]⟩
abbrev S2x32x2048x8x256 : Shape := ⟨5, ![2, 32, 2048, 8, 256]⟩
abbrev S1x32x8x128x256 : Shape := ⟨5, ![1, 32, 8, 128, 256]⟩
abbrev S2x32x8x128x256 : Shape := ⟨5, ![2, 32, 8, 128, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S2x8x1x1 : Shape := ⟨4, ![2, 8, 1, 1]⟩
abbrev S1x1x128x128 : Shape := ⟨4, ![1, 1, 128, 128]⟩
abbrev S2x8x128x128 : Shape := ⟨4, ![2, 8, 128, 128]⟩
abbrev S8x128x128 : Shape := ⟨3, ![8, 128, 128]⟩
abbrev S2x1x8 : Shape := ⟨3, ![2, 1, 8]⟩
abbrev S1x128x1 : Shape := ⟨3, ![1, 128, 1]⟩
abbrev S2x128x8 : Shape := ⟨3, ![2, 128, 8]⟩
abbrev S2x32x16x128x8x128 : Shape := ⟨6, ![2, 32, 16, 128, 8, 128]⟩
abbrev S2x16x32x128x8x128 : Shape := ⟨6, ![2, 16, 32, 128, 8, 128]⟩
abbrev S2x32x16x128x8x256 : Shape := ⟨6, ![2, 32, 16, 128, 8, 256]⟩
abbrev S2x16x32x128x8x256 : Shape := ⟨6, ![2, 16, 32, 128, 8, 256]⟩
abbrev S16x2x32x128x8x128 : Shape := ⟨6, ![16, 2, 32, 128, 8, 128]⟩
abbrev S16x2x32x128x8x256 : Shape := ⟨6, ![16, 2, 32, 128, 8, 256]⟩
abbrev S1x2x32x128x8x128 : Shape := ⟨6, ![1, 2, 32, 128, 8, 128]⟩
abbrev S2x32x128x8x128 : Shape := ⟨5, ![2, 32, 128, 8, 128]⟩
abbrev S1x2x32x128x8x256 : Shape := ⟨6, ![1, 2, 32, 128, 8, 256]⟩
abbrev S2x32x128x8x256 : Shape := ⟨5, ![2, 32, 128, 8, 256]⟩
abbrev S2x32x8x128x128 : Shape := ⟨5, ![2, 32, 8, 128, 128]⟩
abbrev S2x1x8x128x128 : Shape := ⟨5, ![2, 1, 8, 128, 128]⟩
abbrev S2x32x8x256x128 : Shape := ⟨5, ![2, 32, 8, 256, 128]⟩
abbrev S2x1x128x8x1 : Shape := ⟨5, ![2, 1, 128, 8, 1]⟩
abbrev S2x1x8x1x1 : Shape := ⟨5, ![2, 1, 8, 1, 1]⟩
abbrev S32x2048x8 : Shape := ⟨3, ![32, 2048, 8]⟩
abbrev S32x2048x8x1 : Shape := ⟨4, ![32, 2048, 8, 1]⟩

abbrev nBuf : Space → Nat
  | .hbm => 207
  | .vmem => 0
  | .smem => 0
  | _ => 0

abbrev hbmTy0_0 (i : Nat) : BufTy := match i % 128 with
  | 0 => ⟨S2x8, .f32⟩
  | 1 => ⟨S32x2048x1024, .bf16⟩
  | 2 => ⟨S32x2048x1024, .bf16⟩
  | 3 => ⟨S32x2048x2048, .bf16⟩
  | 4 => ⟨S32x2048x2048, .bf16⟩
  | 5 => ⟨S32x8x256x256, .f32⟩
  | 6 => ⟨S2x8, .f32⟩
  | 7 => ⟨S_, .f32⟩
  | 8 => ⟨S2x8, .f32⟩
  | 9 => ⟨S2x8, .f32⟩
  | 10 => ⟨S2x8, .f32⟩
  | 11 => ⟨S2x8, .f32⟩
  | 12 => ⟨S2x8, .i1⟩
  | 13 => ⟨S2x8, .f32⟩
  | 14 => ⟨S2x8, .f32⟩
  | 15 => ⟨S2x8, .f32⟩
  | 16 => ⟨S2x8, .f32⟩
  | 17 => ⟨S2x8, .f32⟩
  | 18 => ⟨S2x8, .f32⟩
  | 19 => ⟨S2x8, .f32⟩
  | 20 => ⟨S2x8, .f32⟩
  | 21 => ⟨S2x8, .f32⟩
  | 22 => ⟨S32x2048x1024, .f32⟩
  | 23 => ⟨S32x2048x8x128, .f32⟩
  | 24 => ⟨S32x2048x1024, .f32⟩
  | 25 => ⟨S32x2048x8x128, .f32⟩
  | 26 => ⟨S32x2048x2048, .f32⟩
  | 27 => ⟨S32x2048x8x256, .f32⟩
  | 28 => ⟨S32x8x128x256, .f32⟩
  | 29 => ⟨S32x8x128x256, .f32⟩
  | 30 => ⟨S32x2048x8x128, .f32⟩
  | 31 => ⟨S1x32x2048x8x128, .f32⟩
  | 32 => ⟨S1x32x2048x8x128, .f32⟩
  | 33 => ⟨S2x32x2048x8x128, .f32⟩
  | 34 => ⟨S32x2048x8x128, .f32⟩
  | 35 => ⟨S1x32x2048x8x128, .f32⟩
  | 36 => ⟨S1x32x2048x8x128, .f32⟩
  | 37 => ⟨S2x32x2048x8x128, .f32⟩
  | 38 => ⟨S32x2048x8x256, .f32⟩
  | 39 => ⟨S1x32x2048x8x256, .f32⟩
  | 40 => ⟨S1x32x2048x8x256, .f32⟩
  | 41 => ⟨S2x32x2048x8x256, .f32⟩
  | 42 => ⟨S1x32x8x128x256, .f32⟩
  | 43 => ⟨S1x32x8x128x256, .f32⟩
  | 44 => ⟨S2x32x8x128x256, .f32⟩
  | 45 => ⟨S128, .f32⟩
  | 46 => ⟨S128x1, .f32⟩
  | 47 => ⟨S1x128, .f32⟩
  | 48 => ⟨S128x128, .f32⟩
  | 49 => ⟨S128x128, .f32⟩
  | 50 => ⟨S128x128, .f32⟩
  | 51 => ⟨S1x128x128, .f32⟩
  | 52 => ⟨S_, .f32⟩
  | 53 => ⟨S1x128x128, .f32⟩
  | 54 => ⟨S1x128x128, .i1⟩
  | 55 => ⟨S1x128x128, .f32⟩
  | 56 => ⟨S2x8x1x1, .f32⟩
  | 57 => ⟨S1x1x128x128, .f32⟩
  | 58 => ⟨S2x8x128x128, .f32⟩
  | 59 => ⟨S2x8x128x128, .f32⟩
  | 60 => ⟨S2x8x128x128, .f32⟩
  | 61 => ⟨S_, .f32⟩
  | 62 => ⟨S_, .f32⟩
  | 63 => ⟨S8x128x128, .i1⟩
  | 64 => ⟨S8x128x128, .f32⟩
  | 65 => ⟨S2x8x128x128, .i1⟩
  | 66 => ⟨S2x8x128x128, .f32⟩
  | 67 => ⟨S2x8x128x128, .f32⟩
  | 68 => ⟨S2x8x128x128, .f32⟩
  | 69 => ⟨S128x1, .f32⟩
  | 70 => ⟨S_, .f32⟩
  | 71 => ⟨S128x1, .f32⟩
  | 72 => ⟨S128x1, .f32⟩
  | 73 => ⟨S2x1x8, .f32⟩
  | 74 => ⟨S1x128x1, .f32⟩
  | 75 => ⟨S2x128x8, .f32⟩
  | 76 => ⟨S2x128x8, .f32⟩
  | 77 => ⟨S2x128x8, .f32⟩
  | 78 => ⟨S2x128x8, .f32⟩
  | 79 => ⟨S_, .f32⟩
  | 80 => ⟨S128, .f32⟩
  | 81 => ⟨S128, .f32⟩
  | 82 => ⟨S128x1, .f32⟩
  | 83 => ⟨S2x1x8, .f32⟩
  | 84 => ⟨S1x128x1, .f32⟩
  | 85 => ⟨S2x128x8, .f32⟩
  | 86 => ⟨S2x128x8, .f32⟩
  | 87 => ⟨S2x128x8, .f32⟩
  | 88 => ⟨S2x128x8, .f32⟩
  | 89 => ⟨S_, .f32⟩
  | 90 => ⟨S2x8, .f32⟩
  | 91 => ⟨S2x8, .f32⟩
  | 92 => ⟨S2x8, .f32⟩
  | 93 => ⟨S2x32x16x128x8x128, .f32⟩
  | 94 => ⟨S2x16x32x128x8x128, .f32⟩
  | 95 => ⟨S2x32x16x128x8x128, .f32⟩
  | 96 => ⟨S2x16x32x128x8x128, .f32⟩
  | 97 => ⟨S2x32x16x128x8x256, .f32⟩
  | 98 => ⟨S2x16x32x128x8x256, .f32⟩
  | 99 => ⟨S16x2x32x128x8x128, .f32⟩
  | 100 => ⟨S16x2x32x128x8x128, .f32⟩
  | 101 => ⟨S16x2x32x128x8x256, .f32⟩
  | 102 => ⟨S_, .f32⟩
  | 103 => ⟨S16x2x32x128x8x256, .f32⟩
  | 104 => ⟨S_, .i32⟩
  | 105 => ⟨S16x2x32x128x8x128, .f32⟩
  | 106 => ⟨S16x2x32x128x8x128, .f32⟩
  | 107 => ⟨S16x2x32x128x8x256, .f32⟩
  | 108 => ⟨S2x8x128x128, .f32⟩
  | 109 => ⟨S2x128x8, .f32⟩
  | 110 => ⟨S2x8, .f32⟩
  | 111 => ⟨S2x128x8, .f32⟩
  | 112 => ⟨S_, .i32⟩
  | 113 => ⟨S2x32x8x128x256, .f32⟩
  | 114 => ⟨S16x2x32x128x8x256, .f32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S1x2x32x128x8x128, .f32⟩
  | 123 => ⟨S2x32x128x8x128, .f32⟩
  | 124 => ⟨S_, .i32⟩
  | 125 => ⟨S_, .i32⟩
  | 126 => ⟨S_, .i32⟩
  | 127 => ⟨S_, .i32⟩
  | _ => ⟨S2x8, .f32⟩

abbrev hbmTy0_1 (i : Nat) : BufTy := match i % 128 with
  | 0 => ⟨S_, .i32⟩
  | 1 => ⟨S1x2x32x128x8x128, .f32⟩
  | 2 => ⟨S2x32x128x8x128, .f32⟩
  | 3 => ⟨S_, .i32⟩
  | 4 => ⟨S_, .i32⟩
  | 5 => ⟨S_, .i32⟩
  | 6 => ⟨S_, .i32⟩
  | 7 => ⟨S_, .i32⟩
  | 8 => ⟨S1x2x32x128x8x256, .f32⟩
  | 9 => ⟨S2x32x128x8x256, .f32⟩
  | 10 => ⟨S2x32x8x128x128, .f32⟩
  | 11 => ⟨S2x1x8x128x128, .f32⟩
  | 12 => ⟨S2x32x8x128x128, .f32⟩
  | 13 => ⟨S2x32x8x128x128, .f32⟩
  | 14 => ⟨S2x32x8x256x128, .f32⟩
  | 15 => ⟨S2x32x128x8x256, .f32⟩
  | 16 => ⟨S2x32x8x256x128, .f32⟩
  | 17 => ⟨S2x32x128x8x256, .f32⟩
  | 18 => ⟨S2x1x128x8x1, .f32⟩
  | 19 => ⟨S2x32x128x8x256, .f32⟩
  | 20 => ⟨S2x32x128x8x256, .f32⟩
  | 21 => ⟨S2x32x128x8x256, .f32⟩
  | 22 => ⟨S2x1x8x1x1, .f32⟩
  | 23 => ⟨S2x32x8x128x256, .f32⟩
  | 24 => ⟨S2x32x8x128x256, .f32⟩
  | 25 => ⟨S2x1x128x8x1, .f32⟩
  | 26 => ⟨S2x32x128x8x128, .f32⟩
  | 27 => ⟨S2x32x128x8x128, .f32⟩
  | 28 => ⟨S2x32x8x128x256, .f32⟩
  | 29 => ⟨S2x32x8x128x256, .f32⟩
  | 30 => ⟨S1x2x32x128x8x256, .f32⟩
  | 31 => ⟨S_, .i32⟩
  | 32 => ⟨S_, .i32⟩
  | 33 => ⟨S_, .i32⟩
  | 34 => ⟨S_, .i32⟩
  | 35 => ⟨S_, .i32⟩
  | 36 => ⟨S16x2x32x128x8x256, .f32⟩
  | 37 => ⟨S_, .i32⟩
  | 38 => ⟨S_, .i32⟩
  | 39 => ⟨S2x32x16x128x8x256, .f32⟩
  | 40 => ⟨S2x32x2048x8x256, .f32⟩
  | 41 => ⟨S1x32x2048x8x256, .f32⟩
  | 42 => ⟨S32x2048x8x256, .f32⟩
  | 43 => ⟨S1x32x2048x8x256, .f32⟩
  | 44 => ⟨S32x2048x8x256, .f32⟩
  | 45 => ⟨S32x2048x8x256, .f32⟩
  | 46 => ⟨S32x2048x8x256, .f32⟩
  | 47 => ⟨S1x32x8x128x256, .f32⟩
  | 48 => ⟨S32x8x128x256, .f32⟩
  | 49 => ⟨S1x32x8x128x256, .f32⟩
  | 50 => ⟨S32x8x128x256, .f32⟩
  | 51 => ⟨S_, .f32⟩
  | 52 => ⟨S32x2048x8, .f32⟩
  | 53 => ⟨S32x2048x8x1, .f32⟩
  | 54 => ⟨S_, .f32⟩
  | 55 => ⟨S32x2048x8x1, .f32⟩
  | 56 => ⟨S32x2048x8x1, .f32⟩
  | 57 => ⟨S32x2048x8x256, .f32⟩
  | 58 => ⟨S32x2048x8x256, .f32⟩
  | 59 => ⟨S32x2048x8x256, .f32⟩
  | 60 => ⟨S_, .f32⟩
  | 61 => ⟨S32x2048x8, .f32⟩
  | 62 => ⟨S32x2048x8x1, .f32⟩
  | 63 => ⟨S_, .f32⟩
  | 64 => ⟨S32x2048x8x1, .f32⟩
  | 65 => ⟨S32x2048x8x1, .f32⟩
  | 66 => ⟨S32x2048x8x256, .f32⟩
  | 67 => ⟨S32x2048x8x256, .f32⟩
  | 68 => ⟨S_, .f32⟩
  | 69 => ⟨S32x2048x8x1, .f32⟩
  | 70 => ⟨S32x2048x8x1, .f32⟩
  | 71 => ⟨S32x2048x8x1, .f32⟩
  | 72 => ⟨S32x2048x8x256, .f32⟩
  | 73 => ⟨S32x2048x8x256, .f32⟩
  | 74 => ⟨S32x2048x2048, .f32⟩
  | 75 => ⟨S32x2048x2048, .f32⟩
  | 76 => ⟨S32x2048x2048, .f32⟩
  | 77 => ⟨S32x2048x2048, .bf16⟩
  | 78 => ⟨S32x8x256x256, .f32⟩
  | _ => ⟨S2x8, .f32⟩

abbrev hbmTy (i : Nat) : BufTy := match i / 128 with
  | 0 => hbmTy0_0 i
  | 1 => hbmTy0_1 i
  | _ => ⟨S2x8, .f32⟩

abbrev bufTy : (tb : Table) → Fin (tcTables nBuf tb) → BufTy
  | .hbm, ⟨i, _⟩ => hbmTy i
  | _, _ => ⟨S2x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_0 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_1 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_2 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_3 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_4 : Ref sig .tc := ⟨.hbm, 102, rfl⟩
abbrev main_v71 : Ref sig .tc := ⟨.hbm, 103, rfl⟩
abbrev main_c : Ref sig .tc := ⟨.hbm, 104, rfl⟩
abbrev main_v72_0 : Ref sig .tc := ⟨.hbm, 105, rfl⟩
abbrev main_v72_1 : Ref sig .tc := ⟨.hbm, 106, rfl⟩
abbrev main_v72_2 : Ref sig .tc := ⟨.hbm, 107, rfl⟩
abbrev main_v72_3 : Ref sig .tc := ⟨.hbm, 108, rfl⟩
abbrev main_v72_4 : Ref sig .tc := ⟨.hbm, 109, rfl⟩
abbrev main_v72_5 : Ref sig .tc := ⟨.hbm, 110, rfl⟩
abbrev main_v72_6 : Ref sig .tc := ⟨.hbm, 111, rfl⟩
abbrev main_v72_7 : Ref sig .tc := ⟨.hbm, 112, rfl⟩
abbrev main_v72_8 : Ref sig .tc := ⟨.hbm, 113, rfl⟩
abbrev main_v72_9 : Ref sig .tc := ⟨.hbm, 114, rfl⟩
abbrev main_while0c_c_19 : Ref sig .tc := ⟨.hbm, 115, rfl⟩
abbrev main_while0c_v108 : Ref sig .tc := ⟨.hbm, 116, rfl⟩
abbrev main_while0b_call2_c : Ref sig .tc := ⟨.hbm, 117, rfl⟩
abbrev main_while0b_call2_c_0 : Ref sig .tc := ⟨.hbm, 118, rfl⟩
abbrev main_while0b_call2_c_1 : Ref sig .tc := ⟨.hbm, 119, rfl⟩
abbrev main_while0b_call2_c_2 : Ref sig .tc := ⟨.hbm, 120, rfl⟩
abbrev main_while0b_call2_c_3 : Ref sig .tc := ⟨.hbm, 121, rfl⟩
abbrev main_while0b_call2_v0 : Ref sig .tc := ⟨.hbm, 122, rfl⟩
abbrev main_while0b_v108 : Ref sig .tc := ⟨.hbm, 123, rfl⟩
abbrev main_while0b_call3_c : Ref sig .tc := ⟨.hbm, 124, rfl⟩
abbrev main_while0b_call3_c_0 : Ref sig .tc := ⟨.hbm, 125, rfl⟩
abbrev main_while0b_call3_c_1 : Ref sig .tc := ⟨.hbm, 126, rfl⟩
abbrev main_while0b_call3_c_2 : Ref sig .tc := ⟨.hbm, 127, rfl⟩
abbrev main_while0b_call3_c_3 : Ref sig .tc := ⟨.hbm, 128, rfl⟩
abbrev main_while0b_call3_v0 : Ref sig .tc := ⟨.hbm, 129, rfl⟩
abbrev main_while0b_v109 : Ref sig .tc := ⟨.hbm, 130, rfl⟩
abbrev main_while0b_call4_c : Ref sig .tc := ⟨.hbm, 131, rfl⟩
abbrev main_while0b_call4_c_0 : Ref sig .tc := ⟨.hbm, 132, rfl⟩
abbrev main_while0b_call4_c_1 : Ref sig .tc := ⟨.hbm, 133, rfl⟩
abbrev main_while0b_call4_c_2 : Ref sig .tc := ⟨.hbm, 134, rfl⟩
abbrev main_while0b_call4_c_3 : Ref sig .tc := ⟨.hbm, 135, rfl⟩
abbrev main_while0b_call4_v0 : Ref sig .tc := ⟨.hbm, 136, rfl⟩
abbrev main_while0b_v110 : Ref sig .tc := ⟨.hbm, 137, rfl⟩
abbrev main_while0b_v111 : Ref sig .tc := ⟨.hbm, 138, rfl⟩
abbrev main_while0b_v112 : Ref sig .tc := ⟨.hbm, 139, rfl⟩
abbrev main_while0b_v113 : Ref sig .tc := ⟨.hbm, 140, rfl⟩
abbrev main_while0b_v114 : Ref sig .tc := ⟨.hbm, 141, rfl⟩
abbrev main_while0b_v115 : Ref sig .tc := ⟨.hbm, 142, rfl⟩
abbrev main_while0b_v116 : Ref sig .tc := ⟨.hbm, 143, rfl⟩
abbrev main_while0b_v117 : Ref sig .tc := ⟨.hbm, 144, rfl⟩
abbrev main_while0b_v118 : Ref sig .tc := ⟨.hbm, 145, rfl⟩
abbrev main_while0b_v119 : Ref sig .tc := ⟨.hbm, 146, rfl⟩
abbrev main_while0b_v120 : Ref sig .tc := ⟨.hbm, 147, rfl⟩
abbrev main_while0b_v121 : Ref sig .tc := ⟨.hbm, 148, rfl⟩
abbrev main_while0b_v122 : Ref sig .tc := ⟨.hbm, 149, rfl⟩
abbrev main_while0b_v123 : Ref sig .tc := ⟨.hbm, 150, rfl⟩
abbrev main_while0b_v124 : Ref sig .tc := ⟨.hbm, 151, rfl⟩
abbrev main_while0b_v125 : Ref sig .tc := ⟨.hbm, 152, rfl⟩
abbrev main_while0b_v126 : Ref sig .tc := ⟨.hbm, 153, rfl⟩
abbrev main_while0b_v127 : Ref sig .tc := ⟨.hbm, 154, rfl⟩
abbrev main_while0b_v128 : Ref sig .tc := ⟨.hbm, 155, rfl⟩
abbrev main_while0b_v129 : Ref sig .tc := ⟨.hbm, 156, rfl⟩
abbrev main_while0b_v130 : Ref sig .tc := ⟨.hbm, 157, rfl⟩
abbrev main_while0b_call5_v0 : Ref sig .tc := ⟨.hbm, 158, rfl⟩
abbrev main_while0b_call5_c : Ref sig .tc := ⟨.hbm, 159, rfl⟩
abbrev main_while0b_call5_c_0 : Ref sig .tc := ⟨.hbm, 160, rfl⟩
abbrev main_while0b_call5_c_1 : Ref sig .tc := ⟨.hbm, 161, rfl⟩
abbrev main_while0b_call5_c_2 : Ref sig .tc := ⟨.hbm, 162, rfl⟩
abbrev main_while0b_call5_c_3 : Ref sig .tc := ⟨.hbm, 163, rfl⟩
abbrev main_while0b_v131 : Ref sig .tc := ⟨.hbm, 164, rfl⟩
abbrev main_while0b_c_19 : Ref sig .tc := ⟨.hbm, 165, rfl⟩
abbrev main_while0b_v132 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_cst_5 : Ref sig .tc := ⟨.hbm, 179, rfl⟩
abbrev main_v85 : Ref sig .tc := ⟨.hbm, 180, rfl⟩
abbrev main_v86 : Ref sig .tc := ⟨.hbm, 181, rfl⟩
abbrev main_cst_6 : Ref sig .tc := ⟨.hbm, 182, rfl⟩
abbrev main_v87 : Ref sig .tc := ⟨.hbm, 183, rfl⟩
abbrev main_v88 : Ref sig .tc := ⟨.hbm, 184, rfl⟩
abbrev main_v89 : Ref sig .tc := ⟨.hbm, 185, rfl⟩
abbrev main_v90 : Ref sig .tc := ⟨.hbm, 186, rfl⟩
abbrev main_v91 : Ref sig .tc := ⟨.hbm, 187, rfl⟩
abbrev main_cst_7 : Ref sig .tc := ⟨.hbm, 188, rfl⟩
abbrev main_v92 : Ref sig .tc := ⟨.hbm, 189, rfl⟩
abbrev main_v93 : Ref sig .tc := ⟨.hbm, 190, rfl⟩
abbrev main_cst_8 : Ref sig .tc := ⟨.hbm, 191, rfl⟩
abbrev main_v94 : Ref sig .tc := ⟨.hbm, 192, rfl⟩
abbrev main_v95 : Ref sig .tc := ⟨.hbm, 193, rfl⟩
abbrev main_v96 : Ref sig .tc := ⟨.hbm, 194, rfl⟩
abbrev main_v97 : Ref sig .tc := ⟨.hbm, 195, rfl⟩
abbrev main_cst_9 : Ref sig .tc := ⟨.hbm, 196, rfl⟩
abbrev main_v98 : Ref sig .tc := ⟨.hbm, 197, rfl⟩
abbrev main_v99 : Ref sig .tc := ⟨.hbm, 198, rfl⟩
abbrev main_v100 : Ref sig .tc := ⟨.hbm, 199, rfl⟩
abbrev main_v101 : Ref sig .tc := ⟨.hbm, 200, rfl⟩
abbrev main_v102 : Ref sig .tc := ⟨.hbm, 201, rfl⟩
abbrev main_v103 : Ref sig .tc := ⟨.hbm, 202, rfl⟩
abbrev main_v104 : Ref sig .tc := ⟨.hbm, 203, rfl⟩
abbrev main_v105 : Ref sig .tc := ⟨.hbm, 204, rfl⟩
abbrev main_v106 : Ref sig .tc := ⟨.hbm, 205, rfl⟩
abbrev main_v107 : Ref sig .tc := ⟨.hbm, 206, rfl⟩

abbrev nD : Nat := 1
abbrev τ : Topo := Topo.v7x

variable {F : FTy → Type} [FloatOps F]

abbrev main_while0_count : Scf.Loop 32 := ⟨0#32, 16#32, 1#32⟩
-- ==== Merge.lean ====
abbrev S32x2048x2048 : Shape := ⟨3, ![32, 2048, 2048]⟩
abbrev S32x2048x1024 : Shape := ⟨3, ![32, 2048, 1024]⟩
abbrev S32x6x1024 : Shape := ⟨3, ![32, 6, 1024]⟩
abbrev S1024 : Shape := ⟨1, ![1024]⟩
abbrev S2048x1024 : Shape := ⟨2, ![2048, 1024]⟩
abbrev S1024x1024 : Shape := ⟨2, ![1024, 1024]⟩
abbrev S1024x5632 : Shape := ⟨2, ![1024, 5632]⟩
abbrev S2816x1024 : Shape := ⟨2, ![2816, 1024]⟩
abbrev S1x1024 : Shape := ⟨2, ![1, 1024]⟩
abbrev S1x256x2048 : Shape := ⟨3, ![1, 256, 2048]⟩
abbrev S1x256x1024 : Shape := ⟨3, ![1, 256, 1024]⟩
abbrev S1x6x1024 : Shape := ⟨3, ![1, 6, 1024]⟩
abbrev S256x2048 : Shape := ⟨2, ![256, 2048]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 15
  | .vmem => 19
  | .smem => 0
  | _ => 0

abbrev bufTy : (tb : Table) → Fin (tcTables nBuf tb) → BufTy
  | .hbm, ⟨0, _⟩ => ⟨S32x2048x2048, .bf16⟩
  | .hbm, ⟨1, _⟩ => ⟨S32x2048x1024, .bf16⟩
  | .hbm, ⟨2, _⟩ => ⟨S32x2048x2048, .bf16⟩
  | .hbm, ⟨3, _⟩ => ⟨S32x2048x1024, .f32⟩
  | .hbm, ⟨4, _⟩ => ⟨S32x6x1024, .f32⟩
  | .hbm, ⟨5, _⟩ => ⟨S1024, .f32⟩
  | .hbm, ⟨6, _⟩ => ⟨S2048x1024, .bf16⟩
  | .hbm, ⟨7, _⟩ => ⟨S1024x1024, .bf16⟩
  | .hbm, ⟨8, _⟩ => ⟨S1024x1024, .bf16⟩
  | .hbm, ⟨9, _⟩ => ⟨S1024x5632, .bf16⟩
  | .hbm, ⟨10, _⟩ => ⟨S2816x1024, .bf16⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S32x2048x1024, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x1024, .f32⟩
  | .local _ .vmem, ⟨7, _⟩ => ⟨S1x256x1024, .f32⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S2048x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x5632, .bf16⟩
  | .local _ .vmem, ⟨15, _⟩ => ⟨S2816x1024, .bf16⟩
  | .local _ .vmem, ⟨16, _⟩ => ⟨S1x1024, .f32⟩
  | .local _ .vmem, ⟨17, _⟩ => ⟨S1x256x1024, .f32⟩
  | .local _ .vmem, ⟨18, _⟩ => ⟨S1x256x1024, .f32⟩
  | _, _ => ⟨S32x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeRefIdeal.lean ====
abbrev S32x2048x2048 : Shape := ⟨3, ![32, 2048, 2048]⟩
abbrev S32x2048x1024 : Shape := ⟨3, ![32, 2048, 1024]⟩
abbrev S32x6x1024 : Shape := ⟨3, ![32, 6, 1024]⟩
abbrev S1024 : Shape := ⟨1, ![1024]⟩
abbrev S2048x1024 : Shape := ⟨2, ![2048, 1024]⟩
abbrev S1024x1024 : Shape := ⟨2, ![1024, 1024]⟩
abbrev S1024x5632 : Shape := ⟨2, ![1024, 5632]⟩
abbrev S2816x1024 : Shape := ⟨2, ![2816, 1024]⟩
abbrev S32x6x1x1024 : Shape := ⟨4, ![32, 6, 1, 1024]⟩
abbrev S32x1x1x1024 : Shape := ⟨4, ![32, 1, 1, 1024]⟩
abbrev S32x1x1024 : Shape := ⟨3, ![32, 1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2048x2816 : Shape := ⟨3, ![32, 2048, 2816]⟩

abbrev nBuf : Space → Nat
  | .hbm => 96
  | .vmem => 0
  | .smem => 0
  | _ => 0

abbrev bufTy : (tb : Table) → Fin (tcTables nBuf tb) → BufTy
  | .hbm, ⟨0, _⟩ => ⟨S32x2048x2048, .bf16⟩
  | .hbm, ⟨1, _⟩ => ⟨S32x2048x1024, .bf16⟩
  | .hbm, ⟨2, _⟩ => ⟨S32x2048x2048, .bf16⟩
  | .hbm, ⟨3, _⟩ => ⟨S32x2048x1024, .f32⟩
  | .hbm, ⟨4, _⟩ => ⟨S32x6x1024, .f32⟩
  | .hbm, ⟨5, _⟩ => ⟨S1024, .f32⟩
  | .hbm, ⟨6, _⟩ => ⟨S2048x1024, .bf16⟩
  | .hbm, ⟨7, _⟩ => ⟨S1024x1024, .bf16⟩
  | .hbm, ⟨8, _⟩ => ⟨S1024x1024, .bf16⟩
  | .hbm, ⟨9, _⟩ => ⟨S1024x5632, .bf16⟩
  | .hbm, ⟨10, _⟩ => ⟨S2816x1024, .bf16⟩
  | .hbm, ⟨11, _⟩ => ⟨S1024, .f32⟩
  | .hbm, ⟨12, _⟩ => ⟨S32x2048x2048, .f32⟩
  | .hbm, ⟨13, _⟩ => ⟨S2048x1024, .f32⟩
  | .hbm, ⟨14, _⟩ => ⟨S32x2048x1024, .f32⟩
  | .hbm, ⟨15, _⟩ => ⟨S32x2048x1024, .f32⟩
  | .hbm, ⟨16, _⟩ => ⟨S1024x1024, .f32⟩
  | .hbm, ⟨17, _⟩ => ⟨S32x2048x1024, .f32⟩
  | .hbm, ⟨18, _⟩ => ⟨S32x2048x2048, .f32⟩
  | .hbm, ⟨19, _⟩ => ⟨S32x2048x1024, .f32⟩
  | .hbm, ⟨20, _⟩ => ⟨S32x2048x1024, .f32⟩
  | .hbm, ⟨21, _⟩ => ⟨S32x2048x1024, .f32⟩
  | .hbm, ⟨22, _⟩ => ⟨S32x2048x1024, .f32⟩
  | .hbm, ⟨23, _⟩ => ⟨S32x2048x1024, .f32⟩
  | .hbm, ⟨24, _⟩ => ⟨S1024x1024, .f32⟩
  | .hbm, ⟨25, _⟩ => ⟨S32x2048x1024, .f32⟩
  | .hbm, ⟨26, _⟩ => ⟨S32x6x1x1024, .f32⟩
  | .hbm, ⟨27, _⟩ => ⟨S32x1x1x1024, .f32⟩
  | .hbm, ⟨28, _⟩ => ⟨S32x1x1024, .f32⟩
  | .hbm, ⟨29, _⟩ => ⟨S32x2048x1024, .f32⟩
  | .hbm, ⟨30, _⟩ => ⟨S32x2048x1024, .f32⟩
  | .hbm, ⟨31, _⟩ => ⟨S32x2048x1024, .f32⟩
  | .hbm, ⟨32, _⟩ => ⟨S32x2048x1024, .f32⟩
  | .hbm, ⟨33, _⟩ => ⟨S_, .f32⟩
  | .hbm, ⟨34, _⟩ => ⟨S32x2048, .f32⟩
  | .hbm, ⟨35, _⟩ => ⟨S32x2048x1, .f32⟩
  | .hbm, ⟨36, _⟩ => ⟨S_, .f32⟩
  | .hbm, ⟨37, _⟩ => ⟨S32x2048x1, .f32⟩
  | .hbm, ⟨38, _⟩ => ⟨S32x2048x1, .f32⟩
  | .hbm, ⟨39, _⟩ => ⟨S_, .f32⟩
  | .hbm, ⟨40, _⟩ => ⟨S32x2048x1, .f32⟩
  | .hbm, ⟨41, _⟩ => ⟨S32x2048x1, .f32⟩
  | .hbm, ⟨42, _⟩ => ⟨S32x2048x1, .f32⟩
  | .hbm, ⟨43, _⟩ => ⟨S32x2048x1024, .f32⟩
  | .hbm, ⟨44, _⟩ => ⟨S32x2048x1024, .f32⟩
  | .hbm, ⟨45, _⟩ => ⟨S1x1x1024, .f32⟩
  | .hbm, ⟨46, _⟩ => ⟨S32x2048x1024, .f32⟩
  | .hbm, ⟨47, _⟩ => ⟨S32x2048x1024, .f32⟩
  | .hbm, ⟨48, _⟩ => ⟨S32x1x1x1024, .f32⟩
  | .hbm, ⟨49, _⟩ => ⟨S32x1x1024, .f32⟩
  | .hbm, ⟨50, _⟩ => ⟨S32x1x1x1024, .f32⟩
  | .hbm, ⟨51, _⟩ => ⟨S32x1x1024, .f32⟩
  | .hbm, ⟨52, _⟩ => ⟨S_, .f32⟩
  | .hbm, ⟨53, _⟩ => ⟨S32x1x1024, .f32⟩
  | .hbm, ⟨54, _⟩ => ⟨S32x1x1024, .f32⟩
  | .hbm, ⟨55, _⟩ => ⟨S32x2048x1024, .f32⟩
  | .hbm, ⟨56, _⟩ => ⟨S32x2048x1024, .f32⟩
  | .hbm, ⟨57, _⟩ => ⟨S32x2048x1024, .f32⟩
  | .hbm, ⟨58, _⟩ => ⟨S32x2048x1024, .f32⟩
  | .hbm, ⟨59, _⟩ => ⟨S32x1x1x1024, .f32⟩
  | .hbm, ⟨60, _⟩ => ⟨S32x1x1024, .f32⟩
  | .hbm, ⟨61, _⟩ => ⟨S1024x5632, .f32⟩
  | .hbm, ⟨62, _⟩ => ⟨S2816x1024, .f32⟩
  | .hbm, ⟨63, _⟩ => ⟨S32x2048x5632, .f32⟩
  | .hbm, ⟨64, _⟩ => ⟨S32x2048x2816, .f32⟩
  | .hbm, ⟨65, _⟩ => ⟨S32x2048x2816, .f32⟩
  | .hbm, ⟨66, _⟩ => ⟨S32x2048x2816, .f32⟩
  | .hbm, ⟨67, _⟩ => ⟨S32x2048x2816, .f32⟩
  | .hbm, ⟨68, _⟩ => ⟨S_, .f32⟩
  | .hbm, ⟨69, _⟩ => ⟨S32x2048x2816, .f32⟩
  | .hbm, ⟨70, _⟩ => ⟨S32x2048x2816, .f32⟩
  | .hbm, ⟨71, _⟩ => ⟨S_, .f32⟩
  | .hbm, ⟨72, _⟩ => ⟨S32x2048x2816, .f32⟩
  | .hbm, ⟨73, _⟩ => ⟨S32x2048x2816, .f32⟩
  | .hbm, ⟨74, _⟩ => ⟨S32x2048x2816, .f32⟩
  | .hbm, ⟨75, _⟩ => ⟨S32x2048x2816, .f32⟩
  | .hbm, ⟨76, _⟩ => ⟨S32x2048x1024, .f32⟩
  | .hbm, ⟨77, _⟩ => ⟨S32x2048x1024, .f32⟩
  | .hbm, ⟨78, _⟩ => ⟨S32x2048x1024, .f32⟩
  | .hbm, ⟨79, _⟩ => ⟨S32x2048x1024, .f32⟩
  | .hbm, ⟨80, _⟩ => ⟨S32x2048x1024, .f32⟩
  | .hbm, ⟨81, _⟩ => ⟨S_, .f32⟩
  | .hbm, ⟨82, _⟩ => ⟨S32x2048, .f32⟩
  | .hbm, ⟨83, _⟩ => ⟨S32x2048x1, .f32⟩
  | .hbm, ⟨84, _⟩ => ⟨S_, .f32⟩
  | .hbm, ⟨85, _⟩ => ⟨S32x2048x1, .f32⟩
  | .hbm, ⟨86, _⟩ => ⟨S32x2048x1, .f32⟩
  | .hbm, ⟨87, _⟩ => ⟨S_, .f32⟩
  | .hbm, ⟨88, _⟩ => ⟨S32x2048x1, .f32⟩
  | .hbm, ⟨89, _⟩ => ⟨S32x2048x1, .f32⟩
  | .hbm, ⟨90, _⟩ => ⟨S32x2048x1, .f32⟩
  | .hbm, ⟨91, _⟩ => ⟨S32x2048x1024, .f32⟩
  | .hbm, ⟨92, _⟩ => ⟨S32x2048x1024, .f32⟩
  | .hbm, ⟨93, _⟩ => ⟨S1x1x1024, .f32⟩
  | .hbm, ⟨94, _⟩ => ⟨S32x2048x1024, .f32⟩
  | .hbm, ⟨95, _⟩ => ⟨S32x2048x1024, .f32⟩
  | _, _ => ⟨S32x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_2 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_3 : Ref sig .tc := ⟨.hbm, 81, rfl⟩
abbrev main_v57 : Ref sig .tc := ⟨.hbm, 82, rfl⟩
abbrev main_v58 : Ref sig .tc := ⟨.hbm, 83, rfl⟩
abbrev main_cst_4 : Ref sig .tc := ⟨.hbm, 84, rfl⟩
abbrev main_v59 : Ref sig .tc := ⟨.hbm, 85, rfl⟩
abbrev main_v60 : Ref sig .tc := ⟨.hbm, 86, rfl⟩
abbrev main_cst_5 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩

abbrev nD : Nat := 1
abbrev τ : Topo := Topo.v7x

variable {F : FTy → Type} [FloatOps F]
-- ==== InProj.lean ====
abbrev S32x2048x1024 : Shape := ⟨3, ![32, 2048, 1024]⟩
abbrev S32x6x1024 : Shape := ⟨3, ![32, 6, 1024]⟩
abbrev S1024 : Shape := ⟨1, ![1024]⟩
abbrev S1024x11264 : Shape := ⟨2, ![1024, 11264]⟩
abbrev S2048 : Shape := ⟨1, ![2048]⟩
abbrev S_ : Shape := ⟨0, ![]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x1024 : Shape := ⟨2, ![1, 1024]⟩
abbrev S32x2048x2048 : Shape := ⟨3, ![32, 2048, 2048]⟩
abbrev S1x256x1024 : Shape := ⟨3, ![1, 256, 1024]⟩
abbrev S1x6x1024 : Shape := ⟨3, ![1, 6, 1024]⟩
abbrev S256x128 : Shape := ⟨2, ![256, 128]⟩
abbrev S1x256x2048 : Shape := ⟨3, ![1, 256, 2048]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S1024x1024 : Shape := ⟨2, ![1024, 1024]⟩
abbrev S1x256x128 : Shape := ⟨3, ![1, 256, 128]⟩

abbrev nBuf : Space → Nat
  | .hbm => 100
  | .vmem => 28
  | .smem => 0
  | _ => 0

abbrev bufTy : (tb : Table) → Fin (tcTables nBuf tb) → BufTy
  | .hbm, ⟨0, _⟩ => ⟨S32x2048x1024, .f32⟩
  | .hbm, ⟨1, _⟩ => ⟨S32x6x1024, .f32⟩
  | .hbm, ⟨2, _⟩ => ⟨S1024, .f32⟩
  | .hbm, ⟨3, _⟩ => ⟨S1024x11264, .bf16⟩
  | .hbm, ⟨4, _⟩ => ⟨S2048, .i32⟩
  | .hbm, ⟨5, _⟩ => ⟨S_, .i32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i1⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S2048, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S_, .i32⟩
  | .hbm, ⟨33, _⟩ => ⟨S2048, .i32⟩
  | .hbm, ⟨34, _⟩ => ⟨S2048, .i1⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S_, .i32⟩
  | .hbm, ⟨39, _⟩ => ⟨S_, .i1⟩
  | .hbm, ⟨40, _⟩ => ⟨S2048, .i1⟩
  | .hbm, ⟨41, _⟩ => ⟨S2048, .i1⟩
  | .hbm, ⟨42, _⟩ => ⟨S2048, .i1⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S2048, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S_, .f32⟩
  | .hbm, ⟨59, _⟩ => ⟨S32, .f32⟩
  | .hbm, ⟨60, _⟩ => ⟨S32, .f32⟩
  | .hbm, ⟨61, _⟩ => ⟨S2048x1, .f32⟩
  | .hbm, ⟨62, _⟩ => ⟨S1x32, .f32⟩
  | .hbm, ⟨63, _⟩ => ⟨S2048x32, .f32⟩
  | .hbm, ⟨64, _⟩ => ⟨S2048x32, .f32⟩
  | .hbm, ⟨65, _⟩ => ⟨S2048x32, .f32⟩
  | .hbm, ⟨66, _⟩ => ⟨S2048x1, .f32⟩
  | .hbm, ⟨67, _⟩ => ⟨S1x32, .f32⟩
  | .hbm, ⟨68, _⟩ => ⟨S2048x32, .f32⟩
  | .hbm, ⟨69, _⟩ => ⟨S2048x32, .f32⟩
  | .hbm, ⟨70, _⟩ => ⟨S2048x32, .f32⟩
  | .hbm, ⟨71, _⟩ => ⟨S2048x128, .f32⟩
  | .hbm, ⟨72, _⟩ => ⟨S_, .f32⟩
  | .hbm, ⟨73, _⟩ => ⟨S32, .f32⟩
  | .hbm, ⟨74, _⟩ => ⟨S32, .f32⟩
  | .hbm, ⟨75, _⟩ => ⟨S_, .f32⟩
  | .hbm, ⟨76, _⟩ => ⟨S32, .f32⟩
  | .hbm, ⟨77, _⟩ => ⟨S64, .f32⟩
  | .hbm, ⟨78, _⟩ => ⟨S1x64, .f32⟩
  | .hbm, ⟨79, _⟩ => ⟨S2x64, .f32⟩
  | .hbm, ⟨80, _⟩ => ⟨S128, .f32⟩
  | .hbm, ⟨81, _⟩ => ⟨S2048x128, .f32⟩
  | .hbm, ⟨82, _⟩ => ⟨S2048x128, .f32⟩
  | .hbm, ⟨83, _⟩ => ⟨S1x128, .f32⟩
  | .hbm, ⟨84, _⟩ => ⟨S2048x128, .f32⟩
  | .hbm, ⟨85, _⟩ => ⟨S2048x128, .f32⟩
  | .hbm, ⟨86, _⟩ => ⟨S_, .f32⟩
  | .hbm, ⟨87, _⟩ => ⟨S2048x128, .f32⟩
  | .hbm, ⟨88, _⟩ => ⟨S2048x128, .f32⟩
  | .hbm, ⟨89, _⟩ => ⟨S_, .f32⟩
  | .hbm, ⟨90, _⟩ => ⟨S2048x128, .f32⟩
  | .hbm, ⟨91, _⟩ => ⟨S2048x128, .f32⟩
  | .hbm, ⟨92, _⟩ => ⟨S1x1024, .f32⟩
  | .hbm, ⟨93, _⟩ => ⟨S32x2048x1024, .bf16⟩
  | .hbm, ⟨94, _⟩ => ⟨S32x2048x1024, .bf16⟩
  | .hbm, ⟨95, _⟩ => ⟨S32x2048x2048, .bf16⟩
  | .hbm, ⟨96, _⟩ => ⟨S32x2048x2048, .bf16⟩
  | .hbm, ⟨97, _⟩ => ⟨S32x2048x1024, .bf16⟩
  | .hbm, ⟨98, _⟩ => ⟨S32x2048x1024, .bf16⟩
  | .hbm, ⟨99, _⟩ => ⟨S32x2048x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x11264, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x2048, .bf16⟩
  | .local _ .vmem, ⟨19, _⟩ => ⟨S1x256x2048, .bf16⟩
  | .local _ .vmem, ⟨20, _⟩ => ⟨S1x256x2048, .bf16⟩
  | .local _ .vmem, ⟨21, _⟩ => ⟨S1x256x2048, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x256x1024, .bf16⟩
  | .local _ .vmem, ⟨25, _⟩ => ⟨S1x256x1024, .bf16⟩
  | .local _ .vmem, ⟨26, _⟩ => ⟨S1x256x2048, .bf16⟩
  | .local _ .vmem, ⟨27, _⟩ => ⟨S1x256x2048, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_cst : Ref sig .tc := ⟨.hbm, 48, rfl⟩
abbrev main_v6 : Ref sig .tc := ⟨.hbm, 49, rfl⟩
abbrev main_v7 : Ref sig .tc := ⟨.hbm, 50, rfl⟩
abbrev main_cst_1 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_2 : Ref sig .tc := ⟨.hbm, 55, rfl⟩
abbrev main_v11 : Ref sig .tc := ⟨.hbm, 56, rfl⟩
abbrev main_v12 : Ref sig .tc := ⟨.hbm, 57, rfl⟩
abbrev main_cst_3 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_cst_4 : Ref sig .tc := ⟨.hbm, 72, rfl⟩
abbrev main_v26 : Ref sig .tc := ⟨.hbm, 73, rfl⟩
abbrev main_v27 : Ref sig .tc := ⟨.hbm, 74, rfl⟩
abbrev main_cst_5 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_cst_6 : Ref sig .tc := ⟨.hbm, 86, rfl⟩
abbrev main_v38 : Ref sig .tc := ⟨.hbm, 87, rfl⟩
abbrev main_v39 : Ref sig .tc := ⟨.hbm, 88, rfl⟩
abbrev main_cst_7 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43_0 : Ref sig .tc := ⟨.hbm, 93, rfl⟩
abbrev main_v43_1 : Ref sig .tc := ⟨.hbm, 94, rfl⟩
abbrev main_v43_2 : Ref sig .tc := ⟨.hbm, 95, rfl⟩
abbrev main_v43_3 : Ref sig .tc := ⟨.hbm, 96, rfl⟩
abbrev main_v43_4 : Ref sig .tc := ⟨.hbm, 97, rfl⟩
abbrev main_v43_5 : Ref sig .tc := ⟨.hbm, 98, rfl⟩
abbrev main_v43_6 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x11264 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== InProjRefIdeal.lean ====
abbrev S32x2048x1024 : Shape := ⟨3, ![32, 2048, 1024]⟩
abbrev S32x6x1024 : Shape := ⟨3, ![32, 6, 1024]⟩
abbrev S1024 : Shape := ⟨1, ![1024]⟩
abbrev S1024x11264 : Shape := ⟨2, ![1024, 11264]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S32x6x1x1024 : Shape := ⟨4, ![32, 6, 1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x1x1x1024 : Shape := ⟨4, ![32, 1, 1, 1024]⟩
abbrev S32x1x1024 : Shape := ⟨3, ![32, 1, 1024]⟩
abbrev S32x2048x11264 : Shape := ⟨3, ![32, 2048, 11264]⟩
abbrev S32x2048x2048 : Shape := ⟨3, ![32, 2048, 2048]⟩
abbrev S32x2048x8x128 : Shape := ⟨4, ![32, 2048, 8, 128]⟩
abbrev S32x2048x8x64 : Shape := ⟨4, ![32, 2048, 8, 64]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S32x2048x8x32 : Shape := ⟨4, ![32, 2048, 8, 32]⟩
abbrev S1x2048x1x32 : Shape := ⟨4, ![1, 2048, 1, 32]⟩

abbrev nBuf : Space → Nat
  | .hbm => 252
  | .vmem => 0
  | .smem => 0
  | _ => 0

abbrev hbmTy0_0 (i : Nat) : BufTy := match i % 128 with
  | 0 => ⟨S32x2048x1024, .f32⟩
  | 1 => ⟨S32x6x1024, .f32⟩
  | 2 => ⟨S1024, .f32⟩
  | 3 => ⟨S1024x11264, .bf16⟩
  | 4 => ⟨S32, .i32⟩
  | 5 => ⟨S32x1, .i32⟩
  | 6 => ⟨S32x64, .i32⟩
  | 7 => ⟨S2048, .i32⟩
  | 8 => ⟨S64, .i32⟩
  | 9 => ⟨S1x64, .i32⟩
  | 10 => ⟨S32x64, .i32⟩
  | 11 => ⟨S2048, .i32⟩
  | 12 => ⟨S32x6x1x1024, .f32⟩
  | 13 => ⟨S32x2048x1024, .f32⟩
  | 14 => ⟨S_, .f32⟩
  | 15 => ⟨S32x2048, .f32⟩
  | 16 => ⟨S32x2048x1, .f32⟩
  | 17 => ⟨S_, .f32⟩
  | 18 => ⟨S32x2048x1, .f32⟩
  | 19 => ⟨S32x2048x1, .f32⟩
  | 20 => ⟨S_, .f32⟩
  | 21 => ⟨S32x2048x1, .f32⟩
  | 22 => ⟨S32x2048x1, .f32⟩
  | 23 => ⟨S32x2048x1, .f32⟩
  | 24 => ⟨S32x2048x1024, .f32⟩
  | 25 => ⟨S32x2048x1024, .f32⟩
  | 26 => ⟨S1x1x1024, .f32⟩
  | 27 => ⟨S32x2048x1024, .f32⟩
  | 28 => ⟨S32x2048x1024, .f32⟩
  | 29 => ⟨S32x1x1x1024, .f32⟩
  | 30 => ⟨S32x1x1024, .f32⟩
  | 31 => ⟨S32x1x1x1024, .f32⟩
  | 32 => ⟨S32x1x1024, .f32⟩
  | 33 => ⟨S_, .f32⟩
  | 34 => ⟨S32x1x1024, .f32⟩
  | 35 => ⟨S32x1x1024, .f32⟩
  | 36 => ⟨S32x2048x1024, .f32⟩
  | 37 => ⟨S32x2048x1024, .f32⟩
  | 38 => ⟨S32x2048x1024, .f32⟩
  | 39 => ⟨S32x2048x1024, .f32⟩
  | 40 => ⟨S1024x11264, .f32⟩
  | 41 => ⟨S32x2048x11264, .f32⟩
  | 42 => ⟨S32x2048x1024, .f32⟩
  | 43 => ⟨S32x2048x1024, .f32⟩
  | 44 => ⟨S32x2048x2048, .f32⟩
  | 45 => ⟨S32x2048x2048, .f32⟩
  | 46 => ⟨S32x2048x1024, .f32⟩
  | 47 => ⟨S32x2048x1024, .f32⟩
  | 48 => ⟨S32x2048x1024, .f32⟩
  | 49 => ⟨S32x2048x2048, .f32⟩
  | 50 => ⟨S32x2048x8x128, .f32⟩
  | 51 => ⟨S32x2048x8x64, .f32⟩
  | 52 => ⟨S32, .f32⟩
  | 53 => ⟨S_, .f32⟩
  | 54 => ⟨S32, .f32⟩
  | 55 => ⟨S32, .f32⟩
  | 56 => ⟨S_, .f32⟩
  | 57 => ⟨S32, .f32⟩
  | 58 => ⟨S32, .f32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S2048, .f32⟩
  | 67 => ⟨S2048x1, .f32⟩
  | 68 => ⟨S1x32, .f32⟩
  | 69 => ⟨S2048x32, .f32⟩
  | 70 => ⟨S2048x32, .f32⟩
  | 71 => ⟨S2048x32, .f32⟩
  | 72 => ⟨S2048x32, .f32⟩
  | 73 => ⟨S2048x1x32, .f32⟩
  | 74 => ⟨S2048x32, .f32⟩
  | 75 => ⟨S2048x1x32, .f32⟩
  | 76 => ⟨S32x2048x8x32, .f32⟩
  | 77 => ⟨S32x2048x8x32, .f32⟩
  | 78 => ⟨S1x2048x1x32, .f32⟩
  | 79 => ⟨S32x2048x8x32, .f32⟩
  | 80 => ⟨S32x2048x8x32, .f32⟩
  | 81 => ⟨S1x2048x1x32, .f32⟩
  | 82 => ⟨S32x2048x8x32, .f32⟩
  | 83 => ⟨S32x2048x8x32, .f32⟩
  | 84 => ⟨S32x2048x8x32, .f32⟩
  | 85 => ⟨S1x2048x1x32, .f32⟩
  | 86 => ⟨S32x2048x8x32, .f32⟩
  | 87 => ⟨S32x2048x8x32, .f32⟩
  | 88 => ⟨S1x2048x1x32, .f32⟩
  | 89 => ⟨S32x2048x8x32, .f32⟩
  | 90 => ⟨S32x2048x8x32, .f32⟩
  | 91 => ⟨S32x2048x8x32, .f32⟩
  | 92 => ⟨S32x2048x8x64, .f32⟩
  | 93 => ⟨S32x2048x8x64, .f32⟩
  | 94 => ⟨S32, .f32⟩
  | 95 => ⟨S_, .f32⟩
  | 96 => ⟨S32, .f32⟩
  | 97 => ⟨S32, .f32⟩
  | 98 => ⟨S_, .f32⟩
  | 99 => ⟨S32, .f32⟩
  | 100 => ⟨S32, .f32⟩
  | 101 => ⟨S32, .f32⟩
  | 102 => ⟨S_, .f32⟩
  | 103 => ⟨S32, .f32⟩
  | 104 => ⟨S32, .f32⟩
  | 105 => ⟨S_, .f32⟩
  | 106 => ⟨S32, .f32⟩
  | 107 => ⟨S32, .f32⟩
  | 108 => ⟨S2048, .f32⟩
  | 109 => ⟨S2048x1, .f32⟩
  | 110 => ⟨S1x32, .f32⟩
  | 111 => ⟨S2048x32, .f32⟩
  | 112 => ⟨S2048x32, .f32⟩
  | 113 => ⟨S2048x32, .f32⟩
  | 114 => ⟨S2048x32, .f32⟩
  | 115 => ⟨S2048x1x32, .f32⟩
  | 116 => ⟨S2048x32, .f32⟩
  | 117 => ⟨S2048x1x32, .f32⟩
  | 118 => ⟨S32x2048x8x32, .f32⟩
  | 119 => ⟨S32x2048x8x32, .f32⟩
  | 120 => ⟨S1x2048x1x32, .f32⟩
  | 121 => ⟨S32x2048x8x32, .f32⟩
  | 122 => ⟨S32x2048x8x32, .f32⟩
  | 123 => ⟨S1x2048x1x32, .f32⟩
  | 124 => ⟨S32x2048x8x32, .f32⟩
  | 125 => ⟨S32x2048x8x32, .f32⟩
  | 126 => ⟨S32x2048x8x32, .f32⟩
  | 127 => ⟨S1x2048x1x32, .f32⟩
  | _ => ⟨S32x2048x1024, .f32⟩

abbrev hbmTy0_1 (i : Nat) : BufTy := match i % 128 with
  | 0 => ⟨S32x2048x8x32, .f32⟩
  | 1 => ⟨S32x2048x8x32, .f32⟩
  | 2 => ⟨S1x2048x1x32, .f32⟩
  | 3 => ⟨S32x2048x8x32, .f32⟩
  | 4 => ⟨S32x2048x8x32, .f32⟩
  | 5 => ⟨S32x2048x8x32, .f32⟩
  | 6 => ⟨S32x2048x8x64, .f32⟩
  | 7 => ⟨S32x2048x8x128, .f32⟩
  | 8 => ⟨S32x2048x1024, .f32⟩
  | 9 => ⟨S32x2048x8x128, .f32⟩
  | 10 => ⟨S_, .f32⟩
  | 11 => ⟨S32x2048x8x128, .f32⟩
  | 12 => ⟨S32x2048x8x128, .f32⟩
  | 13 => ⟨S32x2048x8x64, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S2048, .f32⟩
  | 29 => ⟨S2048x1, .f32⟩
  | 30 => ⟨S1x32, .f32⟩
  | 31 => ⟨S2048x32, .f32⟩
  | 32 => ⟨S2048x32, .f32⟩
  | 33 => ⟨S2048x32, .f32⟩
  | 34 => ⟨S2048x32, .f32⟩
  | 35 => ⟨S2048x1x32, .f32⟩
  | 36 => ⟨S2048x32, .f32⟩
  | 37 => ⟨S2048x1x32, .f32⟩
  | 38 => ⟨S32x2048x8x32, .f32⟩
  | 39 => ⟨S32x2048x8x32, .f32⟩
  | 40 => ⟨S1x2048x1x32, .f32⟩
  | 41 => ⟨S32x2048x8x32, .f32⟩
  | 42 => ⟨S32x2048x8x32, .f32⟩
  | 43 => ⟨S1x2048x1x32, .f32⟩
  | 44 => ⟨S32x2048x8x32, .f32⟩
  | 45 => ⟨S32x2048x8x32, .f32⟩
  | 46 => ⟨S32x2048x8x32, .f32⟩
  | 47 => ⟨S1x2048x1x32, .f32⟩
  | 48 => ⟨S32x2048x8x32, .f32⟩
  | 49 => ⟨S32x2048x8x32, .f32⟩
  | 50 => ⟨S1x2048x1x32, .f32⟩
  | 51 => ⟨S32x2048x8x32, .f32⟩
  | 52 => ⟨S32x2048x8x32, .f32⟩
  | 53 => ⟨S32x2048x8x32, .f32⟩
  | 54 => ⟨S32x2048x8x64, .f32⟩
  | 55 => ⟨S32x2048x8x64, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S32, .f32⟩
  | 64 => ⟨S_, .f32⟩
  | 65 => ⟨S32, .f32⟩
  | 66 => ⟨S32, .f32⟩
  | 67 => ⟨S_, .f32⟩
  | 68 => ⟨S32, .f32⟩
  | 69 => ⟨S32, .f32⟩
  | 70 => ⟨S2048, .f32⟩
  | 71 => ⟨S2048x1, .f32⟩
  | 72 => ⟨S1x32, .f32⟩
  | 73 => ⟨S2048x32, .f32⟩
  | 74 => ⟨S2048x32, .f32⟩
  | 75 => ⟨S2048x32, .f32⟩
  | 76 => ⟨S2048x32, .f32⟩
  | 77 => ⟨S2048x1x32, .f32⟩
  | 78 => ⟨S2048x32, .f32⟩
  | 79 => ⟨S2048x1x32, .f32⟩
  | 80 => ⟨S32x2048x8x32, .f32⟩
  | 81 => ⟨S32x2048x8x32, .f32⟩
  | 82 => ⟨S1x2048x1x32, .f32⟩
  | 83 => ⟨S32x2048x8x32, .f32⟩
  | 84 => ⟨S32x2048x8x32, .f32⟩
  | 85 => ⟨S1x2048x1x32, .f32⟩
  | 86 => ⟨S32x2048x8x32, .f32⟩
  | 87 => ⟨S32x2048x8x32, .f32⟩
  | 88 => ⟨S32x2048x8x32, .f32⟩
  | 89 => ⟨S1x2048x1x32, .f32⟩
  | 90 => ⟨S32x2048x8x32, .f32⟩
  | 91 => ⟨S32x2048x8x32, .f32⟩
  | 92 => ⟨S1x2048x1x32, .f32⟩
  | 93 => ⟨S32x2048x8x32, .f32⟩
  | 94 => ⟨S32x2048x8x32, .f32⟩
  | 95 => ⟨S32x2048x8x32, .f32⟩
  | 96 => ⟨S32x2048x8x64, .f32⟩
  | 97 => ⟨S32x2048x8x128, .f32⟩
  | 98 => ⟨S32x2048x1024, .f32⟩
  | 99 => ⟨S32x2048x1024, .bf16⟩
  | 100 => ⟨S32x2048x1024, .bf16⟩
  | 101 => ⟨S32x2048x2048, .bf16⟩
  | 102 => ⟨S32x2048x2048, .f32⟩
  | 103 => ⟨S32x2048x2048, .f32⟩
  | 104 => ⟨S_, .f32⟩
  | 105 => ⟨S32x2048x2048, .f32⟩
  | 106 => ⟨S32x2048x2048, .f32⟩
  | 107 => ⟨S_, .f32⟩
  | 108 => ⟨S32x2048x2048, .f32⟩
  | 109 => ⟨S32x2048x2048, .f32⟩
  | 110 => ⟨S32x2048x2048, .f32⟩
  | 111 => ⟨S32x2048x2048, .bf16⟩
  | 112 => ⟨S32x2048x1024, .bf16⟩
  | 113 => ⟨S32x2048x1024, .f32⟩
  | 114 => ⟨S32x2048x1024, .bf16⟩
  | 115 => ⟨S32x2048x2048, .f32⟩
  | 116 => ⟨S32x2048x2048, .f32⟩
  | 117 => ⟨S_, .f32⟩
  | 118 => ⟨S32x2048x2048, .f32⟩
  | 119 => ⟨S32x2048x2048, .f32⟩
  | 120 => ⟨S_, .f32⟩
  | 121 => ⟨S32x2048x2048, .f32⟩
  | 122 => ⟨S32x2048x2048, .f32⟩
  | 123 => ⟨S32x2048x2048, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_3 : Ref sig .tc := ⟨.hbm, 53, rfl⟩
abbrev main_v45 : Ref sig .tc := ⟨.hbm, 54, rfl⟩
abbrev main_v46 : Ref sig .tc := ⟨.hbm, 55, rfl⟩
abbrev main_cst_4 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_5 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_cst_7 : Ref sig .tc := ⟨.hbm, 95, rfl⟩
abbrev main_v83 : Ref sig .tc := ⟨.hbm, 96, rfl⟩
abbrev main_v84 : Ref sig .tc := ⟨.hbm, 97, rfl⟩
abbrev main_cst_8 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_cst_9 : Ref sig .tc := ⟨.hbm, 102, rfl⟩
abbrev main_v88 : Ref sig .tc := ⟨.hbm, 103, rfl⟩
abbrev main_v89 : Ref sig .tc := ⟨.hbm, 104, rfl⟩
abbrev main_cst_10 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_cst_11 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_cst_12 : Ref sig .tc := ⟨.hbm, 143, rfl⟩
abbrev main_v126 : Ref sig .tc := ⟨.hbm, 144, rfl⟩
abbrev main_v127 : Ref sig .tc := ⟨.hbm, 145, rfl⟩
abbrev main_cst_13 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_cst_14 : Ref sig .tc := ⟨.hbm, 150, rfl⟩
abbrev main_v131 : Ref sig .tc := ⟨.hbm, 151, rfl⟩
abbrev main_v132 : Ref sig .tc := ⟨.hbm, 152, rfl⟩
abbrev main_cst_15 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_cst_16 : Ref sig .tc := ⟨.hbm, 185, rfl⟩
abbrev main_v164 : Ref sig .tc := ⟨.hbm, 186, rfl⟩
abbrev main_v165 : Ref sig .tc := ⟨.hbm, 187, rfl⟩
abbrev main_cst_17 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_cst_18 : Ref sig .tc := ⟨.hbm, 192, rfl⟩
abbrev main_v169 : Ref sig .tc := ⟨.hbm, 193, rfl⟩
abbrev main_v170 : Ref sig .tc := ⟨.hbm, 194, rfl⟩
abbrev main_cst_19 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_call0_v0 : Ref sig .tc := ⟨.hbm, 230, rfl⟩
abbrev main_call0_v1 : Ref sig .tc := ⟨.hbm, 231, rfl⟩
abbrev main_call0_cst : Ref sig .tc := ⟨.hbm, 232, rfl⟩
abbrev main_call0_v2 : Ref sig .tc := ⟨.hbm, 233, rfl⟩
abbrev main_call0_v3 : Ref sig .tc := ⟨.hbm, 234, rfl⟩
abbrev main_call0_cst_0 : Ref sig .tc := ⟨.hbm, 235, rfl⟩
abbrev main_call0_v4 : Ref sig .tc := ⟨.hbm, 236, rfl⟩
abbrev main_call0_v5 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_cst_20 : Ref sig .tc := ⟨.hbm, 245, rfl⟩
abbrev main_v212 : Ref sig .tc := ⟨.hbm, 246, rfl⟩
abbrev main_v213 : Ref sig .tc := ⟨.hbm, 247, rfl⟩
abbrev main_cst_21 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩

abbrev nD : Nat := 1
abbrev τ : Topo := Topo.v7x

variable {F : FTy → Type} [FloatOps F]
-- ==== MergeFirst.lean ====
abbrev S32x2048x2048 : Shape := ⟨3, ![32, 2048, 2048]⟩
abbrev S32x2048x1024 : Shape := ⟨3, ![32, 2048, 1024]⟩
abbrev S32x6x1024 : Shape := ⟨3, ![32, 6, 1024]⟩
abbrev S1024 : Shape := ⟨1, ![1024]⟩
abbrev S2048x1024 : Shape := ⟨2, ![2048, 1024]⟩
abbrev S1024x1024 : Shape := ⟨2, ![1024, 1024]⟩
abbrev S1024x5632 : Shape := ⟨2, ![1024, 5632]⟩
abbrev S2816x1024 : Shape := ⟨2, ![2816, 1024]⟩
abbrev S1x1024 : Shape := ⟨2, ![1, 1024]⟩
abbrev S1x256x2048 : Shape := ⟨3, ![1, 256, 2048]⟩
abbrev S1x256x1024 : Shape := ⟨3, ![1, 256, 1024]⟩
abbrev S1x6x1024 : Shape := ⟨3, ![1, 6, 1024]⟩
abbrev S256x2048 : Shape := ⟨2, ![256, 2048]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 15
  | .vmem => 19
  | .smem => 0
  | _ => 0

abbrev bufTy : (tb : Table) → Fin (tcTables nBuf tb) → BufTy
  | .hbm, ⟨0, _⟩ => ⟨S32x2048x2048, .bf16⟩
  | .hbm, ⟨1, _⟩ => ⟨S32x2048x1024, .bf16⟩
  | .hbm, ⟨2, _⟩ => ⟨S32x2048x2048, .bf16⟩
  | .hbm, ⟨3, _⟩ => ⟨S32x2048x1024, .f32⟩
  | .hbm, ⟨4, _⟩ => ⟨S32x6x1024, .f32⟩
  | .hbm, ⟨5, _⟩ => ⟨S1024, .f32⟩
  | .hbm, ⟨6, _⟩ => ⟨S2048x1024, .bf16⟩
  | .hbm, ⟨7, _⟩ => ⟨S1024x1024, .bf16⟩
  | .hbm, ⟨8, _⟩ => ⟨S1024x1024, .bf16⟩
  | .hbm, ⟨9, _⟩ => ⟨S1024x5632, .bf16⟩
  | .hbm, ⟨10, _⟩ => ⟨S2816x1024, .bf16⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S32x2048x1024, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x1024, .f32⟩
  | .local _ .vmem, ⟨7, _⟩ => ⟨S1x256x1024, .f32⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S2048x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x5632, .bf16⟩
  | .local _ .vmem, ⟨15, _⟩ => ⟨S2816x1024, .bf16⟩
  | .local _ .vmem, ⟨16, _⟩ => ⟨S1x1024, .f32⟩
  | .local _ .vmem, ⟨17, _⟩ => ⟨S1x256x1024, .f32⟩
  | .local _ .vmem, ⟨18, _⟩ => ⟨S1x256x1024, .f32⟩
  | _, _ => ⟨S32x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeFirstRefIdeal.lean ====
abbrev S32x2048x2048 : Shape := ⟨3, ![32, 2048, 2048]⟩
abbrev S32x2048x1024 : Shape := ⟨3, ![32, 2048, 1024]⟩
abbrev S32x6x1024 : Shape := ⟨3, ![32, 6, 1024]⟩
abbrev S1024 : Shape := ⟨1, ![1024]⟩
abbrev S2048x1024 : Shape := ⟨2, ![2048, 1024]⟩
abbrev S1024x1024 : Shape := ⟨2, ![1024, 1024]⟩
abbrev S1024x5632 : Shape := ⟨2, ![1024, 5632]⟩
abbrev S2816x1024 : Shape := ⟨2, ![2816, 1024]⟩
abbrev S32x6x1x1024 : Shape := ⟨4, ![32, 6, 1, 1024]⟩
abbrev S32x1x1x1024 : Shape := ⟨4, ![32, 1, 1, 1024]⟩
abbrev S32x1x1024 : Shape := ⟨3, ![32, 1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2048x2816 : Shape := ⟨3, ![32, 2048, 2816]⟩

abbrev nBuf : Space → Nat
  | .hbm => 80
  | .vmem => 0
  | .smem => 0
  | _ => 0

abbrev bufTy : (tb : Table) → Fin (tcTables nBuf tb) → BufTy
  | .hbm, ⟨0, _⟩ => ⟨S32x2048x2048, .bf16⟩
  | .hbm, ⟨1, _⟩ => ⟨S32x2048x1024, .bf16⟩
  | .hbm, ⟨2, _⟩ => ⟨S32x2048x2048, .bf16⟩
  | .hbm, ⟨3, _⟩ => ⟨S32x2048x1024, .f32⟩
  | .hbm, ⟨4, _⟩ => ⟨S32x6x1024, .f32⟩
  | .hbm, ⟨5, _⟩ => ⟨S1024, .f32⟩
  | .hbm, ⟨6, _⟩ => ⟨S2048x1024, .bf16⟩
  | .hbm, ⟨7, _⟩ => ⟨S1024x1024, .bf16⟩
  | .hbm, ⟨8, _⟩ => ⟨S1024x1024, .bf16⟩
  | .hbm, ⟨9, _⟩ => ⟨S1024x5632, .bf16⟩
  | .hbm, ⟨10, _⟩ => ⟨S2816x1024, .bf16⟩
  | .hbm, ⟨11, _⟩ => ⟨S1024, .f32⟩
  | .hbm, ⟨12, _⟩ => ⟨S32x2048x2048, .f32⟩
  | .hbm, ⟨13, _⟩ => ⟨S2048x1024, .f32⟩
  | .hbm, ⟨14, _⟩ => ⟨S32x2048x1024, .f32⟩
  | .hbm, ⟨15, _⟩ => ⟨S32x2048x1024, .f32⟩
  | .hbm, ⟨16, _⟩ => ⟨S1024x1024, .f32⟩
  | .hbm, ⟨17, _⟩ => ⟨S32x2048x1024, .f32⟩
  | .hbm, ⟨18, _⟩ => ⟨S32x2048x2048, .f32⟩
  | .hbm, ⟨19, _⟩ => ⟨S32x2048x1024, .f32⟩
  | .hbm, ⟨20, _⟩ => ⟨S32x2048x1024, .f32⟩
  | .hbm, ⟨21, _⟩ => ⟨S32x2048x1024, .f32⟩
  | .hbm, ⟨22, _⟩ => ⟨S32x2048x1024, .f32⟩
  | .hbm, ⟨23, _⟩ => ⟨S32x2048x1024, .f32⟩
  | .hbm, ⟨24, _⟩ => ⟨S1024x1024, .f32⟩
  | .hbm, ⟨25, _⟩ => ⟨S32x2048x1024, .f32⟩
  | .hbm, ⟨26, _⟩ => ⟨S32x6x1x1024, .f32⟩
  | .hbm, ⟨27, _⟩ => ⟨S32x1x1x1024, .f32⟩
  | .hbm, ⟨28, _⟩ => ⟨S32x1x1024, .f32⟩
  | .hbm, ⟨29, _⟩ => ⟨S32x2048x1024, .f32⟩
  | .hbm, ⟨30, _⟩ => ⟨S32x2048x1024, .f32⟩
  | .hbm, ⟨31, _⟩ => ⟨S32x2048x1024, .f32⟩
  | .hbm, ⟨32, _⟩ => ⟨S32x2048x1024, .f32⟩
  | .hbm, ⟨33, _⟩ => ⟨S_, .f32⟩
  | .hbm, ⟨34, _⟩ => ⟨S32x2048, .f32⟩
  | .hbm, ⟨35, _⟩ => ⟨S32x2048x1, .f32⟩
  | .hbm, ⟨36, _⟩ => ⟨S_, .f32⟩
  | .hbm, ⟨37, _⟩ => ⟨S32x2048x1, .f32⟩
  | .hbm, ⟨38, _⟩ => ⟨S32x2048x1, .f32⟩
  | .hbm, ⟨39, _⟩ => ⟨S_, .f32⟩
  | .hbm, ⟨40, _⟩ => ⟨S32x2048x1, .f32⟩
  | .hbm, ⟨41, _⟩ => ⟨S32x2048x1, .f32⟩
  | .hbm, ⟨42, _⟩ => ⟨S32x2048x1, .f32⟩
  | .hbm, ⟨43, _⟩ => ⟨S32x2048x1024, .f32⟩
  | .hbm, ⟨44, _⟩ => ⟨S32x2048x1024, .f32⟩
  | .hbm, ⟨45, _⟩ => ⟨S1x1x1024, .f32⟩
  | .hbm, ⟨46, _⟩ => ⟨S32x2048x1024, .f32⟩
  | .hbm, ⟨47, _⟩ => ⟨S32x2048x1024, .f32⟩
  | .hbm, ⟨48, _⟩ => ⟨S32x1x1x1024, .f32⟩
  | .hbm, ⟨49, _⟩ => ⟨S32x1x1024, .f32⟩
  | .hbm, ⟨50, _⟩ => ⟨S32x1x1x1024, .f32⟩
  | .hbm, ⟨51, _⟩ => ⟨S32x1x1024, .f32⟩
  | .hbm, ⟨52, _⟩ => ⟨S_, .f32⟩
  | .hbm, ⟨53, _⟩ => ⟨S32x1x1024, .f32⟩
  | .hbm, ⟨54, _⟩ => ⟨S32x1x1024, .f32⟩
  | .hbm, ⟨55, _⟩ => ⟨S32x2048x1024, .f32⟩
  | .hbm, ⟨56, _⟩ => ⟨S32x2048x1024, .f32⟩
  | .hbm, ⟨57, _⟩ => ⟨S32x2048x1024, .f32⟩
  | .hbm, ⟨58, _⟩ => ⟨S32x2048x1024, .f32⟩
  | .hbm, ⟨59, _⟩ => ⟨S32x1x1x1024, .f32⟩
  | .hbm, ⟨60, _⟩ => ⟨S32x1x1024, .f32⟩
  | .hbm, ⟨61, _⟩ => ⟨S1024x5632, .f32⟩
  | .hbm, ⟨62, _⟩ => ⟨S2816x1024, .f32⟩
  | .hbm, ⟨63, _⟩ => ⟨S32x2048x5632, .f32⟩
  | .hbm, ⟨64, _⟩ => ⟨S32x2048x2816, .f32⟩
  | .hbm, ⟨65, _⟩ => ⟨S32x2048x2816, .f32⟩
  | .hbm, ⟨66, _⟩ => ⟨S32x2048x2816, .f32⟩
  | .hbm, ⟨67, _⟩ => ⟨S32x2048x2816, .f32⟩
  | .hbm, ⟨68, _⟩ => ⟨S_, .f32⟩
  | .hbm, ⟨69, _⟩ => ⟨S32x2048x2816, .f32⟩
  | .hbm, ⟨70, _⟩ => ⟨S32x2048x2816, .f32⟩
  | .hbm, ⟨71, _⟩ => ⟨S_, .f32⟩
  | .hbm, ⟨72, _⟩ => ⟨S32x2048x2816, .f32⟩
  | .hbm, ⟨73, _⟩ => ⟨S32x2048x2816, .f32⟩
  | .hbm, ⟨74, _⟩ => ⟨S32x2048x2816, .f32⟩
  | .hbm, ⟨75, _⟩ => ⟨S32x2048x2816, .f32⟩
  | .hbm, ⟨76, _⟩ => ⟨S32x2048x1024, .f32⟩
  | .hbm, ⟨77, _⟩ => ⟨S32x2048x1024, .f32⟩
  | .hbm, ⟨78, _⟩ => ⟨S32x2048x1024, .f32⟩
  | .hbm, ⟨79, _⟩ => ⟨S32x2048x1024, .f32⟩
  | _, _ => ⟨S32x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_2 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩

abbrev nD : Nat := 1
abbrev τ : Topo := Topo.v7x

variable {F : FTy → Type} [FloatOps F]
-- ==== MergeCtx.lean ====
abbrev S32x256x2048 : Shape := ⟨3, ![32, 256, 2048]⟩
abbrev S32x256x1024 : Shape := ⟨3, ![32, 256, 1024]⟩
abbrev S1x6x1024 : Shape := ⟨3, ![1, 6, 1024]⟩
abbrev S1024 : Shape := ⟨1, ![1024]⟩
abbrev S2048x1024 : Shape := ⟨2, ![2048, 1024]⟩
abbrev S1024x1024 : Shape := ⟨2, ![1024, 1024]⟩
abbrev S1024x5632 : Shape := ⟨2, ![1024, 5632]⟩
abbrev S2816x1024 : Shape := ⟨2, ![2816, 1024]⟩
abbrev S1x1024 : Shape := ⟨2, ![1, 1024]⟩
abbrev S1x256x2048 : Shape := ⟨3, ![1, 256, 2048]⟩
abbrev S1x256x1024 : Shape := ⟨3, ![1, 256, 1024]⟩
abbrev S256x2048 : Shape := ⟨2, ![256, 2048]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 15
  | .vmem => 18
  | .smem => 0
  | _ => 0

abbrev bufTy : (tb : Table) → Fin (tcTables nBuf tb) → BufTy
  | .hbm, ⟨0, _⟩ => ⟨S32x256x2048, .bf16⟩
  | .hbm, ⟨1, _⟩ => ⟨S32x256x1024, .bf16⟩
  | .hbm, ⟨2, _⟩ => ⟨S32x256x2048, .bf16⟩
  | .hbm, ⟨3, _⟩ => ⟨S32x256x1024, .f32⟩
  | .hbm, ⟨4, _⟩ => ⟨S1x6x1024, .f32⟩
  | .hbm, ⟨5, _⟩ => ⟨S1024, .f32⟩
  | .hbm, ⟨6, _⟩ => ⟨S2048x1024, .bf16⟩
  | .hbm, ⟨7, _⟩ => ⟨S1024x1024, .bf16⟩
  | .hbm, ⟨8, _⟩ => ⟨S1024x1024, .bf16⟩
  | .hbm, ⟨9, _⟩ => ⟨S1024x5632, .bf16⟩
  | .hbm, ⟨10, _⟩ => ⟨S2816x1024, .bf16⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S32x256x1024, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x1024, .f32⟩
  | .local _ .vmem, ⟨7, _⟩ => ⟨S1x256x1024, .f32⟩
  | .local _ .vmem, ⟨8, _⟩ => ⟨S1x6x1024, .f32⟩
  | .local _ .vmem, ⟨9, _⟩ => ⟨S1x1024, .f32⟩
  | .local _ .vmem, ⟨10, _⟩ => ⟨S2048x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x5632, .bf16⟩
  | .local _ .vmem, ⟨14, _⟩ => ⟨S2816x1024, .bf16⟩
  | .local _ .vmem, ⟨15, _⟩ => ⟨S1x1024, .f32⟩
  | .local _ .vmem, ⟨16, _⟩ => ⟨S1x256x1024, .f32⟩
  | .local _ .vmem, ⟨17, _⟩ => ⟨S1x256x1024, .f32⟩
  | _, _ => ⟨S32x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeCtxRefIdeal.lean ====
abbrev S32x256x2048 : Shape := ⟨3, ![32, 256, 2048]⟩
abbrev S32x256x1024 : Shape := ⟨3, ![32, 256, 1024]⟩
abbrev S1x6x1024 : Shape := ⟨3, ![1, 6, 1024]⟩
abbrev S1024 : Shape := ⟨1, ![1024]⟩
abbrev S2048x1024 : Shape := ⟨2, ![2048, 1024]⟩
abbrev S1024x1024 : Shape := ⟨2, ![1024, 1024]⟩
abbrev S1024x5632 : Shape := ⟨2, ![1024, 5632]⟩
abbrev S2816x1024 : Shape := ⟨2, ![2816, 1024]⟩
abbrev S6x1024 : Shape := ⟨2, ![6, 1024]⟩
abbrev S1x1024 : Shape := ⟨2, ![1, 1024]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x5632 : Shape := ⟨3, ![32, 256, 5632]⟩
abbrev S32x256x2816 : Shape := ⟨3, ![32, 256, 2816]⟩

abbrev nBuf : Space → Nat
  | .hbm => 84
  | .vmem => 0
  | .smem => 0
  | _ => 0

abbrev bufTy : (tb : Table) → Fin (tcTables nBuf tb) → BufTy
  | .hbm, ⟨0, _⟩ => ⟨S32x256x2048, .bf16⟩
  | .hbm, ⟨1, _⟩ => ⟨S32x256x1024, .bf16⟩
  | .hbm, ⟨2, _⟩ => ⟨S32x256x2048, .bf16⟩
  | .hbm, ⟨3, _⟩ => ⟨S32x256x1024, .f32⟩
  | .hbm, ⟨4, _⟩ => ⟨S1x6x1024, .f32⟩
  | .hbm, ⟨5, _⟩ => ⟨S1024, .f32⟩
  | .hbm, ⟨6, _⟩ => ⟨S2048x1024, .bf16⟩
  | .hbm, ⟨7, _⟩ => ⟨S1024x1024, .bf16⟩
  | .hbm, ⟨8, _⟩ => ⟨S1024x1024, .bf16⟩
  | .hbm, ⟨9, _⟩ => ⟨S1024x5632, .bf16⟩
  | .hbm, ⟨10, _⟩ => ⟨S2816x1024, .bf16⟩
  | .hbm, ⟨11, _⟩ => ⟨S1024, .f32⟩
  | .hbm, ⟨12, _⟩ => ⟨S32x256x2048, .f32⟩
  | .hbm, ⟨13, _⟩ => ⟨S2048x1024, .f32⟩
  | .hbm, ⟨14, _⟩ => ⟨S32x256x1024, .f32⟩
  | .hbm, ⟨15, _⟩ => ⟨S32x256x1024, .f32⟩
  | .hbm, ⟨16, _⟩ => ⟨S1024x1024, .f32⟩
  | .hbm, ⟨17, _⟩ => ⟨S32x256x1024, .f32⟩
  | .hbm, ⟨18, _⟩ => ⟨S32x256x2048, .f32⟩
  | .hbm, ⟨19, _⟩ => ⟨S32x256x1024, .f32⟩
  | .hbm, ⟨20, _⟩ => ⟨S32x256x1024, .f32⟩
  | .hbm, ⟨21, _⟩ => ⟨S32x256x1024, .f32⟩
  | .hbm, ⟨22, _⟩ => ⟨S32x256x1024, .f32⟩
  | .hbm, ⟨23, _⟩ => ⟨S32x256x1024, .f32⟩
  | .hbm, ⟨24, _⟩ => ⟨S1024x1024, .f32⟩
  | .hbm, ⟨25, _⟩ => ⟨S32x256x1024, .f32⟩
  | .hbm, ⟨26, _⟩ => ⟨S6x1024, .f32⟩
  | .hbm, ⟨27, _⟩ => ⟨S1x1024, .f32⟩
  | .hbm, ⟨28, _⟩ => ⟨S1024, .f32⟩
  | .hbm, ⟨29, _⟩ => ⟨S1x1x1024, .f32⟩
  | .hbm, ⟨30, _⟩ => ⟨S32x256x1024, .f32⟩
  | .hbm, ⟨31, _⟩ => ⟨S32x256x1024, .f32⟩
  | .hbm, ⟨32, _⟩ => ⟨S32x256x1024, .f32⟩
  | .hbm, ⟨33, _⟩ => ⟨S32x256x1024, .f32⟩
  | .hbm, ⟨34, _⟩ => ⟨S_, .f32⟩
  | .hbm, ⟨35, _⟩ => ⟨S32x256, .f32⟩
  | .hbm, ⟨36, _⟩ => ⟨S32x256x1, .f32⟩
  | .hbm, ⟨37, _⟩ => ⟨S_, .f32⟩
  | .hbm, ⟨38, _⟩ => ⟨S32x256x1, .f32⟩
  | .hbm, ⟨39, _⟩ => ⟨S32x256x1, .f32⟩
  | .hbm, ⟨40, _⟩ => ⟨S_, .f32⟩
  | .hbm, ⟨41, _⟩ => ⟨S32x256x1, .f32⟩
  | .hbm, ⟨42, _⟩ => ⟨S32x256x1, .f32⟩
  | .hbm, ⟨43, _⟩ => ⟨S32x256x1, .f32⟩
  | .hbm, ⟨44, _⟩ => ⟨S32x256x1024, .f32⟩
  | .hbm, ⟨45, _⟩ => ⟨S32x256x1024, .f32⟩
  | .hbm, ⟨46, _⟩ => ⟨S1x1x1024, .f32⟩
  | .hbm, ⟨47, _⟩ => ⟨S32x256x1024, .f32⟩
  | .hbm, ⟨48, _⟩ => ⟨S32x256x1024, .f32⟩
  | .hbm, ⟨49, _⟩ => ⟨S1x1024, .f32⟩
  | .hbm, ⟨50, _⟩ => ⟨S1024, .f32⟩
  | .hbm, ⟨51, _⟩ => ⟨S1x1024, .f32⟩
  | .hbm, ⟨52, _⟩ => ⟨S1024, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S1x1x1024, .f32⟩
  | .hbm, ⟨57, _⟩ => ⟨S32x256x1024, .f32⟩
  | .hbm, ⟨58, _⟩ => ⟨S32x256x1024, .f32⟩
  | .hbm, ⟨59, _⟩ => ⟨S1x1x1024, .f32⟩
  | .hbm, ⟨60, _⟩ => ⟨S32x256x1024, .f32⟩
  | .hbm, ⟨61, _⟩ => ⟨S32x256x1024, .f32⟩
  | .hbm, ⟨62, _⟩ => ⟨S1x1024, .f32⟩
  | .hbm, ⟨63, _⟩ => ⟨S1024, .f32⟩
  | .hbm, ⟨64, _⟩ => ⟨S1024x5632, .f32⟩
  | .hbm, ⟨65, _⟩ => ⟨S2816x1024, .f32⟩
  | .hbm, ⟨66, _⟩ => ⟨S32x256x5632, .f32⟩
  | .hbm, ⟨67, _⟩ => ⟨S32x256x2816, .f32⟩
  | .hbm, ⟨68, _⟩ => ⟨S32x256x2816, .f32⟩
  | .hbm, ⟨69, _⟩ => ⟨S32x256x2816, .f32⟩
  | .hbm, ⟨70, _⟩ => ⟨S32x256x2816, .f32⟩
  | .hbm, ⟨71, _⟩ => ⟨S_, .f32⟩
  | .hbm, ⟨72, _⟩ => ⟨S32x256x2816, .f32⟩
  | .hbm, ⟨73, _⟩ => ⟨S32x256x2816, .f32⟩
  | .hbm, ⟨74, _⟩ => ⟨S_, .f32⟩
  | .hbm, ⟨75, _⟩ => ⟨S32x256x2816, .f32⟩
  | .hbm, ⟨76, _⟩ => ⟨S32x256x2816, .f32⟩
  | .hbm, ⟨77, _⟩ => ⟨S32x256x2816, .f32⟩
  | .hbm, ⟨78, _⟩ => ⟨S32x256x2816, .f32⟩
  | .hbm, ⟨79, _⟩ => ⟨S32x256x1024, .f32⟩
  | .hbm, ⟨80, _⟩ => ⟨S1x1x1024, .f32⟩
  | .hbm, ⟨81, _⟩ => ⟨S32x256x1024, .f32⟩
  | .hbm, ⟨82, _⟩ => ⟨S32x256x1024, .f32⟩
  | .hbm, ⟨83, _⟩ => ⟨S32x256x1024, .f32⟩
  | _, _ => ⟨S32x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_cst_0 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_2 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== InProjCtx.lean ====
abbrev S32x256x1024 : Shape := ⟨3, ![32, 256, 1024]⟩
abbrev S1x6x1024 : Shape := ⟨3, ![1, 6, 1024]⟩
abbrev S1024 : Shape := ⟨1, ![1024]⟩
abbrev S1024x11264 : Shape := ⟨2, ![1024, 11264]⟩
abbrev S_ : Shape := ⟨0, ![]⟩
abbrev S256x128 : Shape := ⟨2, ![256, 128]⟩
abbrev S1x1024 : Shape := ⟨2, ![1, 1024]⟩
abbrev S32x256x2048 : Shape := ⟨3, ![32, 256, 2048]⟩
abbrev S1x256x1024 : Shape := ⟨3, ![1, 256, 1024]⟩
abbrev S1x256x2048 : Shape := ⟨3, ![1, 256, 2048]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S1024x1024 : Shape := ⟨2, ![1024, 1024]⟩
abbrev S1x256x128 : Shape := ⟨3, ![1, 256, 128]⟩

abbrev nBuf : Space → Nat
  | .hbm => 19
  | .vmem => 23
  | .smem => 0
  | _ => 0

abbrev bufTy : (tb : Table) → Fin (tcTables nBuf tb) → BufTy
  | .hbm, ⟨0, _⟩ => ⟨S32x256x1024, .f32⟩
  | .hbm, ⟨1, _⟩ => ⟨S1x6x1024, .f32⟩
  | .hbm, ⟨2, _⟩ => ⟨S1024, .f32⟩
  | .hbm, ⟨3, _⟩ => ⟨S1024x11264, .bf16⟩
  | .hbm, ⟨4, _⟩ => ⟨S_, .f32⟩
  | .hbm, ⟨5, _⟩ => ⟨S256x128, .f32⟩
  | .hbm, ⟨6, _⟩ => ⟨S_, .f32⟩
  | .hbm, ⟨7, _⟩ => ⟨S256x128, .f32⟩
  | .hbm, ⟨8, _⟩ => ⟨S_, .f32⟩
  | .hbm, ⟨9, _⟩ => ⟨S256x128, .f32⟩
  | .hbm, ⟨10, _⟩ => ⟨S256x128, .f32⟩
  | .hbm, ⟨11, _⟩ => ⟨S1x1024, .f32⟩
  | .hbm, ⟨12, _⟩ => ⟨S32x256x1024, .bf16⟩
  | .hbm, ⟨13, _⟩ => ⟨S32x256x1024, .bf16⟩
  | .hbm, ⟨14, _⟩ => ⟨S32x256x2048, .bf16⟩
  | .hbm, ⟨15, _⟩ => ⟨S32x256x2048, .bf16⟩
  | .hbm, ⟨16, _⟩ => ⟨S32x256x1024, .bf16⟩
  | .hbm, ⟨17, _⟩ => ⟨S32x256x1024, .bf16⟩
  | .hbm, ⟨18, _⟩ => ⟨S32x256x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x1024, .f32⟩
  | .local _ .vmem, ⟨4, _⟩ => ⟨S1024x11264, .bf16⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x2048, .bf16⟩
  | .local _ .vmem, ⟨14, _⟩ => ⟨S1x256x2048, .bf16⟩
  | .local _ .vmem, ⟨15, _⟩ => ⟨S1x256x2048, .bf16⟩
  | .local _ .vmem, ⟨16, _⟩ => ⟨S1x256x2048, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256x1024, .bf16⟩
  | .local _ .vmem, ⟨21, _⟩ => ⟨S1x256x2048, .bf16⟩
  | .local _ .vmem, ⟨22, _⟩ => ⟨S1x256x2048, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_v5_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x11264 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== InProjCtxRefIdeal.lean ====
abbrev S32x256x1024 : Shape := ⟨3, ![32, 256, 1024]⟩
abbrev S1x6x1024 : Shape := ⟨3, ![1, 6, 1024]⟩
abbrev S1024 : Shape := ⟨1, ![1024]⟩
abbrev S1024x11264 : Shape := ⟨2, ![1024, 11264]⟩
abbrev S6x1024 : Shape := ⟨2, ![6, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S1x1024 : Shape := ⟨2, ![1, 1024]⟩
abbrev S32x256x11264 : Shape := ⟨3, ![32, 256, 11264]⟩
abbrev S32x256x2048 : Shape := ⟨3, ![32, 256, 2048]⟩

abbrev nBuf : Space → Nat
  | .hbm => 72
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1x6x1024, .f32⟩
  | .hbm, ⟨2, _⟩ => ⟨S1024, .f32⟩
  | .hbm, ⟨3, _⟩ => ⟨S1024x11264, .bf16⟩
  | .hbm, ⟨4, _⟩ => ⟨S6x1024, .f32⟩
  | .hbm, ⟨5, _⟩ => ⟨S32x256x1024, .f32⟩
  | .hbm, ⟨6, _⟩ => ⟨S_, .f32⟩
  | .hbm, ⟨7, _⟩ => ⟨S32x256, .f32⟩
  | .hbm, ⟨8, _⟩ => ⟨S32x256x1, .f32⟩
  | .hbm, ⟨9, _⟩ => ⟨S_, .f32⟩
  | .hbm, ⟨10, _⟩ => ⟨S32x256x1, .f32⟩
  | .hbm, ⟨11, _⟩ => ⟨S32x256x1, .f32⟩
  | .hbm, ⟨12, _⟩ => ⟨S_, .f32⟩
  | .hbm, ⟨13, _⟩ => ⟨S32x256x1, .f32⟩
  | .hbm, ⟨14, _⟩ => ⟨S32x256x1, .f32⟩
  | .hbm, ⟨15, _⟩ => ⟨S32x256x1, .f32⟩
  | .hbm, ⟨16, _⟩ => ⟨S32x256x1024, .f32⟩
  | .hbm, ⟨17, _⟩ => ⟨S32x256x1024, .f32⟩
  | .hbm, ⟨18, _⟩ => ⟨S1x1x1024, .f32⟩
  | .hbm, ⟨19, _⟩ => ⟨S32x256x1024, .f32⟩
  | .hbm, ⟨20, _⟩ => ⟨S32x256x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1x1024, .f32⟩
  | .hbm, ⟨29, _⟩ => ⟨S32x256x1024, .f32⟩
  | .hbm, ⟨30, _⟩ => ⟨S32x256x1024, .f32⟩
  | .hbm, ⟨31, _⟩ => ⟨S1x1x1024, .f32⟩
  | .hbm, ⟨32, _⟩ => ⟨S32x256x1024, .f32⟩
  | .hbm, ⟨33, _⟩ => ⟨S32x256x1024, .f32⟩
  | .hbm, ⟨34, _⟩ => ⟨S1024x11264, .f32⟩
  | .hbm, ⟨35, _⟩ => ⟨S32x256x11264, .f32⟩
  | .hbm, ⟨36, _⟩ => ⟨S32x256x1024, .f32⟩
  | .hbm, ⟨37, _⟩ => ⟨S32x256x1024, .f32⟩
  | .hbm, ⟨38, _⟩ => ⟨S32x256x2048, .f32⟩
  | .hbm, ⟨39, _⟩ => ⟨S32x256x2048, .f32⟩
  | .hbm, ⟨40, _⟩ => ⟨S32x256x1024, .f32⟩
  | .hbm, ⟨41, _⟩ => ⟨S32x256x1024, .f32⟩
  | .hbm, ⟨42, _⟩ => ⟨S32x256x1024, .f32⟩
  | .hbm, ⟨43, _⟩ => ⟨S32x256x2048, .f32⟩
  | .hbm, ⟨44, _⟩ => ⟨S_, .f32⟩
  | .hbm, ⟨45, _⟩ => ⟨S32x256x1024, .f32⟩
  | .hbm, ⟨46, _⟩ => ⟨S32x256x1024, .f32⟩
  | .hbm, ⟨47, _⟩ => ⟨S32x256x1024, .bf16⟩
  | .hbm, ⟨48, _⟩ => ⟨S32x256x1024, .bf16⟩
  | .hbm, ⟨49, _⟩ => ⟨S32x256x2048, .bf16⟩
  | .hbm, ⟨50, _⟩ => ⟨S32x256x2048, .f32⟩
  | .hbm, ⟨51, _⟩ => ⟨S32x256x2048, .f32⟩
  | .hbm, ⟨52, _⟩ => ⟨S_, .f32⟩
  | .hbm, ⟨53, _⟩ => ⟨S32x256x2048, .f32⟩
  | .hbm, ⟨54, _⟩ => ⟨S32x256x2048, .f32⟩
  | .hbm, ⟨55, _⟩ => ⟨S_, .f32⟩
  | .hbm, ⟨56, _⟩ => ⟨S32x256x2048, .f32⟩
  | .hbm, ⟨57, _⟩ => ⟨S32x256x2048, .f32⟩
  | .hbm, ⟨58, _⟩ => ⟨S32x256x2048, .f32⟩
  | .hbm, ⟨59, _⟩ => ⟨S32x256x2048, .bf16⟩
  | .hbm, ⟨60, _⟩ => ⟨S32x256x1024, .bf16⟩
  | .hbm, ⟨61, _⟩ => ⟨S32x256x1024, .f32⟩
  | .hbm, ⟨62, _⟩ => ⟨S32x256x1024, .bf16⟩
  | .hbm, ⟨63, _⟩ => ⟨S32x256x2048, .f32⟩
  | .hbm, ⟨64, _⟩ => ⟨S32x256x2048, .f32⟩
  | .hbm, ⟨65, _⟩ => ⟨S_, .f32⟩
  | .hbm, ⟨66, _⟩ => ⟨S32x256x2048, .f32⟩
  | .hbm, ⟨67, _⟩ => ⟨S32x256x2048, .f32⟩
  | .hbm, ⟨68, _⟩ => ⟨S_, .f32⟩
  | .hbm, ⟨69, _⟩ => ⟨S32x256x2048, .f32⟩
  | .hbm, ⟨70, _⟩ => ⟨S32x256x2048, .f32⟩
  | .hbm, ⟨71, _⟩ => ⟨S32x256x2048, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_4 : Ref sig .tc := ⟨.hbm, 65, rfl⟩
abbrev main_v48 : Ref sig .tc := ⟨.hbm, 66, rfl⟩
abbrev main_v49 : Ref sig .tc := ⟨.hbm, 67, rfl⟩
abbrev main_cst_5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Conv.lean ====
abbrev S32x2048x1024 : Shape := ⟨3, ![32, 2048, 1024]⟩
abbrev S3x1024 : Shape := ⟨2, ![3, 1024]⟩
abbrev S1x2048x256 : Shape := ⟨3, ![1, 2048, 256]⟩
abbrev S3x256 : Shape := ⟨2, ![3, 256]⟩
abbrev S2048x256 : Shape := ⟨2, ![2048, 256]⟩
abbrev S1x256 : Shape := ⟨2, ![1, 256]⟩

abbrev nBuf : Space → Nat
  | .hbm => 4
  | .vmem => 8
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .bf16⟩
  | .hbm, ⟨2, _⟩ => ⟨S3x1024, .f32⟩
  | .hbm, ⟨3, _⟩ => ⟨S32x2048x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S3x256, .f32⟩
  | .local _ .vmem, ⟨5, _⟩ => ⟨S3x256, .f32⟩
  | .local _ .vmem, ⟨6, _⟩ => ⟨S1x2048x256, .bf16⟩
  | .local _ .vmem, ⟨7, _⟩ => ⟨S1x2048x256, .bf16⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvIdeal.lean ====
abbrev S32x2048x1024 : Shape := ⟨3, ![32, 2048, 1024]⟩
abbrev S3x1024 : Shape := ⟨2, ![3, 1024]⟩
abbrev S1x2048x256 : Shape := ⟨3, ![1, 2048, 256]⟩
abbrev S3x256 : Shape := ⟨2, ![3, 256]⟩
abbrev S2048x256 : Shape := ⟨2, ![2048, 256]⟩
abbrev S1x256 : Shape := ⟨2, ![1, 256]⟩

abbrev nBuf : Space → Nat
  | .hbm => 4
  | .vmem => 8
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .bf16⟩
  | .hbm, ⟨2, _⟩ => ⟨S3x1024, .f32⟩
  | .hbm, ⟨3, _⟩ => ⟨S32x2048x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S3x256, .f32⟩
  | .local _ .vmem, ⟨5, _⟩ => ⟨S3x256, .f32⟩
  | .local _ .vmem, ⟨6, _⟩ => ⟨S1x2048x256, .bf16⟩
  | .local _ .vmem, ⟨7, _⟩ => ⟨S1x2048x256, .bf16⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvRefIdeal.lean ====
abbrev S32x2048x1024 : Shape := ⟨3, ![32, 2048, 1024]⟩
abbrev S3x1024 : Shape := ⟨2, ![3, 1024]⟩
abbrev S_ : Shape := ⟨0, ![]⟩
abbrev S32x2050x1024 : Shape := ⟨3, ![32, 2050, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .bf16⟩
  | .hbm, ⟨2, _⟩ => ⟨S3x1024, .f32⟩
  | .hbm, ⟨3, _⟩ => ⟨S32x2048x1024, .f32⟩
  | .hbm, ⟨4, _⟩ => ⟨S32x2048x1024, .f32⟩
  | .hbm, ⟨5, _⟩ => ⟨S_, .i32⟩
  | .hbm, ⟨6, _⟩ => ⟨S_, .f32⟩
  | .hbm, ⟨7, _⟩ => ⟨S32x2050x1024, .f32⟩
  | .hbm, ⟨8, _⟩ => ⟨S32x2048x1024, .f32⟩
  | .hbm, ⟨9, _⟩ => ⟨S1x1024, .f32⟩
  | .hbm, ⟨10, _⟩ => ⟨S1024, .f32⟩
  | .hbm, ⟨11, _⟩ => ⟨S1x1x1024, .f32⟩
  | .hbm, ⟨12, _⟩ => ⟨S32x2048x1024, .f32⟩
  | .hbm, ⟨13, _⟩ => ⟨S32x2048x1024, .f32⟩
  | .hbm, ⟨14, _⟩ => ⟨S32x2048x1024, .f32⟩
  | .hbm, ⟨15, _⟩ => ⟨S1x1024, .f32⟩
  | .hbm, ⟨16, _⟩ => ⟨S1024, .f32⟩
  | .hbm, ⟨17, _⟩ => ⟨S1x1x1024, .f32⟩
  | .hbm, ⟨18, _⟩ => ⟨S32x2048x1024, .f32⟩
  | .hbm, ⟨19, _⟩ => ⟨S32x2048x1024, .f32⟩
  | .hbm, ⟨20, _⟩ => ⟨S32x2048x1024, .f32⟩
  | .hbm, ⟨21, _⟩ => ⟨S32x2048x1024, .f32⟩
  | .hbm, ⟨22, _⟩ => ⟨S1x1024, .f32⟩
  | .hbm, ⟨23, _⟩ => ⟨S1024, .f32⟩
  | .hbm, ⟨24, _⟩ => ⟨S1x1x1024, .f32⟩
  | .hbm, ⟨25, _⟩ => ⟨S32x2048x1024, .f32⟩
  | .hbm, ⟨26, _⟩ => ⟨S32x2048x1024, .f32⟩
  | .hbm, ⟨27, _⟩ => ⟨S32x2048x1024, .f32⟩
  | .hbm, ⟨28, _⟩ => ⟨S32x2048x1024, .f32⟩
  | .hbm, ⟨29, _⟩ => ⟨S32x2048x1024, .bf16⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== ConvCtx.lean ====
abbrev S32x256x1024 : Shape := ⟨3, ![32, 256, 1024]⟩
abbrev S3x1024 : Shape := ⟨2, ![3, 1024]⟩
abbrev S1x256x256 : Shape := ⟨3, ![1, 256, 256]⟩
abbrev S3x256 : Shape := ⟨2, ![3, 256]⟩
abbrev S256x256 : Shape := ⟨2, ![256, 256]⟩
abbrev S1x256 : Shape := ⟨2, ![1, 256]⟩

abbrev nBuf : Space → Nat
  | .hbm => 4
  | .vmem => 8
  | .smem => 0
  | _ => 0

abbrev bufTy : (tb : Table) → Fin (tcTables nBuf tb) → BufTy
  | .hbm, ⟨0, _⟩ => ⟨S32x256x1024, .bf16⟩
  | .hbm, ⟨1, _⟩ => ⟨S32x256x1024, .bf16⟩
  | .hbm, ⟨2, _⟩ => ⟨S3x1024, .f32⟩
  | .hbm, ⟨3, _⟩ => ⟨S32x256x1024, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S3x256, .f32⟩
  | .local _ .vmem, ⟨5, _⟩ => ⟨S3x256, .f32⟩
  | .local _ .vmem, ⟨6, _⟩ => ⟨S1x256x256, .bf16⟩
  | .local _ .vmem, ⟨7, _⟩ => ⟨S1x256x256, .bf16⟩
  | _, _ => ⟨S32x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvCtxRefIdeal.lean ====
abbrev S32x256x1024 : Shape := ⟨3, ![32, 256, 1024]⟩
abbrev S3x1024 : Shape := ⟨2, ![3, 1024]⟩
abbrev S_ : Shape := ⟨0, ![]⟩
abbrev S32x258x1024 : Shape := ⟨3, ![32, 258, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S32x256x1024, .bf16⟩
  | .hbm, ⟨1, _⟩ => ⟨S32x256x1024, .bf16⟩
  | .hbm, ⟨2, _⟩ => ⟨S3x1024, .f32⟩
  | .hbm, ⟨3, _⟩ => ⟨S32x256x1024, .f32⟩
  | .hbm, ⟨4, _⟩ => ⟨S32x256x1024, .f32⟩
  | .hbm, ⟨5, _⟩ => ⟨S_, .i32⟩
  | .hbm, ⟨6, _⟩ => ⟨S_, .f32⟩
  | .hbm, ⟨7, _⟩ => ⟨S32x258x1024, .f32⟩
  | .hbm, ⟨8, _⟩ => ⟨S32x256x1024, .f32⟩
  | .hbm, ⟨9, _⟩ => ⟨S1x1024, .f32⟩
  | .hbm, ⟨10, _⟩ => ⟨S1024, .f32⟩
  | .hbm, ⟨11, _⟩ => ⟨S1x1x1024, .f32⟩
  | .hbm, ⟨12, _⟩ => ⟨S32x256x1024, .f32⟩
  | .hbm, ⟨13, _⟩ => ⟨S32x256x1024, .f32⟩
  | .hbm, ⟨14, _⟩ => ⟨S32x256x1024, .f32⟩
  | .hbm, ⟨15, _⟩ => ⟨S1x1024, .f32⟩
  | .hbm, ⟨16, _⟩ => ⟨S1024, .f32⟩
  | .hbm, ⟨17, _⟩ => ⟨S1x1x1024, .f32⟩
  | .hbm, ⟨18, _⟩ => ⟨S32x256x1024, .f32⟩
  | .hbm, ⟨19, _⟩ => ⟨S32x256x1024, .f32⟩
  | .hbm, ⟨20, _⟩ => ⟨S32x256x1024, .f32⟩
  | .hbm, ⟨21, _⟩ => ⟨S32x256x1024, .f32⟩
  | .hbm, ⟨22, _⟩ => ⟨S1x1024, .f32⟩
  | .hbm, ⟨23, _⟩ => ⟨S1024, .f32⟩
  | .hbm, ⟨24, _⟩ => ⟨S1x1x1024, .f32⟩
  | .hbm, ⟨25, _⟩ => ⟨S32x256x1024, .f32⟩
  | .hbm, ⟨26, _⟩ => ⟨S32x256x1024, .f32⟩
  | .hbm, ⟨27, _⟩ => ⟨S32x256x1024, .f32⟩
  | .hbm, ⟨28, _⟩ => ⟨S32x256x1024, .f32⟩
  | .hbm, ⟨29, _⟩ => ⟨S32x256x1024, .bf16⟩
  | _, _ => ⟨S32x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Mod.lean ====
abbrev S40x1024 : Shape := ⟨2, ![40, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x40x6144 : Shape := ⟨3, ![2, 40, 6144]⟩
abbrev S1x1024x1024 : Shape := ⟨3, ![1, 1024, 1024]⟩
abbrev S1x1x1024 : Shape := ⟨3, ![1, 1, 1024]⟩
abbrev S1x40x1024 : Shape := ⟨3, ![1, 40, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S40x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x40x6144, .f32⟩
  | .local _ .vmem, ⟨0, _⟩ => ⟨S40x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x40x1024, .f32⟩
  | .local _ .vmem, ⟨6, _⟩ => ⟨S1x40x1024, .f32⟩
  | _, _ => ⟨S40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x40x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S40x1024 : Shape := ⟨2, ![40, 1024]⟩
abbrev S2x1024x6144 : Shape := ⟨3, ![2, 1024, 6144]⟩
abbrev S2x6144 : Shape := ⟨2, ![2, 6144]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S_ : Shape := ⟨0, ![]⟩
abbrev S40x6144 : Shape := ⟨2, ![40, 6144]⟩
abbrev S1x40x6144 : Shape := ⟨3, ![1, 40, 6144]⟩
abbrev S2x40x6144 : Shape := ⟨3, ![2, 40, 6144]⟩

abbrev nBuf : Space → Nat
  | .hbm => 40
  | .vmem => 0
  | .smem => 0
  | _ => 0

abbrev bufTy : (tb : Table) → Fin (tcTables nBuf tb) → BufTy
  | .hbm, ⟨0, _⟩ => ⟨S40x1024, .f32⟩
  | .hbm, ⟨1, _⟩ => ⟨S2x1024x6144, .f32⟩
  | .hbm, ⟨2, _⟩ => ⟨S2x6144, .f32⟩
  | .hbm, ⟨3, _⟩ => ⟨S1x1024x6144, .f32⟩
  | .hbm, ⟨4, _⟩ => ⟨S1024x6144, .f32⟩
  | .hbm, ⟨5, _⟩ => ⟨S1x6144, .f32⟩
  | .hbm, ⟨6, _⟩ => ⟨S6144, .f32⟩
  | .hbm, ⟨7, _⟩ => ⟨S40x1024, .f32⟩
  | .hbm, ⟨8, _⟩ => ⟨S40x1024, .f32⟩
  | .hbm, ⟨9, _⟩ => ⟨S_, .f32⟩
  | .hbm, ⟨10, _⟩ => ⟨S40x1024, .f32⟩
  | .hbm, ⟨11, _⟩ => ⟨S40x1024, .f32⟩
  | .hbm, ⟨12, _⟩ => ⟨S_, .f32⟩
  | .hbm, ⟨13, _⟩ => ⟨S40x1024, .f32⟩
  | .hbm, ⟨14, _⟩ => ⟨S40x1024, .f32⟩
  | .hbm, ⟨15, _⟩ => ⟨S40x1024, .f32⟩
  | .hbm, ⟨16, _⟩ => ⟨S40x6144, .f32⟩
  | .hbm, ⟨17, _⟩ => ⟨S1x6144, .f32⟩
  | .hbm, ⟨18, _⟩ => ⟨S40x6144, .f32⟩
  | .hbm, ⟨19, _⟩ => ⟨S40x6144, .f32⟩
  | .hbm, ⟨20, _⟩ => ⟨S1x1024x6144, .f32⟩
  | .hbm, ⟨21, _⟩ => ⟨S1024x6144, .f32⟩
  | .hbm, ⟨22, _⟩ => ⟨S1x6144, .f32⟩
  | .hbm, ⟨23, _⟩ => ⟨S6144, .f32⟩
  | .hbm, ⟨24, _⟩ => ⟨S40x1024, .f32⟩
  | .hbm, ⟨25, _⟩ => ⟨S40x1024, .f32⟩
  | .hbm, ⟨26, _⟩ => ⟨S_, .f32⟩
  | .hbm, ⟨27, _⟩ => ⟨S40x1024, .f32⟩
  | .hbm, ⟨28, _⟩ => ⟨S40x1024, .f32⟩
  | .hbm, ⟨29, _⟩ => ⟨S_, .f32⟩
  | .hbm, ⟨30, _⟩ => ⟨S40x1024, .f32⟩
  | .hbm, ⟨31, _⟩ => ⟨S40x1024, .f32⟩
  | .hbm, ⟨32, _⟩ => ⟨S40x1024, .f32⟩
  | .hbm, ⟨33, _⟩ => ⟨S40x6144, .f32⟩
  | .hbm, ⟨34, _⟩ => ⟨S1x6144, .f32⟩
  | .hbm, ⟨35, _⟩ => ⟨S40x6144, .f32⟩
  | .hbm, ⟨36, _⟩ => ⟨S40x6144, .f32⟩
  | .hbm, ⟨37, _⟩ => ⟨S1x40x6144, .f32⟩
  | .hbm, ⟨38, _⟩ => ⟨S1x40x6144, .f32⟩
  | .hbm, ⟨39, _⟩ => ⟨S2x40x6144, .f32⟩
  | _, _ => ⟨S40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Proof.RetFrameIdeal.lean ====
/-
  The retention kernel's frame: the body runs at every grid point from any inputs, leaving its inputs' buffers as they were, so the
  launch terminates with its arguments unchanged and every counter at zero. Nothing is said of the results here.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.RetFrameIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c))⟩) h

/-! ## The kernel body on any staging memrefs: a subtype the run finds -/

/-- Each window's current staging memref at point `t`, spelled as the pipeline passes it (`bodyAt0`), and its wholeness. -/
abbrev ms0_0 (t : Fin cfg0.N) : Memref sig .tc .vmem S2x1x8x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x256x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x256x256 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S8x256x256 .f32 := Memref.whole cc0_scratch0
abbrev scM0_1 : Memref sig .tc .vmem S8x256x256 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: checking it walks past the default budget)
set_option maxHeartbeats 1000000 in
/-- The body's triple: on whole staging memrefs — the inputs' at their contents,
    the FORGOTTEN outputs' (6, 7) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S2x1x8x256 .f32) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x1x256x256 .f32) (harg7 : arg7.IsWhole) (arg8 : Memref sig .tc .vmem S1x2048x256 .bf16) (harg8 : arg8.IsWhole) (arg9 : Memref sig .tc .vmem S1x1x256x256 .f32) (harg9 : arg9.IsWhole) (arg10 : Memref sig .tc .vmem S8x256x256 .f32) (harg10 : arg10.IsWhole) (arg11 : Memref sig .tc .vmem S8x256x256 .bf16) (harg11 : arg11.IsWhole)
    (x0 : Vec F S2x1x8x256 .f32) (x1 : Vec F S1x2048x128 .bf16) (x2 : Vec F S1x2048x128 .bf16) (x3 : Vec F S1x2048x256 .bf16) (x4 : Vec F S1x2048x256 .bf16) (x5 : Vec F S1x1x256x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_retention i arg2 harg2 arg3 harg3 arg4 harg4 arg5 harg5 arg6 harg6 arg7 harg7 arg8 harg8 arg9 harg9 arg10 harg10 arg11 harg11) K := by
    intro E K
    simp only [cc0_retention_eq_skeleton]; unfold cc0_retention_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    iexists _, _; isplitr; swap; · iexact HS1
    ipureintro; rfl

/-! ## The pipeline's proof data -/

/-- The output windows this certificate FORGETS (6, 7): nothing reads what the kernel leaves in them, so nothing
    of it is named (Lib/Pipeline/Dat.lean `Dat.toRForget`). -/
def forgets0 : Fin 8 → Bool := fun w => w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_ofR m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Proof.RetFrameIdeal

end
-- ==== Proof.Frames.lean ====
/-
  The frames of the retention and of the input projection: every launch terminates with its arguments unchanged and every counter at
  zero, in words and in mathematics, and so do the references.
-/
module

public import proofs.«01_k».proof.Defs
public import proofs.«01_k».proof.Proof.Gen.InProj.Frame
public import proofs.«01_k».proof.Proof.Gen.InProjIdeal.Frame
public import proofs.«01_k».proof.Proof.Gen.InProjRefIdeal.Run
public import proofs.«01_k».proof.Proof.Gen.ReferenceIdeal.Run
public import proofs.«01_k».proof.Proof.RetFrame
public import proofs.«01_k».proof.Proof.RetFrameIdeal
public import Idealize.ShloMosaic.Lib.Quiescent
public import Idealize.ShloMosaic.Lib.Claim

@[expose] public section

noncomputable section

namespace Cert.Proof.Frames

open Idealize.ShloMosaic Idealize.ShloMosaic.TcCoe Idealize.SL.Sem

/-- The retention kernel, in words. -/
theorem kernel : Cert.quiescent_Kernel (hKernel := Cert.Kernel.Gen.facts) := fun m ρ _ => RetFrame.frame m ρ
/-- The retention kernel, in mathematics. -/
theorem kernel_ideal : Cert.quiescent_KernelIdeal (hKernelIdeal := Cert.KernelIdeal.Gen.facts) := fun m ρ _ => RetFrameIdeal.frame m ρ
/-- The retention's reference. -/
theorem reference : Cert.quiescent_ReferenceIdeal (hReferenceIdeal := Cert.ReferenceIdeal.Gen.facts) := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)
/-- The input projection, in words. -/
theorem inproj : Cert.quiescent_InProj (hInProj := Cert.InProj.Gen.facts) := fun m ρ _ => Cert.InProj.Gen.frame m ρ
/-- The input projection, in mathematics. -/
theorem inproj_ideal : Cert.quiescent_InProjIdeal (hInProjIdeal := Cert.InProjIdeal.Gen.facts) := fun m ρ _ =>
  Cert.InProjIdeal.Gen.frame m ρ
/-- The input projection's reference. -/
theorem inproj_ref : Cert.quiescent_InProjRefIdeal (hInProjRefIdeal := Cert.InProjRefIdeal.Gen.facts) := fun m ρ _ =>
  (θ_run Cert.InProjRefIdeal.defs _ _).mono (fun r h => ⟨fun c => (h c).2.2.2.2.2.2.2,
      Idealize.ShloMosaic.sem_eq_zero_of_no_sems (by decide) r.2⟩)
    (Cert.InProjRefIdeal.Value.run (F := Ideal) m ρ)

end Cert.Proof.Frames

end
-- ==== Proof.FramesMore.lean ====
/-
  The frames of the calls of the first layer and of the context stream, of the short convolution and of the modulation: every launch
  terminates with its arguments unchanged and every counter at zero, and so do the references.
-/
module

public import proofs.«01_k».proof.Defs
public import proofs.«01_k».proof.Proof.Gen.MergeFirst.Frame
public import proofs.«01_k».proof.Proof.Gen.MergeFirstIdeal.Frame
public import proofs.«01_k».proof.Proof.Gen.MergeFirstRefIdeal.Run
public import proofs.«01_k».proof.Proof.Gen.MergeCtx.Frame
public import proofs.«01_k».proof.Proof.Gen.MergeCtxIdeal.Frame
public import proofs.«01_k».proof.Proof.Gen.MergeCtxRefIdeal.Run
public import proofs.«01_k».proof.Proof.Gen.InProjCtx.Frame
public import proofs.«01_k».proof.Proof.Gen.InProjCtxIdeal.Frame
public import proofs.«01_k».proof.Proof.Gen.InProjCtxRefIdeal.Run
public import proofs.«01_k».proof.Proof.Gen.Conv.Frame
public import proofs.«01_k».proof.Proof.Gen.ConvIdeal.Frame
public import proofs.«01_k».proof.Proof.Gen.ConvRefIdeal.Run
public import proofs.«01_k».proof.Proof.Gen.ConvCtx.Frame
public import proofs.«01_k».proof.Proof.Gen.ConvCtxIdeal.Frame
public import proofs.«01_k».proof.Proof.Gen.ConvCtxRefIdeal.Run
public import proofs.«01_k».proof.Proof.Gen.Mod.Frame
public import proofs.«01_k».proof.Proof.Gen.ModIdeal.Frame
public import proofs.«01_k».proof.Proof.Gen.ModRefIdeal.Run
public import Idealize.ShloMosaic.Lib.Quiescent
public import Idealize.ShloMosaic.Lib.Claim

@[expose] public section

noncomputable section

namespace Cert.Proof.FramesMore

open Idealize.ShloMosaic Idealize.ShloMosaic.TcCoe Idealize.SL.Sem

/-- The merge of the first layer, in words. -/
theorem merge_first : Cert.quiescent_MergeFirst (hMergeFirst := Cert.MergeFirst.Gen.facts) := fun m ρ _ => Cert.MergeFirst.Gen.frame m ρ
/-- The merge of the first layer, in mathematics. -/
theorem merge_first_ideal : Cert.quiescent_MergeFirstIdeal (hMergeFirstIdeal := Cert.MergeFirstIdeal.Gen.facts) := fun m ρ _ => Cert.MergeFirstIdeal.Gen.frame m ρ
/-- The reference of the merge of the first layer. -/
theorem merge_first_ref : Cert.quiescent_MergeFirstRefIdeal (hMergeFirstRefIdeal := Cert.MergeFirstRefIdeal.Gen.facts) := fun m ρ _ =>
  (θ_run Cert.MergeFirstRefIdeal.defs _ _).mono (fun r h => ⟨fun c => (h c).2,
      Idealize.ShloMosaic.sem_eq_zero_of_no_sems (by decide) r.2⟩)
    (Cert.MergeFirstRefIdeal.Value.run (F := Ideal) m ρ)
/-- The merge of the context stream, in words. -/
theorem merge_ctx : Cert.quiescent_MergeCtx (hMergeCtx := Cert.MergeCtx.Gen.facts) := fun m ρ _ => Cert.MergeCtx.Gen.frame m ρ
/-- The merge of the context stream, in mathematics. -/
theorem merge_ctx_ideal : Cert.quiescent_MergeCtxIdeal (hMergeCtxIdeal := Cert.MergeCtxIdeal.Gen.facts) := fun m ρ _ => Cert.MergeCtxIdeal.Gen.frame m ρ
/-- The reference of the merge of the context stream. -/
theorem merge_ctx_ref : Cert.quiescent_MergeCtxRefIdeal (hMergeCtxRefIdeal := Cert.MergeCtxRefIdeal.Gen.facts) := fun m ρ _ =>
  (θ_run Cert.MergeCtxRefIdeal.defs _ _).mono (fun r h => ⟨fun c => (h c).2,
      Idealize.ShloMosaic.sem_eq_zero_of_no_sems (by decide) r.2⟩)
    (Cert.MergeCtxRefIdeal.Value.run (F := Ideal) m ρ)
/-- The input projection of the context stream, in words. -/
theorem inproj_ctx : Cert.quiescent_InProjCtx (hInProjCtx := Cert.InProjCtx.Gen.facts) := fun m ρ _ => Cert.InProjCtx.Gen.frame m ρ
/-- The input projection of the context stream, in mathematics. -/
theorem inproj_ctx_ideal : Cert.quiescent_InProjCtxIdeal (hInProjCtxIdeal := Cert.InProjCtxIdeal.Gen.facts) := fun m ρ _ => Cert.InProjCtxIdeal.Gen.frame m ρ
/-- The reference of the input projection of the context stream. -/
theorem inproj_ctx_ref : Cert.quiescent_InProjCtxRefIdeal (hInProjCtxRefIdeal := Cert.InProjCtxRefIdeal.Gen.facts) := fun m ρ _ =>
  (θ_run Cert.InProjCtxRefIdeal.defs _ _).mono (fun r h => ⟨fun c => (h c).2.2.2.2.2.2.2,
      Idealize.ShloMosaic.sem_eq_zero_of_no_sems (by decide) r.2⟩)
    (Cert.InProjCtxRefIdeal.Value.run (F := Ideal) m ρ)
/-- The short convolution, in words. -/
theorem conv : Cert.quiescent_Conv (hConv := Cert.Conv.Gen.facts) := fun m ρ _ => Cert.Conv.Gen.frame m ρ
/-- The short convolution, in mathematics. -/
theorem conv_ideal : Cert.quiescent_ConvIdeal (hConvIdeal := Cert.ConvIdeal.Gen.facts) := fun m ρ _ => Cert.ConvIdeal.Gen.frame m ρ
/-- The reference of the short convolution. -/
theorem conv_ref : Cert.quiescent_ConvRefIdeal (hConvRefIdeal := Cert.ConvRefIdeal.Gen.facts) := fun m ρ _ =>
  (θ_run Cert.ConvRefIdeal.defs _ _).mono (fun r h => ⟨fun c => (h c).2,
      Idealize.ShloMosaic.sem_eq_zero_of_no_sems (by decide) r.2⟩)
    (Cert.ConvRefIdeal.Value.run (F := Ideal) m ρ)
/-- The short convolution of the context stream, in words. -/
theorem conv_ctx : Cert.quiescent_ConvCtx (hConvCtx := Cert.ConvCtx.Gen.facts) := fun m ρ _ => Cert.ConvCtx.Gen.frame m ρ
/-- The short convolution of the context stream, in mathematics. -/
theorem conv_ctx_ideal : Cert.quiescent_ConvCtxIdeal (hConvCtxIdeal := Cert.ConvCtxIdeal.Gen.facts) := fun m ρ _ => Cert.ConvCtxIdeal.Gen.frame m ρ
/-- The reference of the short convolution of the context stream. -/
theorem conv_ctx_ref : Cert.quiescent_ConvCtxRefIdeal (hConvCtxRefIdeal := Cert.ConvCtxRefIdeal.Gen.facts) := fun m ρ _ =>
  (θ_run Cert.ConvCtxRefIdeal.defs _ _).mono (fun r h => ⟨fun c => (h c).2,
      Idealize.ShloMosaic.sem_eq_zero_of_no_sems (by decide) r.2⟩)
    (Cert.ConvCtxRefIdeal.Value.run (F := Ideal) m ρ)
/-- The modulation, in words. -/
theorem mod : Cert.quiescent_Mod (hMod := Cert.Mod.Gen.facts) := fun m ρ _ => Cert.Mod.Gen.frame m ρ
/-- The modulation, in mathematics. -/
theorem mod_ideal : Cert.quiescent_ModIdeal (hModIdeal := Cert.ModIdeal.Gen.facts) := fun m ρ _ => Cert.ModIdeal.Gen.frame m ρ
/-- The reference of the modulation. -/
theorem mod_ref : Cert.quiescent_ModRefIdeal (hModRefIdeal := Cert.ModRefIdeal.Gen.facts) := fun m ρ _ =>
  (θ_run Cert.ModRefIdeal.defs _ _).mono (fun r h => ⟨fun c => (h c).2,
      Idealize.ShloMosaic.sem_eq_zero_of_no_sems (by decide) r.2⟩)
    (Cert.ModRefIdeal.Value.run (F := Ideal) m ρ)

end Cert.Proof.FramesMore

end
-- ==== Proof.MergeSpec.lean ====
/-
  The merge with the feed-forward part, written once over rows of extended reals: what one token's row of the result is, of the
  token's rows of the arguments and of the weights. The kernel's block and the reference's array are both read as this function.
-/
module

public import Idealize.ShloMosaic.Lib.Pointwise

@[expose] public section

noncomputable section

namespace Cert.Proof.MergeSpec

open Idealize.ShloMosaic

/-- A row divided by its root mean square, times a weight row. -/
def rms (x w : Fin 1024 → EReal) (d : Fin 1024) : EReal :=
  x d * Ideal.rsqrt (Ideal.div (∑ k, x k * x k) (Ideal.ofBits .f32 0x44800000#32) + Ideal.ofBits .f32 0x358637BD#32) * w d

/-- `a / (1 + exp (-a))`. -/
def silu (a : EReal) : EReal := Ideal.div a (1 + Ideal.exp (-a))

/-- The two branches gated, summed and put through the output weights, times the gate row, onto the residual row. -/
def x1 (yr : Fin 2048 → EReal) (z : Fin 1024 → EReal) (gt : Fin 2048 → EReal) (x g : Fin 1024 → EReal)
    (wro : Fin 2048 → Fin 1024 → EReal) (wco wo : Fin 1024 → Fin 1024 → EReal) (d : Fin 1024) : EReal :=
  x d + g d * ∑ k : Fin 1024, (gt ⟨k.val, by omega⟩ * (∑ j, yr j * wro j k)
    + gt ⟨1024 + k.val, by omega⟩ * (∑ j, z j * wco j k)) * wo k d

/-- The normalized row, scaled by one plus the scale row and shifted. -/
def hid (x nf sh sc : Fin 1024 → EReal) (d : Fin 1024) : EReal := rms x nf d * (1 + sc d) + sh d

/-- One column of the gated hidden layer. -/
def act (h : Fin 1024 → EReal) (wfi : Fin 1024 → Fin 5632 → EReal) (j : Fin 2816) : EReal :=
  silu (∑ k, h k * wfi k ⟨j.val, by omega⟩) * ∑ k, h k * wfi k ⟨2816 + j.val, by omega⟩

/-- The feed-forward part: the gated hidden layer through the second weight. -/
def ffn (h : Fin 1024 → EReal) (wfi : Fin 1024 → Fin 5632 → EReal) (wfo : Fin 2816 → Fin 1024 → EReal) (d : Fin 1024) : EReal :=
  ∑ j : Fin 2816, act h wfi j * wfo j d

/-- The row after the feed-forward part, without the final normalization: the feed-forward part of `x`'s hidden row gated onto `x`. -/
def res (x nf sh sc g : Fin 1024 → EReal) (wfi : Fin 1024 → Fin 5632 → EReal) (wfo : Fin 2816 → Fin 1024 → EReal)
    (d : Fin 1024) : EReal :=
  x d + g d * ffn (hid x nf sh sc) wfi wfo d

/-- The result row: the feed-forward part of `x`'s hidden row gated onto `x`, normalized with the final weight. -/
def out (x nf sh sc g : Fin 1024 → EReal) (wfi : Fin 1024 → Fin 5632 → EReal) (wfo : Fin 2816 → Fin 1024 → EReal)
    (fw : Fin 1024 → EReal) (d : Fin 1024) : EReal :=
  rms (fun e => x e + g e * ffn (hid x nf sh sc) wfi wfo e) fw d

/-- An exponential is never negative. -/
theorem exp_nonneg (x : EReal) : 0 ≤ Ideal.exp x := by
  induction x with
  | bot => exact le_refl _
  | top => exact le_top
  | coe r => exact EReal.coe_nonneg.mpr (Real.exp_pos r).le

/-- One plus an exponential is not zero. -/
theorem one_add_exp_ne (x : EReal) : 1 + Ideal.exp x ≠ 0 := by
  have h : (1 : EReal) ≤ 1 + Ideal.exp x := le_add_of_nonneg_right (exp_nonneg x)
  exact (lt_of_lt_of_le zero_lt_one h).ne'

/-- The product with the logistic quotient is the quotient. -/
theorem mul_div_one (a x : EReal) : a * Ideal.div 1 (1 + Ideal.exp x) = Ideal.div a (1 + Ideal.exp x) := by
  rw [Ideal.div, Ideal.div, if_neg (one_add_exp_ne x), if_neg (one_add_exp_ne x), one_mul]

/-- A sum over 2816 positions in the three pieces the kernel takes. -/
theorem sum_three (f : Fin 2816 → EReal) :
    (∑ j : Fin 1024, f ⟨j.val, by omega⟩) + (∑ j : Fin 1024, f ⟨1024 + j.val, by omega⟩)
      + (∑ j : Fin 768, f ⟨2048 + j.val, by omega⟩) = ∑ j, f j := by
  have e1 := Fin.sum_univ_add (M := EReal) (a := 2048) (b := 768) f
  have e2 := Fin.sum_univ_add (M := EReal) (a := 1024) (b := 1024) fun i => f (Fin.castAdd 768 i)
  rw [e1, e2]
  rfl

end Cert.Proof.MergeSpec

end
-- ==== Proof.MergeBlock.lean ====
/-
  What one block of the merge kernel computes: each payload read at a row and a column, as the row functions of MergeSpec.
-/
module

public import proofs.«01_k».proof.Proof.Gen.MergeIdeal.Skeleton
public import proofs.«01_k».proof.Proof.MergeSpec

@[expose] public section

noncomputable section

namespace Cert.Proof.MergeBlock

open Idealize.ShloMosaic Cert.MergeIdeal Cert.MergeIdeal.Gen Cert.Proof.MergeSpec

/-- The residual row after the two branches. -/
theorem pay2_at (v0 : Vec Ideal S1x256x2048 .bf16) (v2 : Vec Ideal S2048x1024 .bf16) (v4 : Vec Ideal S1x256x1024 .bf16)
    (v6 : Vec Ideal S1024x1024 .bf16) (v8 v12 : Vec Ideal S1x256x1024 .bf16) (v18 : Vec Ideal S1x256x1024 .f32)
    (v20 : Vec Ideal S1x1x1024 .f32) (v22 : Vec Ideal S1024x1024 .bf16) (r : Fin 256) (d : Fin 1024) :
    k0_pay2 v0 v2 v4 v6 v8 v12 v18 v20 v22 (ix2 r d)
      = v18 (ix3 0 r d) + v20 (ix3 0 0 d) * ∑ k : Fin 1024, (v8 (ix3 0 r k) * (∑ j, v0 (ix3 0 r j) * v2 (ix2 j k))
        + v12 (ix3 0 r k) * (∑ j, v4 (ix3 0 r j) * v6 (ix2 j k))) * v22 (ix2 k d) := by
  pointwise [k0_pay2, dot_S256x2048_S2048x1024_S256x1024_1_0_0_1_n_n, dot_S256x1024_S1024x1024_S256x1024_1_0_0_1_n_n]

/-- The hidden row. -/
theorem pay4_at (v26 : FVec Ideal S256x1024 .f32) (v28 : FVec Ideal S1x1024 .f32) (v41 v47 : Vec Ideal S1x1x1024 .f32)
    (r : Fin 256) (d : Fin 1024) :
    k0_pay4 v26 v28 v41 v47 (ix2 r d) = hid (fun e => v26 (ix2 r e)) (fun e => v28 (ix2 0 e)) (fun e => v47 (ix3 0 0 e))
      (fun e => v41 (ix3 0 0 e)) d := by
  pointwise [k0_pay4, hid, rms]

/-- The first piece of the feed-forward part. -/
theorem pay5_at (v26 : FVec Ideal S256x1024 .f32) (v28 : FVec Ideal S1x1024 .f32) (v41 v47 : Vec Ideal S1x1x1024 .f32)
    (v52 v60 v64 : Vec Ideal S1024x1024 .bf16) (r : Fin 256) (d : Fin 1024) :
    k0_pay5 v26 v28 v41 v47 v52 v60 v64 (ix2 r d) = ∑ j : Fin 1024, silu (∑ k, k0_pay4 v26 v28 v41 v47 (ix2 r k) * v52 (ix2 k j))
      * (∑ k, k0_pay4 v26 v28 v41 v47 (ix2 r k) * v60 (ix2 k j)) * v64 (ix2 j d) := by
  pointwise [k0_pay5, dot_S256x1024_S1024x1024_S256x1024_1_0_0_1_n_n, silu, zero_sub]

/-- The residual row after the feed-forward part, over its three pieces. -/
theorem pay6_at (v26 : FVec Ideal S256x1024 .f32) (v51 : FVec Ideal S256x1024 .bf16) (v65 : FVec Ideal S256x1024 .f32)
    (v66 v74 v78 : Vec Ideal S1024x1024 .bf16) (v81 v89 : Vec Ideal S1024x768 .bf16) (v93 : Vec Ideal S768x1024 .bf16)
    (v96 : Vec Ideal S1x1x1024 .f32) (r : Fin 256) (d : Fin 1024) :
    k0_pay6 v26 v51 v65 v66 v74 v78 v81 v89 v93 v96 (ix2 r d) = v26 (ix2 r d) + v96 (ix3 0 0 d) * (v65 (ix2 r d)
      + (∑ j : Fin 1024, silu (∑ k, v51 (ix2 r k) * v66 (ix2 k j)) * (∑ k, v51 (ix2 r k) * v74 (ix2 k j)) * v78 (ix2 j d))
      + (∑ j : Fin 768, silu (∑ k, v51 (ix2 r k) * v81 (ix2 k j)) * (∑ k, v51 (ix2 r k) * v89 (ix2 k j)) * v93 (ix2 j d))) := by
  pointwise [k0_pay6, dot_S256x1024_S1024x1024_S256x1024_1_0_0_1_n_n, dot_S256x1024_S1024x768_S256x768_1_0_0_1_n_n,
    dot_S256x768_S768x1024_S256x1024_1_0_0_1_n_n, silu, zero_sub]

/-- The stored row: the final normalization. -/
theorem pay1_at (v100 : FVec Ideal S256x1024 .f32) (v101 : Vec Ideal S1x1024 .f32) (r : Fin 256) (d : Fin 1024) :
    k0_pay1 v100 v101 (ix3 0 r d) = rms (fun e => v100 (ix2 r e)) (fun e => v101 (ix2 0 e)) d := by
  pointwise [k0_pay1, rms]

end Cert.Proof.MergeBlock

end
-- ==== Proof.MergeFirstBlock.lean ====
/-
  What one block of the first layer's merge computes. Its payloads are those of the last layer's merge, but for the stored one,
  which is the residual row itself.
-/
module

public import proofs.«01_k».proof.Proof.Gen.MergeFirstIdeal.Skeleton
public import proofs.«01_k».proof.Proof.MergeBlock

@[expose] public section

noncomputable section

namespace Cert.Proof.MergeFirstBlock

open Idealize.ShloMosaic Cert.MergeFirstIdeal Cert.MergeFirstIdeal.Gen Cert.Proof.MergeSpec

/-- The residual row after the two branches. -/
theorem pay2_at (v0 : Vec Ideal S1x256x2048 .bf16) (v2 : Vec Ideal S2048x1024 .bf16) (v4 : Vec Ideal S1x256x1024 .bf16)
    (v6 : Vec Ideal S1024x1024 .bf16) (v8 v12 : Vec Ideal S1x256x1024 .bf16) (v18 : Vec Ideal S1x256x1024 .f32)
    (v20 : Vec Ideal S1x1x1024 .f32) (v22 : Vec Ideal S1024x1024 .bf16) (r : Fin 256) (d : Fin 1024) :
    k0_pay2 v0 v2 v4 v6 v8 v12 v18 v20 v22 (ix2 r d)
      = v18 (ix3 0 r d) + v20 (ix3 0 0 d) * ∑ k : Fin 1024, (v8 (ix3 0 r k) * (∑ j, v0 (ix3 0 r j) * v2 (ix2 j k))
        + v12 (ix3 0 r k) * (∑ j, v4 (ix3 0 r j) * v6 (ix2 j k))) * v22 (ix2 k d) :=
  MergeBlock.pay2_at _ _ _ _ _ _ _ _ _ _ _

/-- The hidden row. -/
theorem pay4_at (v26 : FVec Ideal S256x1024 .f32) (v28 : FVec Ideal S1x1024 .f32) (v41 v47 : Vec Ideal S1x1x1024 .f32)
    (r : Fin 256) (d : Fin 1024) :
    k0_pay4 v26 v28 v41 v47 (ix2 r d) = hid (fun e => v26 (ix2 r e)) (fun e => v28 (ix2 0 e)) (fun e => v47 (ix3 0 0 e))
      (fun e => v41 (ix3 0 0 e)) d :=
  MergeBlock.pay4_at _ _ _ _ _ _

/-- The first piece of the feed-forward part. -/
theorem pay5_at (v26 : FVec Ideal S256x1024 .f32) (v28 : FVec Ideal S1x1024 .f32) (v41 v47 : Vec Ideal S1x1x1024 .f32)
    (v52 v60 v64 : Vec Ideal S1024x1024 .bf16) (r : Fin 256) (d : Fin 1024) :
    k0_pay5 v26 v28 v41 v47 v52 v60 v64 (ix2 r d) = ∑ j : Fin 1024, silu (∑ k, k0_pay4 v26 v28 v41 v47 (ix2 r k) * v52 (ix2 k j))
      * (∑ k, k0_pay4 v26 v28 v41 v47 (ix2 r k) * v60 (ix2 k j)) * v64 (ix2 j d) :=
  MergeBlock.pay5_at _ _ _ _ _ _ _ _ _

/-- The residual row after the feed-forward part, over its three pieces. -/
theorem pay6_at (v26 : FVec Ideal S256x1024 .f32) (v51 : FVec Ideal S256x1024 .bf16) (v65 : FVec Ideal S256x1024 .f32)
    (v66 v74 v78 : Vec Ideal S1024x1024 .bf16) (v81 v89 : Vec Ideal S1024x768 .bf16) (v93 : Vec Ideal S768x1024 .bf16)
    (v96 : Vec Ideal S1x1x1024 .f32) (r : Fin 256) (d : Fin 1024) :
    k0_pay6 v26 v51 v65 v66 v74 v78 v81 v89 v93 v96 (ix2 r d) = v26 (ix2 r d) + v96 (ix3 0 0 d) * (v65 (ix2 r d)
      + (∑ j : Fin 1024, silu (∑ k, v51 (ix2 r k) * v66 (ix2 k j)) * (∑ k, v51 (ix2 r k) * v74 (ix2 k j)) * v78 (ix2 j d))
      + (∑ j : Fin 768, silu (∑ k, v51 (ix2 r k) * v81 (ix2 k j)) * (∑ k, v51 (ix2 r k) * v89 (ix2 k j)) * v93 (ix2 j d))) :=
  MergeBlock.pay6_at _ _ _ _ _ _ _ _ _ _ _ _

/-- The stored row. -/
theorem pay1_at (v100 : FVec Ideal S256x1024 .f32) (r : Fin 256) (d : Fin 1024) : k0_pay1 v100 (ix3 0 r d) = v100 (ix2 r d) := by
  pointwise [k0_pay1]

end Cert.Proof.MergeFirstBlock

end
-- ==== Proof.MergeFirstValue.lean ====
/-
  What the result array of the first layer's merge holds: at every token the row function of MergeSpec, of the argument arrays.
-/
module

public import proofs.«01_k».proof.Proof.Gen.MergeFirstIdeal.Value
public import proofs.«01_k».proof.Proof.MergeFirstBlock
public import Idealize.ShloMosaic.Lib.Pipeline.ValueKit

@[expose] public section

noncomputable section

namespace Cert.Proof.MergeFirstValue

open Idealize.ShloMosaic Idealize.ShloMosaic.TcCoe Cert.MergeFirstIdeal Cert.MergeFirstIdeal.Gen Cert.Proof.MergeSpec
open Idealize.ShloMosaic.Pipeline (Dat)

/-- The result array as one function of the twelve argument arrays. -/
def G (yr : Vec Ideal S32x2048x2048 .bf16) (z : Vec Ideal S32x2048x1024 .bf16) (gt : Vec Ideal S32x2048x2048 .bf16)
    (x : Vec Ideal S32x2048x1024 .f32) (md : Vec Ideal S32x6x1024 .f32) (nf : Vec Ideal S1024 .f32)
    (wro : Vec Ideal S2048x1024 .bf16) (wco wo : Vec Ideal S1024x1024 .bf16) (wfi : Vec Ideal S1024x5632 .bf16)
    (wfo : Vec Ideal S2816x1024 .bf16) (fw : Vec Ideal S1024 .f32) : Vec Ideal S32x2048x1024 .f32 := fun i =>
  res (x1 (fun j => yr (ix3 (i 0) (i 1) j)) (fun j => z (ix3 (i 0) (i 1) j)) (fun j => gt (ix3 (i 0) (i 1) j))
      (fun e => x (ix3 (i 0) (i 1) e)) (fun e => md (ix3 (i 0) 2 e)) (fun j k => wro (ix2 j k)) (fun j k => wco (ix2 j k))
      (fun j k => wo (ix2 j k)))
    (fun e => nf (ix1 e)) (fun e => md (ix3 (i 0) 3 e)) (fun e => md (ix3 (i 0) 4 e)) (fun e => md (ix3 (i 0) 5 e))
    (fun k j => wfi (ix2 k j)) (fun j k => wfo (ix2 j k)) (i 2)

theorem hz3 : (![0, 0, 0] : Fin 3 → Nat) = fun _ => 0 := funext fun a => by fin_cases a <;> rfl
theorem hz2 : (![0, 0] : Fin 2 → Nat) = fun _ => 0 := funext fun a => by fin_cases a <;> rfl

/-- A block, at a row and a column: the row functions of the block's inputs. -/
theorem out_at (x0 : Vec Ideal S1x256x2048 .bf16) (x1 : Vec Ideal S1x256x1024 .bf16) (x2 : Vec Ideal S1x256x2048 .bf16)
    (x3 : Vec Ideal S1x256x1024 .f32) (x4 : Vec Ideal S1x6x1024 .f32) (x5 : Vec Ideal S1x1024 .f32) (x6 : Vec Ideal S2048x1024 .bf16)
    (x7 x8 : Vec Ideal S1024x1024 .bf16) (x9 : Vec Ideal S1024x5632 .bf16) (x10 : Vec Ideal S2816x1024 .bf16)
    (x11 : Vec Ideal S1x1024 .f32) (r : Fin 256) (d : Fin 1024) :
    out0_12 x0 x1 x2 x3 x4 x5 x6 x7 x8 x9 x10 x11 (ix3 0 r d)
      = res (MergeSpec.x1 (fun j => x0 (ix3 0 r j)) (fun j => x1 (ix3 0 r j)) (fun j => x2 (ix3 0 r j))
          (fun e => x3 (ix3 0 r e)) (fun e => x4 (ix3 0 2 e)) (fun j k => x6 (ix2 j k)) (fun j k => x7 (ix2 j k))
          (fun j k => x8 (ix2 j k)))
        (fun e => x5 (ix2 0 e)) (fun e => x4 (ix3 0 3 e)) (fun e => x4 (ix3 0 4 e)) (fun e => x4 (ix3 0 5 e))
        (fun k j => x9 (ix2 k j)) (fun j k => x10 (ix2 j k)) d := by
  have e7 : ∀ e : Fin 1024, k0_pay7 x0 x1 x2 x3 x4 x5 x6 x7 x8 x9 x10 x11 (ix2 r e)
      = MergeSpec.x1 (fun j => x0 (ix3 0 r j)) (fun j => x1 (ix3 0 r j)) (fun j => x2 (ix3 0 r j))
          (fun e => x3 (ix3 0 r e)) (fun e => x4 (ix3 0 2 e)) (fun j k => x6 (ix2 j k)) (fun j k => x7 (ix2 j k))
          (fun j k => x8 (ix2 j k)) e := by
    intro e
    unfold k0_pay7
    rw [MergeFirstBlock.pay2_at]
    pointwise [MergeSpec.x1]
  have e8 : ∀ e : Fin 1024, k0_pay8 x0 x1 x2 x3 x4 x5 x6 x7 x8 x9 x10 x11 (ix2 0 e) = x5 (ix2 0 e) := by
    intro e
    pointwise [k0_pay8, k0_pay3]
  unfold out0_12
  rw [View.canon_unit_zero hz3, MergeFirstBlock.pay1_at]
  unfold res
  rw [MergeFirstBlock.pay6_at, MergeFirstBlock.pay5_at]
  simp only [MergeFirstBlock.pay4_at]
  pointwise [e7, e8]
  refine congrArg₂ (· + ·) rfl (congrArg₂ (· * ·) rfl ?_)
  unfold ffn
  rw [← sum_three]
  simp only [act, ← Nat.add_assoc, Nat.reduceAdd]

/-- Every window's block index at a point, in the point's two coordinates. -/
theorem idx : ∀ t : Fin cfg0.N,
    win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![(grid0.coords t 0).val, 0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0]
    ∧ win0_12.index t = ![(grid0.coords t 0).val, (grid0.coords t 1).val, 0] :=
  (by decide +kernel : ∀ t : Fin grid0.N, _)

variable (m : (ℓ : Loc nD τ sig) → Buf (Elt Ideal) ℓ)

/-- A token's place in its array, from the point and the row in the block. -/
def tok (t : Fin cfg0.N) (r : Fin 256) : Fin 2048 := ⟨(grid0.coords t 1).val * 256 + r.val, by
  have h : (grid0.coords t 1).val < 8 := (grid0.coords t 1).isLt; omega⟩
/-- A point's batch row. -/
def bat (t : Fin cfg0.N) : Fin 32 := ⟨(grid0.coords t 0).val, (grid0.coords t 0).isLt⟩

theorem b0 (c : Dev nD) (t : Fin cfg0.N) (r : Fin 256) (j : Fin 2048) :
    iblk m c 0 t (ix3 0 r j) = m ((c : Thread nD τ).loc main_arg0) (ix3 (bat t) (tok t r) j) := by
  blk_ext! [iblk, V, V_main_arg0 m c, idx t, bat, tok]
theorem b1 (c : Dev nD) (t : Fin cfg0.N) (r : Fin 256) (j : Fin 1024) :
    iblk m c 1 t (ix3 0 r j) = m ((c : Thread nD τ).loc main_arg1) (ix3 (bat t) (tok t r) j) := by
  blk_ext! [iblk, V, V_main_arg1 m c, idx t, bat, tok]
theorem b2 (c : Dev nD) (t : Fin cfg0.N) (r : Fin 256) (j : Fin 2048) :
    iblk m c 2 t (ix3 0 r j) = m ((c : Thread nD τ).loc main_arg2) (ix3 (bat t) (tok t r) j) := by
  blk_ext! [iblk, V, V_main_arg2 m c, idx t, bat, tok]
theorem b3 (c : Dev nD) (t : Fin cfg0.N) (r : Fin 256) (j : Fin 1024) :
    iblk m c 3 t (ix3 0 r j) = m ((c : Thread nD τ).loc main_arg3) (ix3 (bat t) (tok t r) j) := by
  blk_ext! [iblk, V, V_main_arg3 m c, idx t, bat, tok]
theorem b4 (c : Dev nD) (t : Fin cfg0.N) (k : Fin 6) (j : Fin 1024) :
    iblk m c 4 t (ix3 0 k j) = m ((c : Thread nD τ).loc main_arg4) (ix3 (bat t) k j) := by
  blk_ext! [iblk, V, idx t, bat]
theorem b5 (c : Dev nD) (t : Fin cfg0.N) (j : Fin 1024) :
    iblk m c 5 t (ix2 0 j) = m ((c : Thread nD τ).loc main_arg5) (ix1 j) := by
  blk_ext! [iblk, V, idx t]
theorem b11 (c : Dev nD) (t : Fin cfg0.N) (j : Fin 1024) :
    iblk m c 11 t (ix2 0 j) = m ((c : Thread nD τ).loc main_arg11) (ix1 j) := by
  blk_ext! [iblk, V, idx t]
theorem b6 (c : Dev nD) (t : Fin cfg0.N) (k : Fin 2048) (j : Fin 1024) :
    iblk m c 6 t (ix2 k j) = m ((c : Thread nD τ).loc main_arg6) (ix2 k j) := by
  blk_ext! [iblk, V, idx t]
theorem b7 (c : Dev nD) (t : Fin cfg0.N) (k : Fin 1024) (j : Fin 1024) :
    iblk m c 7 t (ix2 k j) = m ((c : Thread nD τ).loc main_arg7) (ix2 k j) := by
  blk_ext! [iblk, V, idx t]
theorem b8 (c : Dev nD) (t : Fin cfg0.N) (k : Fin 1024) (j : Fin 1024) :
    iblk m c 8 t (ix2 k j) = m ((c : Thread nD τ).loc main_arg8) (ix2 k j) := by
  blk_ext! [iblk, V, idx t]
theorem b9 (c : Dev nD) (t : Fin cfg0.N) (k : Fin 1024) (j : Fin 5632) :
    iblk m c 9 t (ix2 k j) = m ((c : Thread nD τ).loc main_arg9) (ix2 k j) := by
  blk_ext! [iblk, V, idx t]
theorem b10 (c : Dev nD) (t : Fin cfg0.N) (k : Fin 2816) (j : Fin 1024) :
    iblk m c 10 t (ix2 k j) = m ((c : Thread nD τ).loc main_arg10) (ix2 k j) := by
  blk_ext! [iblk, V, idx t]

/-- The result array after the run. -/
theorem final (c : Dev nD) : (dats m 0 c).arrAt 12 cfg0.N = G (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) := by
  refine (dats m 0 c).arrAt_eq_of_covers 12 _ (by decide +kernel) fun t hf y => ?_
  blk_simp
  rw [after0_12]
  obtain ⟨i0, i1, i2, i3, i4, i5, i6, i7, i8, i9, i10, i11, i12⟩ := idx t
  idx_vars y
  obtain rfl : y0 = 0 := Subsingleton.elim _ _
  have e : ((View.whole main_v2).slice (win0_12.rect t)).emb (ix3 0 y1 y2) = ix3 (bat t) (tok t y1) y2 := by
    blk_ext [i12, bat, tok]
  rw [e, out_at]
  simp only [b0, b1, b2, b3, b4, b5, b6, b7, b8, b9, b10, b11]
  rfl

end Cert.Proof.MergeFirstValue

end
-- ==== Proof.MergeFirstRef.lean ====
/-
  What the reference of the first layer's merge computes: its operations grouped into steps, each step read at a token and a column as a row
  function of MergeSpec.
-/
module

public import proofs.«01_k».proof.Proof.Gen.MergeFirstRefIdeal.Run
public import proofs.«01_k».proof.Proof.MergeSpec

@[expose] public section

noncomputable section

namespace Cert.Proof.MergeFirstRef

open Idealize.ShloMosaic Idealize.ShloMosaic.TcCoe Cert.MergeFirstRefIdeal Cert.MergeFirstRefIdeal.Gen Cert.Proof.MergeSpec

/-- The modulation argument with a unit token axis. -/
def md4 (a4 : FVec Ideal S32x6x1024 .f32) : FVec Ideal S32x6x1x1024 .f32 :=
  broadcastInDim S32x6x1x1024 ![0, 1, 3] bcast_S32x6x1024_S32x6x1x1024_0_1_3 a4

/-- The residual after the two branches. -/
def rX1 (a0 : FVec Ideal S32x2048x2048 .bf16) (a1 : FVec Ideal S32x2048x1024 .bf16) (a2 : FVec Ideal S32x2048x2048 .bf16)
    (a3 : FVec Ideal S32x2048x1024 .f32) (a4 : FVec Ideal S32x6x1024 .f32) (a6 : FVec Ideal S2048x1024 .bf16)
    (a7 a8 : FVec Ideal S1024x1024 .bf16) : FVec Ideal S32x2048x1024 .f32 :=
  addf a3 (mulf (broadcastInDim S32x2048x1024 ![0, 1, 2] bcast_S32x1x1024_S32x2048x1024_0_1_2
      (shapeCast S32x1x1024 (extractStridedSlice S32x1x1x1024 ![0, 2, 0, 0] (md4 a4) slices_S32x6x1x1024_S32x1x1x1024_0_2_0_0)
        shapeCasts_S32x1x1x1024_S32x1x1024))
    (Host.dotGeneral dot_S32x2048x1024_S1024x1024_S32x2048x1024_2_0_01_1_n_n none
      (addf (mulf (extractStridedSlice S32x2048x1024 ![0, 0, 0] (extf .f32 a2 bitsLt_bf16_f32) slices_S32x2048x2048_S32x2048x1024_0_0_0)
          (Host.dotGeneral dot_S32x2048x2048_S2048x1024_S32x2048x1024_2_0_01_1_n_n none (extf .f32 a0 bitsLt_bf16_f32)
            (extf .f32 a6 bitsLt_bf16_f32)))
        (mulf (extractStridedSlice S32x2048x1024 ![0, 0, 1024] (extf .f32 a2 bitsLt_bf16_f32) slices_S32x2048x2048_S32x2048x1024_0_0_1024)
          (Host.dotGeneral dot_S32x2048x1024_S1024x1024_S32x2048x1024_2_0_01_1_n_n none (extf .f32 a1 bitsLt_bf16_f32)
            (extf .f32 a7 bitsLt_bf16_f32))))
      (extf .f32 a8 bitsLt_bf16_f32)))

/-- The normalization of every token's row, times a weight row. -/
def rRms (x : FVec Ideal S32x2048x1024 .f32) (w : FVec Ideal S1024 .f32) : FVec Ideal S32x2048x1024 .f32 :=
  mulf (mulf x (broadcastInDim S32x2048x1024 ![0, 1, 2] bcast_S32x2048x1_S32x2048x1024_0_1_2 (Host.rsqrt (addf
      (Host.divf (broadcastInDim S32x2048x1 ![0, 1] bcast_S32x2048_S32x2048x1_0_1
          (Host.reduceAdd (mulf x x) (constant S_ .f32 0x00000000#32) reducesTo_S32x2048x1024_S32x2048_d2 h_S_))
        (broadcastInDim S32x2048x1 ![] bcast_S_S32x2048x1 (constant S_ .f32 0x44800000#32)))
      (broadcastInDim S32x2048x1 ![] bcast_S_S32x2048x1 (constant S_ .f32 0x358637BD#32))))))
    (broadcastInDim S32x2048x1024 ![0, 1, 2] bcast_S1x1x1024_S32x2048x1024_0_1_2
      (broadcastInDim S1x1x1024 ![2] bcast_S1024_S1x1x1024_2 w))

/-- The hidden rows: normalized, scaled and shifted. -/
def rHid (x : FVec Ideal S32x2048x1024 .f32) (a4 : FVec Ideal S32x6x1024 .f32) (a5 : FVec Ideal S1024 .f32) :
    FVec Ideal S32x2048x1024 .f32 :=
  addf (mulf (rRms x a5) (broadcastInDim S32x2048x1024 ![0, 1, 2] bcast_S32x1x1024_S32x2048x1024_0_1_2
      (addf (broadcastInDim S32x1x1024 ![] bcast_S_S32x1x1024 (constant S_ .f32 0x3F800000#32))
        (shapeCast S32x1x1024 (extractStridedSlice S32x1x1x1024 ![0, 4, 0, 0] (md4 a4) slices_S32x6x1x1024_S32x1x1x1024_0_4_0_0)
          shapeCasts_S32x1x1x1024_S32x1x1024))))
    (broadcastInDim S32x2048x1024 ![0, 1, 2] bcast_S32x1x1024_S32x2048x1024_0_1_2
      (shapeCast S32x1x1024 (extractStridedSlice S32x1x1x1024 ![0, 3, 0, 0] (md4 a4) slices_S32x6x1x1024_S32x1x1x1024_0_3_0_0)
        shapeCasts_S32x1x1x1024_S32x1x1024))

/-- The hidden rows through the first weight. -/
def rUp (h : FVec Ideal S32x2048x1024 .f32) (a9 : FVec Ideal S1024x5632 .bf16) : FVec Ideal S32x2048x5632 .f32 :=
  Host.dotGeneral dot_S32x2048x1024_S1024x5632_S32x2048x5632_2_0_01_1_n_n none h (extf .f32 a9 bitsLt_bf16_f32)

/-- The gate half of the first product. -/
def rGate (u : FVec Ideal S32x2048x5632 .f32) : FVec Ideal S32x2048x2816 .f32 :=
  extractStridedSlice S32x2048x2816 ![0, 0, 0] u slices_S32x2048x5632_S32x2048x2816_0_0_0

/-- The gated hidden layer through the second weight. -/
def rFfn (u : FVec Ideal S32x2048x5632 .f32) (a10 : FVec Ideal S2816x1024 .bf16) : FVec Ideal S32x2048x1024 .f32 :=
  Host.dotGeneral dot_S32x2048x2816_S2816x1024_S32x2048x1024_2_0_01_1_n_n none
    (mulf (mulf (rGate u) (Host.divf (broadcastInDim S32x2048x2816 ![] bcast_S_S32x2048x2816 (constant S_ .f32 0x3F800000#32))
        (addf (broadcastInDim S32x2048x2816 ![] bcast_S_S32x2048x2816 (constant S_ .f32 0x3F800000#32))
          (Host.exp (Host.negf (rGate u))))))
      (extractStridedSlice S32x2048x2816 ![0, 0, 2816] u slices_S32x2048x5632_S32x2048x2816_0_0_2816))
    (extf .f32 a10 bitsLt_bf16_f32)

/-- The residual after the feed-forward part. -/
def rX2 (x : FVec Ideal S32x2048x1024 .f32) (a4 : FVec Ideal S32x6x1024 .f32) (f : FVec Ideal S32x2048x1024 .f32) :
    FVec Ideal S32x2048x1024 .f32 :=
  addf x (mulf (broadcastInDim S32x2048x1024 ![0, 1, 2] bcast_S32x1x1024_S32x2048x1024_0_1_2
      (shapeCast S32x1x1024 (extractStridedSlice S32x1x1x1024 ![0, 5, 0, 0] (md4 a4) slices_S32x6x1x1024_S32x1x1x1024_0_5_0_0)
        shapeCasts_S32x1x1x1024_S32x1x1024)) f)

variable (m : (ℓ : Loc nD τ sig) → Buf (Elt Ideal) ℓ)

/-- The steps composed. -/
def rAll (a0 : FVec Ideal S32x2048x2048 .bf16) (a1 : FVec Ideal S32x2048x1024 .bf16) (a2 : FVec Ideal S32x2048x2048 .bf16)
    (a3 : FVec Ideal S32x2048x1024 .f32) (a4 : FVec Ideal S32x6x1024 .f32) (a5 : FVec Ideal S1024 .f32) (a6 : FVec Ideal S2048x1024 .bf16)
    (a7 a8 : FVec Ideal S1024x1024 .bf16) (a9 : FVec Ideal S1024x5632 .bf16) (a10 : FVec Ideal S2816x1024 .bf16)
    (a11 : FVec Ideal S1024 .f32) : FVec Ideal S32x2048x1024 .f32 :=
  rX2 (rX1 a0 a1 a2 a3 a4 a6 a7 a8) a4 (rFfn (rUp (rHid (rX1 a0 a1 a2 a3 a4 a6 a7 a8) a4 a5) a9) a10)

/-- The reference's result is the steps composed. -/
theorem res_eq (c : Dev nD) : Value.res_main_v55 m c = rAll (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11)) := by
  unfold Value.res_main_v55 rAll rX2 rFfn rGate rUp rHid rRms rX1 md4
  rfl

theorem rX1_at (a0 : FVec Ideal S32x2048x2048 .bf16) (a1 : FVec Ideal S32x2048x1024 .bf16) (a2 : FVec Ideal S32x2048x2048 .bf16)
    (a3 : FVec Ideal S32x2048x1024 .f32) (a4 : FVec Ideal S32x6x1024 .f32) (a6 : FVec Ideal S2048x1024 .bf16)
    (a7 a8 : FVec Ideal S1024x1024 .bf16) (b : Fin 32) (t : Fin 2048) (d : Fin 1024) :
    rX1 a0 a1 a2 a3 a4 a6 a7 a8 (ix3 b t d) = x1 (fun j => a0 (ix3 b t j)) (fun j => a1 (ix3 b t j)) (fun j => a2 (ix3 b t j))
      (fun e => a3 (ix3 b t e)) (fun e => a4 (ix3 b 2 e)) (fun j k => a6 (ix2 j k)) (fun j k => a7 (ix2 j k))
      (fun j k => a8 (ix2 j k)) d := by
  pointwise [rX1, md4, x1, dot_S32x2048x1024_S1024x1024_S32x2048x1024_2_0_01_1_n_n, dot_S32x2048x2048_S2048x1024_S32x2048x1024_2_0_01_1_n_n]

theorem rRms_at (x : FVec Ideal S32x2048x1024 .f32) (w : FVec Ideal S1024 .f32) (b : Fin 32) (t : Fin 2048) (d : Fin 1024) :
    rRms x w (ix3 b t d) = rms (fun e => x (ix3 b t e)) (fun e => w (ix1 e)) d := by
  pointwise [rRms, rms]

theorem rHid_at (x : FVec Ideal S32x2048x1024 .f32) (a4 : FVec Ideal S32x6x1024 .f32) (a5 : FVec Ideal S1024 .f32)
    (b : Fin 32) (t : Fin 2048) (d : Fin 1024) :
    rHid x a4 a5 (ix3 b t d) = hid (fun e => x (ix3 b t e)) (fun e => a5 (ix1 e)) (fun e => a4 (ix3 b 3 e)) (fun e => a4 (ix3 b 4 e)) d := by
  pointwise [rHid, hid, md4, rRms_at]

theorem rFfn_at (h : FVec Ideal S32x2048x1024 .f32) (a9 : FVec Ideal S1024x5632 .bf16) (a10 : FVec Ideal S2816x1024 .bf16)
    (b : Fin 32) (t : Fin 2048) (d : Fin 1024) :
    rFfn (rUp h a9) a10 (ix3 b t d) = ffn (fun e => h (ix3 b t e)) (fun k j => a9 (ix2 k j)) (fun j k => a10 (ix2 j k)) d := by
  pointwise [rFfn, rUp, rGate, ffn, act, silu, mul_div_one, dot_S32x2048x2816_S2816x1024_S32x2048x1024_2_0_01_1_n_n,
    dot_S32x2048x1024_S1024x5632_S32x2048x5632_2_0_01_1_n_n]

theorem rAll_at (a0 : FVec Ideal S32x2048x2048 .bf16) (a1 : FVec Ideal S32x2048x1024 .bf16) (a2 : FVec Ideal S32x2048x2048 .bf16)
    (a3 : FVec Ideal S32x2048x1024 .f32) (a4 : FVec Ideal S32x6x1024 .f32) (a5 : FVec Ideal S1024 .f32) (a6 : FVec Ideal S2048x1024 .bf16)
    (a7 a8 : FVec Ideal S1024x1024 .bf16) (a9 : FVec Ideal S1024x5632 .bf16) (a10 : FVec Ideal S2816x1024 .bf16)
    (a11 : FVec Ideal S1024 .f32) (b : Fin 32) (t : Fin 2048) (d : Fin 1024) :
    rAll a0 a1 a2 a3 a4 a5 a6 a7 a8 a9 a10 a11 (ix3 b t d) = res (x1 (fun j => a0 (ix3 b t j)) (fun j => a1 (ix3 b t j)) (fun j => a2 (ix3 b t j))
      (fun e => a3 (ix3 b t e)) (fun e => a4 (ix3 b 2 e)) (fun j k => a6 (ix2 j k)) (fun j k => a7 (ix2 j k))
      (fun j k => a8 (ix2 j k))) (fun e => a5 (ix1 e)) (fun e => a4 (ix3 b 3 e)) (fun e => a4 (ix3 b 4 e)) (fun e => a4 (ix3 b 5 e))
      (fun k j => a9 (ix2 k j)) (fun j k => a10 (ix2 j k)) d := by
  pointwise [rAll, res, rX2, md4, rFfn_at, rHid_at, rX1_at]

end Cert.Proof.MergeFirstRef

end
-- ==== Proof.MergeFirstClaim.lean ====
/-
  The equation of the first layer's merge: the kernel's result array and the reference's result agree.
-/
module

public import proofs.«01_k».proof.Defs
public import proofs.«01_k».proof.Proof.MergeFirstValue
public import proofs.«01_k».proof.Proof.MergeFirstRef
public import Idealize.ShloMosaic.Lib.Quiescent
public import Idealize.ShloMosaic.Lib.Claim

@[expose] public section

noncomputable section

namespace Cert.Proof.MergeFirstClaim

open Idealize.ShloMosaic Idealize.ShloMosaic.TcCoe Idealize.SL.Sem

/-- The reference's steps, at every index, are the function the kernel's result array holds. -/
theorem rAll_eq (a0 a1 a2 a3 a4 a5 a6 a7 a8 a9 a10 a11) :
    MergeFirstRef.rAll a0 a1 a2 a3 a4 a5 a6 a7 a8 a9 a10 a11 = MergeFirstValue.G a0 a1 a2 a3 a4 a5 a6 a7 a8 a9 a10 a11 := by
  funext i
  idx_vars i
  exact MergeFirstRef.rAll_at a0 a1 a2 a3 a4 a5 a6 a7 a8 a9 a10 a11 _ _ _

/-- From the same arguments the first layer's merge and its reference end with the same result. -/
theorem algebraic : Cert.algebraic_MergeFirstIdeal_MergeFirstRefIdeal (hMergeFirstIdeal := Cert.MergeFirstIdeal.Gen.facts)
    (hMergeFirstRefIdeal := Cert.MergeFirstRefIdeal.Gen.facts) := by
  pair_intro
  · run_from Cert.MergeFirstIdeal.Value.run_blocks m g
  · run_from Cert.MergeFirstRefIdeal.Value.run m' g'
    obtain ⟨h0, h1, h2, h3, h4, h5, h6, h7, h8, h9, h10, h11⟩ := hagree c
    rw [MergeFirstValue.final m c, MergeFirstRef.res_eq, rAll_eq, h0, h1, h2, h3, h4, h5, h6, h7, h8, h9, h10, h11]

end Cert.Proof.MergeFirstClaim

end
-- ==== Proof.MergeCtxBlock.lean ====
/-
  What one block of the context stream's merge computes. Its payloads are those of the last layer's merge, but for the stored one,
  which is the residual row itself.
-/
module

public import proofs.«01_k».proof.Proof.Gen.MergeCtxIdeal.Skeleton
public import proofs.«01_k».proof.Proof.MergeBlock

@[expose] public section

noncomputable section

namespace Cert.Proof.MergeCtxBlock

open Idealize.ShloMosaic Cert.MergeCtxIdeal Cert.MergeCtxIdeal.Gen Cert.Proof.MergeSpec

/-- The residual row after the two branches. -/
theorem pay2_at (v0 : Vec Ideal S1x256x2048 .bf16) (v2 : Vec Ideal S2048x1024 .bf16) (v4 : Vec Ideal S1x256x1024 .bf16)
    (v6 : Vec Ideal S1024x1024 .bf16) (v8 v12 : Vec Ideal S1x256x1024 .bf16) (v18 : Vec Ideal S1x256x1024 .f32)
    (v20 : Vec Ideal S1x1x1024 .f32) (v22 : Vec Ideal S1024x1024 .bf16) (r : Fin 256) (d : Fin 1024) :
    k0_pay2 v0 v2 v4 v6 v8 v12 v18 v20 v22 (ix2 r d)
      = v18 (ix3 0 r d) + v20 (ix3 0 0 d) * ∑ k : Fin 1024, (v8 (ix3 0 r k) * (∑ j, v0 (ix3 0 r j) * v2 (ix2 j k))
        + v12 (ix3 0 r k) * (∑ j, v4 (ix3 0 r j) * v6 (ix2 j k))) * v22 (ix2 k d) :=
  MergeBlock.pay2_at _ _ _ _ _ _ _ _ _ _ _

/-- The hidden row. -/
theorem pay4_at (v26 : FVec Ideal S256x1024 .f32) (v28 : FVec Ideal S1x1024 .f32) (v41 v47 : Vec Ideal S1x1x1024 .f32)
    (r : Fin 256) (d : Fin 1024) :
    k0_pay4 v26 v28 v41 v47 (ix2 r d) = hid (fun e => v26 (ix2 r e)) (fun e => v28 (ix2 0 e)) (fun e => v47 (ix3 0 0 e))
      (fun e => v41 (ix3 0 0 e)) d :=
  MergeBlock.pay4_at _ _ _ _ _ _

/-- The first piece of the feed-forward part. -/
theorem pay5_at (v26 : FVec Ideal S256x1024 .f32) (v28 : FVec Ideal S1x1024 .f32) (v41 v47 : Vec Ideal S1x1x1024 .f32)
    (v52 v60 v64 : Vec Ideal S1024x1024 .bf16) (r : Fin 256) (d : Fin 1024) :
    k0_pay5 v26 v28 v41 v47 v52 v60 v64 (ix2 r d) = ∑ j : Fin 1024, silu (∑ k, k0_pay4 v26 v28 v41 v47 (ix2 r k) * v52 (ix2 k j))
      * (∑ k, k0_pay4 v26 v28 v41 v47 (ix2 r k) * v60 (ix2 k j)) * v64 (ix2 j d) :=
  MergeBlock.pay5_at _ _ _ _ _ _ _ _ _

/-- The residual row after the feed-forward part, over its three pieces. -/
theorem pay6_at (v26 : FVec Ideal S256x1024 .f32) (v51 : FVec Ideal S256x1024 .bf16) (v65 : FVec Ideal S256x1024 .f32)
    (v66 v74 v78 : Vec Ideal S1024x1024 .bf16) (v81 v89 : Vec Ideal S1024x768 .bf16) (v93 : Vec Ideal S768x1024 .bf16)
    (v96 : Vec Ideal S1x1x1024 .f32) (r : Fin 256) (d : Fin 1024) :
    k0_pay6 v26 v51 v65 v66 v74 v78 v81 v89 v93 v96 (ix2 r d) = v26 (ix2 r d) + v96 (ix3 0 0 d) * (v65 (ix2 r d)
      + (∑ j : Fin 1024, silu (∑ k, v51 (ix2 r k) * v66 (ix2 k j)) * (∑ k, v51 (ix2 r k) * v74 (ix2 k j)) * v78 (ix2 j d))
      + (∑ j : Fin 768, silu (∑ k, v51 (ix2 r k) * v81 (ix2 k j)) * (∑ k, v51 (ix2 r k) * v89 (ix2 k j)) * v93 (ix2 j d))) :=
  MergeBlock.pay6_at _ _ _ _ _ _ _ _ _ _ _ _

/-- The stored row. -/
theorem pay1_at (v100 : FVec Ideal S256x1024 .f32) (r : Fin 256) (d : Fin 1024) : k0_pay1 v100 (ix3 0 r d) = v100 (ix2 r d) := by
  pointwise [k0_pay1]

end Cert.Proof.MergeCtxBlock

end
-- ==== Proof.MergeCtxValue.lean ====
/-
  What the result array of the context stream's merge holds: at every token the row function of MergeSpec, of the argument arrays.
-/
module

public import proofs.«01_k».proof.Proof.Gen.MergeCtxIdeal.Value
public import proofs.«01_k».proof.Proof.MergeCtxBlock
public import Idealize.ShloMosaic.Lib.Pipeline.ValueKit

@[expose] public section

noncomputable section

namespace Cert.Proof.MergeCtxValue

open Idealize.ShloMosaic Idealize.ShloMosaic.TcCoe Cert.MergeCtxIdeal Cert.MergeCtxIdeal.Gen Cert.Proof.MergeSpec
open Idealize.ShloMosaic.Pipeline (Dat)

/-- The result array as one function of the twelve argument arrays. -/
def G (yr : Vec Ideal S32x256x2048 .bf16) (z : Vec Ideal S32x256x1024 .bf16) (gt : Vec Ideal S32x256x2048 .bf16)
    (x : Vec Ideal S32x256x1024 .f32) (md : Vec Ideal S1x6x1024 .f32) (nf : Vec Ideal S1024 .f32)
    (wro : Vec Ideal S2048x1024 .bf16) (wco wo : Vec Ideal S1024x1024 .bf16) (wfi : Vec Ideal S1024x5632 .bf16)
    (wfo : Vec Ideal S2816x1024 .bf16) (fw : Vec Ideal S1024 .f32) : Vec Ideal S32x256x1024 .f32 := fun i =>
  res (x1 (fun j => yr (ix3 (i 0) (i 1) j)) (fun j => z (ix3 (i 0) (i 1) j)) (fun j => gt (ix3 (i 0) (i 1) j))
      (fun e => x (ix3 (i 0) (i 1) e)) (fun e => md (ix3 0 2 e)) (fun j k => wro (ix2 j k)) (fun j k => wco (ix2 j k))
      (fun j k => wo (ix2 j k)))
    (fun e => nf (ix1 e)) (fun e => md (ix3 0 3 e)) (fun e => md (ix3 0 4 e)) (fun e => md (ix3 0 5 e))
    (fun k j => wfi (ix2 k j)) (fun j k => wfo (ix2 j k)) (i 2)

theorem hz3 : (![0, 0, 0] : Fin 3 → Nat) = fun _ => 0 := funext fun a => by fin_cases a <;> rfl
theorem hz2 : (![0, 0] : Fin 2 → Nat) = fun _ => 0 := funext fun a => by fin_cases a <;> rfl

/-- A block, at a row and a column: the row functions of the block's inputs. -/
theorem out_at (x0 : Vec Ideal S1x256x2048 .bf16) (x1 : Vec Ideal S1x256x1024 .bf16) (x2 : Vec Ideal S1x256x2048 .bf16)
    (x3 : Vec Ideal S1x256x1024 .f32) (x4 : Vec Ideal S1x6x1024 .f32) (x5 : Vec Ideal S1x1024 .f32) (x6 : Vec Ideal S2048x1024 .bf16)
    (x7 x8 : Vec Ideal S1024x1024 .bf16) (x9 : Vec Ideal S1024x5632 .bf16) (x10 : Vec Ideal S2816x1024 .bf16)
    (x11 : Vec Ideal S1x1024 .f32) (r : Fin 256) (d : Fin 1024) :
    out0_12 x0 x1 x2 x3 x4 x5 x6 x7 x8 x9 x10 x11 (ix3 0 r d)
      = res (MergeSpec.x1 (fun j => x0 (ix3 0 r j)) (fun j => x1 (ix3 0 r j)) (fun j => x2 (ix3 0 r j))
          (fun e => x3 (ix3 0 r e)) (fun e => x4 (ix3 0 2 e)) (fun j k => x6 (ix2 j k)) (fun j k => x7 (ix2 j k))
          (fun j k => x8 (ix2 j k)))
        (fun e => x5 (ix2 0 e)) (fun e => x4 (ix3 0 3 e)) (fun e => x4 (ix3 0 4 e)) (fun e => x4 (ix3 0 5 e))
        (fun k j => x9 (ix2 k j)) (fun j k => x10 (ix2 j k)) d := by
  have e7 : ∀ e : Fin 1024, k0_pay7 x0 x1 x2 x3 x4 x5 x6 x7 x8 x9 x10 x11 (ix2 r e)
      = MergeSpec.x1 (fun j => x0 (ix3 0 r j)) (fun j => x1 (ix3 0 r j)) (fun j => x2 (ix3 0 r j))
          (fun e => x3 (ix3 0 r e)) (fun e => x4 (ix3 0 2 e)) (fun j k => x6 (ix2 j k)) (fun j k => x7 (ix2 j k))
          (fun j k => x8 (ix2 j k)) e := by
    intro e
    unfold k0_pay7
    rw [MergeCtxBlock.pay2_at]
    pointwise [MergeSpec.x1]
  have e8 : ∀ e : Fin 1024, k0_pay8 x0 x1 x2 x3 x4 x5 x6 x7 x8 x9 x10 x11 (ix2 0 e) = x5 (ix2 0 e) := by
    intro e
    pointwise [k0_pay8, k0_pay3]
  unfold out0_12
  rw [View.canon_unit_zero hz3, MergeCtxBlock.pay1_at]
  unfold res
  rw [MergeCtxBlock.pay6_at, MergeCtxBlock.pay5_at]
  simp only [MergeCtxBlock.pay4_at]
  pointwise [e7, e8]
  refine congrArg₂ (· + ·) rfl (congrArg₂ (· * ·) rfl ?_)
  unfold ffn
  rw [← sum_three]
  simp only [act, ← Nat.add_assoc, Nat.reduceAdd]

/-- Every window's block index at a point, in the point's two coordinates. -/
theorem idx : ∀ t : Fin cfg0.N,
    win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![0, 0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0]
    ∧ win0_12.index t = ![(grid0.coords t 0).val, (grid0.coords t 1).val, 0] :=
  (by decide +kernel : ∀ t : Fin grid0.N, _)

variable (m : (ℓ : Loc nD τ sig) → Buf (Elt Ideal) ℓ)

/-- A token's place in its array, from the point and the row in the block. -/
def tok (t : Fin cfg0.N) (r : Fin 256) : Fin 256 := ⟨(grid0.coords t 1).val * 256 + r.val, by
  have h : (grid0.coords t 1).val < 1 := (grid0.coords t 1).isLt; omega⟩
/-- A point's batch row. -/
def bat (t : Fin cfg0.N) : Fin 32 := ⟨(grid0.coords t 0).val, (grid0.coords t 0).isLt⟩

theorem b0 (c : Dev nD) (t : Fin cfg0.N) (r : Fin 256) (j : Fin 2048) :
    iblk m c 0 t (ix3 0 r j) = m ((c : Thread nD τ).loc main_arg0) (ix3 (bat t) (tok t r) j) := by
  blk_ext! [iblk, V, V_main_arg0 m c, idx t, bat, tok]
theorem b1 (c : Dev nD) (t : Fin cfg0.N) (r : Fin 256) (j : Fin 1024) :
    iblk m c 1 t (ix3 0 r j) = m ((c : Thread nD τ).loc main_arg1) (ix3 (bat t) (tok t r) j) := by
  blk_ext! [iblk, V, V_main_arg1 m c, idx t, bat, tok]
theorem b2 (c : Dev nD) (t : Fin cfg0.N) (r : Fin 256) (j : Fin 2048) :
    iblk m c 2 t (ix3 0 r j) = m ((c : Thread nD τ).loc main_arg2) (ix3 (bat t) (tok t r) j) := by
  blk_ext! [iblk, V, V_main_arg2 m c, idx t, bat, tok]
theorem b3 (c : Dev nD) (t : Fin cfg0.N) (r : Fin 256) (j : Fin 1024) :
    iblk m c 3 t (ix3 0 r j) = m ((c : Thread nD τ).loc main_arg3) (ix3 (bat t) (tok t r) j) := by
  blk_ext! [iblk, V, V_main_arg3 m c, idx t, bat, tok]
theorem b4 (c : Dev nD) (t : Fin cfg0.N) (k : Fin 6) (j : Fin 1024) :
    iblk m c 4 t (ix3 0 k j) = m ((c : Thread nD τ).loc main_arg4) (ix3 0 k j) := by
  blk_ext! [iblk, V, idx t, bat]
theorem b5 (c : Dev nD) (t : Fin cfg0.N) (j : Fin 1024) :
    iblk m c 5 t (ix2 0 j) = m ((c : Thread nD τ).loc main_arg5) (ix1 j) := by
  blk_ext! [iblk, V, idx t]
theorem b11 (c : Dev nD) (t : Fin cfg0.N) (j : Fin 1024) :
    iblk m c 11 t (ix2 0 j) = m ((c : Thread nD τ).loc main_arg11) (ix1 j) := by
  blk_ext! [iblk, V, idx t]
theorem b6 (c : Dev nD) (t : Fin cfg0.N) (k : Fin 2048) (j : Fin 1024) :
    iblk m c 6 t (ix2 k j) = m ((c : Thread nD τ).loc main_arg6) (ix2 k j) := by
  blk_ext! [iblk, V, idx t]
theorem b7 (c : Dev nD) (t : Fin cfg0.N) (k : Fin 1024) (j : Fin 1024) :
    iblk m c 7 t (ix2 k j) = m ((c : Thread nD τ).loc main_arg7) (ix2 k j) := by
  blk_ext! [iblk, V, idx t]
theorem b8 (c : Dev nD) (t : Fin cfg0.N) (k : Fin 1024) (j : Fin 1024) :
    iblk m c 8 t (ix2 k j) = m ((c : Thread nD τ).loc main_arg8) (ix2 k j) := by
  blk_ext! [iblk, V, idx t]
theorem b9 (c : Dev nD) (t : Fin cfg0.N) (k : Fin 1024) (j : Fin 5632) :
    iblk m c 9 t (ix2 k j) = m ((c : Thread nD τ).loc main_arg9) (ix2 k j) := by
  blk_ext! [iblk, V, idx t]
theorem b10 (c : Dev nD) (t : Fin cfg0.N) (k : Fin 2816) (j : Fin 1024) :
    iblk m c 10 t (ix2 k j) = m ((c : Thread nD τ).loc main_arg10) (ix2 k j) := by
  blk_ext! [iblk, V, idx t]

/-- The result array after the run. -/
theorem final (c : Dev nD) : (dats m 0 c).arrAt 12 cfg0.N = G (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) := by
  refine (dats m 0 c).arrAt_eq_of_covers 12 _ (by decide +kernel) fun t hf y => ?_
  blk_simp
  rw [after0_12]
  obtain ⟨i0, i1, i2, i3, i4, i5, i6, i7, i8, i9, i10, i11, i12⟩ := idx t
  idx_vars y
  obtain rfl : y0 = 0 := Subsingleton.elim _ _
  have e : ((View.whole main_v2).slice (win0_12.rect t)).emb (ix3 0 y1 y2) = ix3 (bat t) (tok t y1) y2 := by
    blk_ext [i12, bat, tok]
  rw [e, out_at]
  simp only [b0, b1, b2, b3, b4, b5, b6, b7, b8, b9, b10, b11]
  rfl

end Cert.Proof.MergeCtxValue

end
-- ==== Proof.MergeCtxRef.lean ====
/-
  What the reference of the context stream's merge computes: its operations grouped into steps, each step read at a token and a column as a row
  function of MergeSpec.
-/
module

public import proofs.«01_k».proof.Proof.Gen.MergeCtxRefIdeal.Run
public import proofs.«01_k».proof.Proof.MergeSpec

@[expose] public section

noncomputable section

namespace Cert.Proof.MergeCtxRef

open Idealize.ShloMosaic Idealize.ShloMosaic.TcCoe Cert.MergeCtxRefIdeal Cert.MergeCtxRefIdeal.Gen Cert.Proof.MergeSpec

/-- The modulation argument without its unit axis. -/
def md2 (a4 : FVec Ideal S1x6x1024 .f32) : FVec Ideal S6x1024 .f32 := shapeCast S6x1024 a4 shapeCasts_S1x6x1024_S6x1024

/-- The residual after the two branches. -/
def rX1 (a0 : FVec Ideal S32x256x2048 .bf16) (a1 : FVec Ideal S32x256x1024 .bf16) (a2 : FVec Ideal S32x256x2048 .bf16)
    (a3 : FVec Ideal S32x256x1024 .f32) (a4 : FVec Ideal S1x6x1024 .f32) (a6 : FVec Ideal S2048x1024 .bf16)
    (a7 a8 : FVec Ideal S1024x1024 .bf16) : FVec Ideal S32x256x1024 .f32 :=
  addf a3 (mulf (broadcastInDim S32x256x1024 ![0, 1, 2] bcast_S1x1x1024_S32x256x1024_0_1_2
      (broadcastInDim S1x1x1024 ![2] bcast_S1024_S1x1x1024_2 (shapeCast S1024 (extractStridedSlice S1x1024 ![2, 0] (md2 a4) slices_S6x1024_S1x1024_2_0)
        shapeCasts_S1x1024_S1024)))
    (Host.dotGeneral dot_S32x256x1024_S1024x1024_S32x256x1024_2_0_01_1_n_n none
      (addf (mulf (extractStridedSlice S32x256x1024 ![0, 0, 0] (extf .f32 a2 bitsLt_bf16_f32) slices_S32x256x2048_S32x256x1024_0_0_0)
          (Host.dotGeneral dot_S32x256x2048_S2048x1024_S32x256x1024_2_0_01_1_n_n none (extf .f32 a0 bitsLt_bf16_f32)
            (extf .f32 a6 bitsLt_bf16_f32)))
        (mulf (extractStridedSlice S32x256x1024 ![0, 0, 1024] (extf .f32 a2 bitsLt_bf16_f32) slices_S32x256x2048_S32x256x1024_0_0_1024)
          (Host.dotGeneral dot_S32x256x1024_S1024x1024_S32x256x1024_2_0_01_1_n_n none (extf .f32 a1 bitsLt_bf16_f32)
            (extf .f32 a7 bitsLt_bf16_f32))))
      (extf .f32 a8 bitsLt_bf16_f32)))

/-- The normalization of every token's row, times a weight row. -/
def rRms (x : FVec Ideal S32x256x1024 .f32) (w : FVec Ideal S1024 .f32) : FVec Ideal S32x256x1024 .f32 :=
  mulf (mulf x (broadcastInDim S32x256x1024 ![0, 1, 2] bcast_S32x256x1_S32x256x1024_0_1_2 (Host.rsqrt (addf
      (Host.divf (broadcastInDim S32x256x1 ![0, 1] bcast_S32x256_S32x256x1_0_1
          (Host.reduceAdd (mulf x x) (constant S_ .f32 0x00000000#32) reducesTo_S32x256x1024_S32x256_d2 h_S_))
        (broadcastInDim S32x256x1 ![] bcast_S_S32x256x1 (constant S_ .f32 0x44800000#32)))
      (broadcastInDim S32x256x1 ![] bcast_S_S32x256x1 (constant S_ .f32 0x358637BD#32))))))
    (broadcastInDim S32x256x1024 ![0, 1, 2] bcast_S1x1x1024_S32x256x1024_0_1_2
      (broadcastInDim S1x1x1024 ![2] bcast_S1024_S1x1x1024_2 w))

/-- The hidden rows: normalized, scaled and shifted. -/
def rHid (x : FVec Ideal S32x256x1024 .f32) (a4 : FVec Ideal S1x6x1024 .f32) (a5 : FVec Ideal S1024 .f32) :
    FVec Ideal S32x256x1024 .f32 :=
  addf (mulf (rRms x a5) (broadcastInDim S32x256x1024 ![0, 1, 2] bcast_S1x1x1024_S32x256x1024_0_1_2
      (broadcastInDim S1x1x1024 ![2] bcast_S1024_S1x1x1024_2 (addf (broadcastInDim S1024 ![] bcast_S_S1024 (constant S_ .f32 0x3F800000#32))
        (shapeCast S1024 (extractStridedSlice S1x1024 ![4, 0] (md2 a4) slices_S6x1024_S1x1024_4_0) shapeCasts_S1x1024_S1024)))))
    (broadcastInDim S32x256x1024 ![0, 1, 2] bcast_S1x1x1024_S32x256x1024_0_1_2
      (broadcastInDim S1x1x1024 ![2] bcast_S1024_S1x1x1024_2 (shapeCast S1024 (extractStridedSlice S1x1024 ![3, 0] (md2 a4) slices_S6x1024_S1x1024_3_0)
        shapeCasts_S1x1024_S1024)))

/-- The hidden rows through the first weight. -/
def rUp (h : FVec Ideal S32x256x1024 .f32) (a9 : FVec Ideal S1024x5632 .bf16) : FVec Ideal S32x256x5632 .f32 :=
  Host.dotGeneral dot_S32x256x1024_S1024x5632_S32x256x5632_2_0_01_1_n_n none h (extf .f32 a9 bitsLt_bf16_f32)

/-- The gate half of the first product. -/
def rGate (u : FVec Ideal S32x256x5632 .f32) : FVec Ideal S32x256x2816 .f32 :=
  extractStridedSlice S32x256x2816 ![0, 0, 0] u slices_S32x256x5632_S32x256x2816_0_0_0

/-- The gated hidden layer through the second weight. -/
def rFfn (u : FVec Ideal S32x256x5632 .f32) (a10 : FVec Ideal S2816x1024 .bf16) : FVec Ideal S32x256x1024 .f32 :=
  Host.dotGeneral dot_S32x256x2816_S2816x1024_S32x256x1024_2_0_01_1_n_n none
    (mulf (mulf (rGate u) (Host.divf (broadcastInDim S32x256x2816 ![] bcast_S_S32x256x2816 (constant S_ .f32 0x3F800000#32))
        (addf (broadcastInDim S32x256x2816 ![] bcast_S_S32x256x2816 (constant S_ .f32 0x3F800000#32))
          (Host.exp (Host.negf (rGate u))))))
      (extractStridedSlice S32x256x2816 ![0, 0, 2816] u slices_S32x256x5632_S32x256x2816_0_0_2816))
    (extf .f32 a10 bitsLt_bf16_f32)

/-- The residual after the feed-forward part. -/
def rX2 (x : FVec Ideal S32x256x1024 .f32) (a4 : FVec Ideal S1x6x1024 .f32) (f : FVec Ideal S32x256x1024 .f32) :
    FVec Ideal S32x256x1024 .f32 :=
  addf x (mulf (broadcastInDim S32x256x1024 ![0, 1, 2] bcast_S1x1x1024_S32x256x1024_0_1_2
      (broadcastInDim S1x1x1024 ![2] bcast_S1024_S1x1x1024_2 (shapeCast S1024 (extractStridedSlice S1x1024 ![5, 0] (md2 a4) slices_S6x1024_S1x1024_5_0)
        shapeCasts_S1x1024_S1024))) f)

variable (m : (ℓ : Loc nD τ sig) → Buf (Elt Ideal) ℓ)

/-- The steps composed. -/
def rAll (a0 : FVec Ideal S32x256x2048 .bf16) (a1 : FVec Ideal S32x256x1024 .bf16) (a2 : FVec Ideal S32x256x2048 .bf16)
    (a3 : FVec Ideal S32x256x1024 .f32) (a4 : FVec Ideal S1x6x1024 .f32) (a5 : FVec Ideal S1024 .f32) (a6 : FVec Ideal S2048x1024 .bf16)
    (a7 a8 : FVec Ideal S1024x1024 .bf16) (a9 : FVec Ideal S1024x5632 .bf16) (a10 : FVec Ideal S2816x1024 .bf16)
    (a11 : FVec Ideal S1024 .f32) : FVec Ideal S32x256x1024 .f32 :=
  rX2 (rX1 a0 a1 a2 a3 a4 a6 a7 a8) a4 (rFfn (rUp (rHid (rX1 a0 a1 a2 a3 a4 a6 a7 a8) a4 a5) a9) a10)

/-- The reference's result is the steps composed. -/
theorem res_eq (c : Dev nD) : Value.res_main_v59 m c = rAll (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11)) := by
  unfold Value.res_main_v59 rAll rX2 rFfn rGate rUp rHid rRms rX1 md2
  rfl

theorem rX1_at (a0 : FVec Ideal S32x256x2048 .bf16) (a1 : FVec Ideal S32x256x1024 .bf16) (a2 : FVec Ideal S32x256x2048 .bf16)
    (a3 : FVec Ideal S32x256x1024 .f32) (a4 : FVec Ideal S1x6x1024 .f32) (a6 : FVec Ideal S2048x1024 .bf16)
    (a7 a8 : FVec Ideal S1024x1024 .bf16) (b : Fin 32) (t : Fin 256) (d : Fin 1024) :
    rX1 a0 a1 a2 a3 a4 a6 a7 a8 (ix3 b t d) = x1 (fun j => a0 (ix3 b t j)) (fun j => a1 (ix3 b t j)) (fun j => a2 (ix3 b t j))
      (fun e => a3 (ix3 b t e)) (fun e => a4 (ix3 0 2 e)) (fun j k => a6 (ix2 j k)) (fun j k => a7 (ix2 j k))
      (fun j k => a8 (ix2 j k)) d := by
  pointwise [rX1, md2, x1, dot_S32x256x1024_S1024x1024_S32x256x1024_2_0_01_1_n_n, dot_S32x256x2048_S2048x1024_S32x256x1024_2_0_01_1_n_n]

theorem rRms_at (x : FVec Ideal S32x256x1024 .f32) (w : FVec Ideal S1024 .f32) (b : Fin 32) (t : Fin 256) (d : Fin 1024) :
    rRms x w (ix3 b t d) = rms (fun e => x (ix3 b t e)) (fun e => w (ix1 e)) d := by
  pointwise [rRms, rms]

theorem rHid_at (x : FVec Ideal S32x256x1024 .f32) (a4 : FVec Ideal S1x6x1024 .f32) (a5 : FVec Ideal S1024 .f32)
    (b : Fin 32) (t : Fin 256) (d : Fin 1024) :
    rHid x a4 a5 (ix3 b t d) = hid (fun e => x (ix3 b t e)) (fun e => a5 (ix1 e)) (fun e => a4 (ix3 0 3 e)) (fun e => a4 (ix3 0 4 e)) d := by
  pointwise [rHid, hid, md2, rRms_at]

theorem rFfn_at (h : FVec Ideal S32x256x1024 .f32) (a9 : FVec Ideal S1024x5632 .bf16) (a10 : FVec Ideal S2816x1024 .bf16)
    (b : Fin 32) (t : Fin 256) (d : Fin 1024) :
    rFfn (rUp h a9) a10 (ix3 b t d) = ffn (fun e => h (ix3 b t e)) (fun k j => a9 (ix2 k j)) (fun j k => a10 (ix2 j k)) d := by
  pointwise [rFfn, rUp, rGate, ffn, act, silu, mul_div_one, dot_S32x256x2816_S2816x1024_S32x256x1024_2_0_01_1_n_n,
    dot_S32x256x1024_S1024x5632_S32x256x5632_2_0_01_1_n_n]

theorem rAll_at (a0 : FVec Ideal S32x256x2048 .bf16) (a1 : FVec Ideal S32x256x1024 .bf16) (a2 : FVec Ideal S32x256x2048 .bf16)
    (a3 : FVec Ideal S32x256x1024 .f32) (a4 : FVec Ideal S1x6x1024 .f32) (a5 : FVec Ideal S1024 .f32) (a6 : FVec Ideal S2048x1024 .bf16)
    (a7 a8 : FVec Ideal S1024x1024 .bf16) (a9 : FVec Ideal S1024x5632 .bf16) (a10 : FVec Ideal S2816x1024 .bf16)
    (a11 : FVec Ideal S1024 .f32) (b : Fin 32) (t : Fin 256) (d : Fin 1024) :
    rAll a0 a1 a2 a3 a4 a5 a6 a7 a8 a9 a10 a11 (ix3 b t d) = res (x1 (fun j => a0 (ix3 b t j)) (fun j => a1 (ix3 b t j)) (fun j => a2 (ix3 b t j))
      (fun e => a3 (ix3 b t e)) (fun e => a4 (ix3 0 2 e)) (fun j k => a6 (ix2 j k)) (fun j k => a7 (ix2 j k))
      (fun j k => a8 (ix2 j k))) (fun e => a5 (ix1 e)) (fun e => a4 (ix3 0 3 e)) (fun e => a4 (ix3 0 4 e)) (fun e => a4 (ix3 0 5 e))
      (fun k j => a9 (ix2 k j)) (fun j k => a10 (ix2 j k)) d := by
  pointwise [rAll, res, rX2, md2, rFfn_at, rHid_at, rX1_at]

end Cert.Proof.MergeCtxRef

end
-- ==== Proof.MergeCtxClaim.lean ====
/-
  The equation of the context stream's merge: the kernel's result array and the reference's result agree.
-/
module

public import proofs.«01_k».proof.Defs
public import proofs.«01_k».proof.Proof.MergeCtxValue
public import proofs.«01_k».proof.Proof.MergeCtxRef
public import Idealize.ShloMosaic.Lib.Quiescent
public import Idealize.ShloMosaic.Lib.Claim

@[expose] public section

noncomputable section

namespace Cert.Proof.MergeCtxClaim

open Idealize.ShloMosaic Idealize.ShloMosaic.TcCoe Idealize.SL.Sem

/-- The reference's steps, at every index, are the function the kernel's result array holds. -/
theorem rAll_eq (a0 a1 a2 a3 a4 a5 a6 a7 a8 a9 a10 a11) :
    MergeCtxRef.rAll a0 a1 a2 a3 a4 a5 a6 a7 a8 a9 a10 a11 = MergeCtxValue.G a0 a1 a2 a3 a4 a5 a6 a7 a8 a9 a10 a11 := by
  funext i
  idx_vars i
  exact MergeCtxRef.rAll_at a0 a1 a2 a3 a4 a5 a6 a7 a8 a9 a10 a11 _ _ _

/-- From the same arguments the context stream's merge and its reference end with the same result. -/
theorem algebraic : Cert.algebraic_MergeCtxIdeal_MergeCtxRefIdeal (hMergeCtxIdeal := Cert.MergeCtxIdeal.Gen.facts)
    (hMergeCtxRefIdeal := Cert.MergeCtxRefIdeal.Gen.facts) := by
  pair_intro
  · run_from Cert.MergeCtxIdeal.Value.run_blocks m g
  · run_from Cert.MergeCtxRefIdeal.Value.run m' g'
    obtain ⟨h0, h1, h2, h3, h4, h5, h6, h7, h8, h9, h10, h11⟩ := hagree c
    rw [MergeCtxValue.final m c, MergeCtxRef.res_eq, rAll_eq, h0, h1, h2, h3, h4, h5, h6, h7, h8, h9, h10, h11]

end Cert.Proof.MergeCtxClaim

end
-- ==== Proof.InProjSpec.lean ====
/-
  The in-projection of one token, as functions of its row: the normalized and modulated row is `MergeSpec.hid`; here its
  projection, and the rotary turn of a head.
-/
module

public import proofs.«01_k».proof.Proof.MergeSpec

@[expose] public section

noncomputable section

namespace Cert.Proof.InProjSpec

open Idealize.ShloMosaic

/-- Frequency `i` of the rotary turn. -/
def freq (i : Fin 32) : EReal :=
  Ideal.pow (Ideal.ofBits .f32 0x461C4000#32) (Ideal.div (-(Ideal.ofBits .f32 0x40000000#32 * FloatOps.sitofp (F := Ideal) .f32 (BitVec.ofNat 32 i.val)))
    (Ideal.ofBits .f32 0x42800000#32))
/-- The angle of the row position of token `t`. -/
def angR (t : Fin 2048) (i : Fin 32) : EReal := FloatOps.sitofp (F := Ideal) .f32 (BitVec.ofNat 32 (t.val / 64)) * freq i
/-- The angle of the column position of token `t`. -/
def angC (t : Fin 2048) (i : Fin 32) : EReal := FloatOps.sitofp (F := Ideal) .f32 (BitVec.ofNat 32 (t.val % 64)) * freq i
/-- The angle of a lane: the first 64 lanes turn by the row, the others by the column, each half-run of 32 alike. -/
def ang (t : Fin 2048) (l : Fin 128) : EReal :=
  if l.val < 64 then angR t ⟨l.val % 32, by omega⟩ else angC t ⟨l.val % 32, by omega⟩
/-- The scale of the keys. -/
def kscale : EReal := Ideal.ofBits .f32 0x3DB504F3#32

/-- A head turned: lane `l` against its partner 32 lanes further or back. -/
def turn (x : Fin 128 → EReal) (t : Fin 2048) (l : Fin 128) : EReal :=
  if h : l.val % 64 < 32 then x l * Ideal.cos (ang t l) - x ⟨l.val + 32, by omega⟩ * Ideal.sin (ang t l)
  else x ⟨l.val - 32, by omega⟩ * Ideal.sin (ang t l) + x l * Ideal.cos (ang t l)

/-- A column of the projection of a row. -/
def proj (h : Fin 1024 → EReal) (w : Fin 1024 → Fin 11264 → EReal) (j : Fin 11264) : EReal := ∑ k, h k * w k j

/-- The kernel's form of the turn: the partner is the head rolled by 96 or by 32, its factor carries the sign. -/
theorem turn_eq (x : Fin 128 → EReal) (t : Fin 2048) (l : Fin 128) :
    x l * Ideal.cos (ang t l) + (if l.val % 64 < 32 then x ⟨(l.val + 128 - 96) % 128, by omega⟩ else x ⟨(l.val + 128 - 32) % 128, by omega⟩)
      * (Ideal.sin (ang t l) * (if l.val % 64 < 32 then -1 else 1)) = turn x t l := by
  unfold turn
  split_ifs with h
  · have e : (⟨(l.val + 128 - 96) % 128, by omega⟩ : Fin 128) = ⟨l.val + 32, by omega⟩ := Fin.ext (by show _ % 128 = _ + 32; omega)
    rw [e, mul_neg_one, mul_neg, sub_eq_add_neg]
  · have e : (⟨(l.val + 128 - 32) % 128, by omega⟩ : Fin 128) = ⟨l.val - 32, by omega⟩ := Fin.ext (by show _ % 128 = _ - 32; omega)
    rw [e, mul_one, add_comm]

/-- A scale on the table is a scale on the head. -/
theorem turn_scale (x : Fin 128 → EReal) (t : Fin 2048) (l : Fin 128) (κ : EReal) :
    x l * (Ideal.cos (ang t l) * κ) + (if l.val % 64 < 32 then x ⟨(l.val + 128 - 96) % 128, by omega⟩ else x ⟨(l.val + 128 - 32) % 128, by omega⟩)
      * (Ideal.sin (ang t l) * (if l.val % 64 < 32 then -1 else 1) * κ) = turn (fun e => x e * κ) t l := by
  rw [← turn_eq]
  split_ifs <;> ac_rfl

end Cert.Proof.InProjSpec

end
-- ==== Proof.InProjBlock.lean ====
/-
  What one block of the in-projection kernel computes: each payload read at a row and a column.
-/
module

public import proofs.«01_k».proof.Proof.Gen.InProjIdeal.Frame
public import proofs.«01_k».proof.Proof.InProjSpec

@[expose] public section

noncomputable section

namespace Cert.Proof.InProjBlock

open Idealize.ShloMosaic Cert.InProjIdeal Cert.InProjIdeal.Gen Cert.Proof.MergeSpec Cert.Proof.InProjSpec

/-- The normalized and modulated row. -/
theorem pay4_at (v0 : Vec Ideal S1x256x1024 .f32) (v2 : Vec Ideal S1x1024 .f32) (v16 v22 : Vec Ideal S1x1x1024 .f32) (r : Fin 256) (d : Fin 1024) :
    k0_pay4 v0 v2 v16 v22 (ix2 r d) = hid (fun e => v0 (ix3 0 r e)) (fun e => v2 (ix2 0 e)) (fun e => v22 (ix3 0 0 e))
      (fun e => v16 (ix3 0 0 e)) d := by
  pointwise [k0_pay4, hid, rms]

/-- Whether a lane lies in the first half of its run of 64. -/
def half : IVec S256x128 1 :=
  k0_pay8 (Scalar.select (Scalar.cmpi .eq 64#32 0#32) 1#32 64#32) k0_pay5 k0_pay6 k0_pay7
    (Scalar.cmpi .slt (Scalar.select (Scalar.cmpi .eq 64#32 0#32) 1#32 64#32) 0#32)

theorem half_bit : ∀ l : Fin 128, half (ix2 0 l) = if l.val % 64 < 32 then 1#1 else 0#1 := by decide +kernel

theorem half_at (r : Fin 256) (l : Fin 128) : half (ix2 r l) = if l.val % 64 < 32 then 1#1 else 0#1 := by
  rw [← half_bit l]
  pointwise [half, k0_pay8, k0_pay5, k0_pay6, k0_pay7]

/-- A selection by the half, as a case distinction. -/
theorem sel (r : Fin 256) (l : Fin 128) (x y : EReal) : Scalar.select (half (ix2 r l)) x y = if l.val % 64 < 32 then x else y := by
  rw [half_at]
  split_ifs <;> rfl

/-- A head of a block turned by the two tables, at a row and a lane. -/
def head (p : Fin 1024 → EReal) (c s : Fin 128 → EReal) (o : Fin 8) (l : Fin 128) : EReal :=
  p ⟨o.val * 128 + l.val, by omega⟩ * c l
    + (if l.val % 64 < 32 then p ⟨o.val * 128 + (l.val + 128 - 96) % 128, by omega⟩ else p ⟨o.val * 128 + (l.val + 128 - 32) % 128, by omega⟩) * s l

variable (h : FVec Ideal S256x1024 .bf16) (w : Vec Ideal S1024x1024 .bf16) (p : FVec Ideal S256x1024 .f32)
  (c s : FVec Ideal S256x128 .f32) (r : Fin 256) (l : Fin 128)

theorem pay9_at (d : Fin 1024) : k0_pay9 h w (ix2 r d) = ∑ k : Fin 1024, h (ix2 r k) * w (ix2 k d) := by
  pointwise [k0_pay9, dot_S256x1024_S1024x1024_S256x1024_1_0_0_1_n_n]
theorem pay23_at (d : Fin 1024) : k0_pay23 h w (ix2 r d) = ∑ k : Fin 1024, h (ix2 r k) * w (ix2 k d) := by
  pointwise [k0_pay23, dot_S256x1024_S1024x1024_S256x1024_1_0_0_1_n_n]

theorem q0 : k0_pay12 h (Scalar.select (Scalar.cmpi .eq 64#32 0#32) 1#32 64#32) k0_pay5 k0_pay6 k0_pay7 (Scalar.cmpi .slt (Scalar.select (Scalar.cmpi .eq 64#32 0#32) 1#32 64#32) 0#32) w c s (ix3 0 r l) = head (fun d => k0_pay9 h w (ix2 r d)) (fun e => c (ix2 r e)) (fun e => s (ix2 r e)) 0 l := by
  unfold k0_pay12
  rw [show k0_pay8 (Scalar.select (Scalar.cmpi .eq 64#32 0#32) 1#32 64#32) k0_pay5 k0_pay6 k0_pay7 (Scalar.cmpi .slt (Scalar.select (Scalar.cmpi .eq 64#32 0#32) 1#32 64#32) 0#32) = half from rfl]
  pointwise [k0_pay10, k0_pay11, sel, head]
theorem q1 : k0_pay13 h (Scalar.select (Scalar.cmpi .eq 64#32 0#32) 1#32 64#32) k0_pay5 k0_pay6 k0_pay7 (Scalar.cmpi .slt (Scalar.select (Scalar.cmpi .eq 64#32 0#32) 1#32 64#32) 0#32) w c s (ix3 0 r l) = head (fun d => k0_pay9 h w (ix2 r d)) (fun e => c (ix2 r e)) (fun e => s (ix2 r e)) 1 l := by
  unfold k0_pay13
  rw [show k0_pay8 (Scalar.select (Scalar.cmpi .eq 64#32 0#32) 1#32 64#32) k0_pay5 k0_pay6 k0_pay7 (Scalar.cmpi .slt (Scalar.select (Scalar.cmpi .eq 64#32 0#32) 1#32 64#32) 0#32) = half from rfl]
  pointwise [k0_pay10, k0_pay11, sel, head]
theorem q2 : k0_pay16 half c s (k0_pay14 h w) (k0_pay15 h w) (ix3 0 r l) = head (fun d => k0_pay9 h w (ix2 r d)) (fun e => c (ix2 r e)) (fun e => s (ix2 r e)) 2 l := by
  pointwise [k0_pay16, k0_pay14, k0_pay15, sel, head]
theorem q3 : k0_pay17 half p c s (ix3 0 r l) = head (fun d => p (ix2 r d)) (fun e => c (ix2 r e)) (fun e => s (ix2 r e)) 3 l := by
  pointwise [k0_pay17, sel, head]
theorem q4 : k0_pay18 half p c s (ix3 0 r l) = head (fun d => p (ix2 r d)) (fun e => c (ix2 r e)) (fun e => s (ix2 r e)) 4 l := by
  pointwise [k0_pay18, sel, head]
theorem q5 : k0_pay20 (k0_pay19 half p c s) (ix3 0 r l) = head (fun d => p (ix2 r d)) (fun e => c (ix2 r e)) (fun e => s (ix2 r e)) 5 l := by
  pointwise [k0_pay20, k0_pay19, sel, head]
theorem q6 : k0_pay21 half p c s (ix3 0 r l) = head (fun d => p (ix2 r d)) (fun e => c (ix2 r e)) (fun e => s (ix2 r e)) 6 l := by
  pointwise [k0_pay21, sel, head]
theorem q7 : k0_pay22 half p c s (ix3 0 r l) = head (fun d => p (ix2 r d)) (fun e => c (ix2 r e)) (fun e => s (ix2 r e)) 7 l := by
  pointwise [k0_pay22, sel, head]
theorem k0 : k0_pay29 (k0_pay27 h w c) (k0_pay28 h half w s) (ix3 0 r l) = head (fun d => k0_pay23 h w (ix2 r d)) (fun e => c (ix2 r e)) (fun e => s (ix2 r e)) 0 l := by
  pointwise [k0_pay29, k0_pay27, k0_pay28, k0_pay24, k0_pay25, k0_pay26, sel, head]
theorem k1 : k0_pay30 half p c s (ix3 0 r l) = head (fun d => p (ix2 r d)) (fun e => c (ix2 r e)) (fun e => s (ix2 r e)) 1 l := by
  pointwise [k0_pay30, sel, head]
theorem k2 : k0_pay31 half p c s (ix3 0 r l) = head (fun d => p (ix2 r d)) (fun e => c (ix2 r e)) (fun e => s (ix2 r e)) 2 l := by
  pointwise [k0_pay31, sel, head]
theorem k3 : k0_pay32 half p c s (ix3 0 r l) = head (fun d => p (ix2 r d)) (fun e => c (ix2 r e)) (fun e => s (ix2 r e)) 3 l := by
  pointwise [k0_pay32, sel, head]
theorem k4 : k0_pay33 half p c s (ix3 0 r l) = head (fun d => p (ix2 r d)) (fun e => c (ix2 r e)) (fun e => s (ix2 r e)) 4 l := by
  pointwise [k0_pay33, sel, head]
theorem k5 : k0_pay34 half p c s (ix3 0 r l) = head (fun d => p (ix2 r d)) (fun e => c (ix2 r e)) (fun e => s (ix2 r e)) 5 l := by
  pointwise [k0_pay34, sel, head]
theorem k6 : k0_pay35 half p c s (ix3 0 r l) = head (fun d => p (ix2 r d)) (fun e => c (ix2 r e)) (fun e => s (ix2 r e)) 6 l := by
  pointwise [k0_pay35, sel, head]
theorem k7 : k0_pay37 (k0_pay36 half p c s) (ix3 0 r l) = head (fun d => p (ix2 r d)) (fun e => c (ix2 r e)) (fun e => s (ix2 r e)) 7 l := by
  pointwise [k0_pay37, k0_pay36, sel, head]

/-- A column of the projection of a block's row by a slice of the weights. -/
def col (d : Fin 1024) : EReal := ∑ k : Fin 1024, h (ix2 r k) * w (ix2 k d)

theorem v0 (d : Fin 1024) : k0_pay38 h w (ix3 0 r d) = col h w r d := by
  pointwise [k0_pay38, col, dot_S256x1024_S1024x1024_S256x1024_1_0_0_1_n_n]
theorem v1 (d : Fin 1024) : k0_pay42 h w (ix3 0 r d) = col h w r d := by
  pointwise [k0_pay42, col, dot_S256x1024_S1024x1024_S256x1024_1_0_0_1_n_n]
theorem sg0 (d : Fin 1024) : k0_pay39 h w (ix3 0 r d) = silu (col h w r d) := by
  pointwise [k0_pay39, col, silu, zero_sub, dot_S256x1024_S1024x1024_S256x1024_1_0_0_1_n_n]
theorem sg1 (d : Fin 1024) : k0_pay43 h w (ix3 0 r d) = silu (col h w r d) := by
  pointwise [k0_pay43, col, silu, zero_sub, dot_S256x1024_S1024x1024_S256x1024_1_0_0_1_n_n]
theorem gt0 (d : Fin 1024) : k0_pay41 (k0_pay40 h w) (ix3 0 r d) = Ideal.div 1 (1 + Ideal.exp (-(col h w r d))) := by
  pointwise [k0_pay41, k0_pay40, col, zero_sub, dot_S256x1024_S1024x1024_S256x1024_1_0_0_1_n_n]
theorem gt1 (d : Fin 1024) : k0_pay1 (k0_pay44 h w) (ix3 0 r d) = Ideal.div 1 (1 + Ideal.exp (-(col h w r d))) := by
  pointwise [k0_pay1, k0_pay44, col, zero_sub, dot_S256x1024_S1024x1024_S256x1024_1_0_0_1_n_n]
theorem cb0 (d : Fin 1024) : k0_pay2 h w (ix3 0 r d) = col h w r d := by
  pointwise [k0_pay2, col, dot_S256x1024_S1024x1024_S256x1024_1_0_0_1_n_n]
theorem u0 (w' : Vec Ideal S1024x1024 .bf16) (d : Fin 1024) : k0_pay3 h w w' (ix3 0 r d) = col h w r d * col h w' r d := by
  pointwise [k0_pay3, col, dot_S256x1024_S1024x1024_S256x1024_1_0_0_1_n_n]

end Cert.Proof.InProjBlock

end
-- ==== Proof.InProjOut.lean ====
/-
  What the in-projection's blocks hold: each of the seven output blocks at a row and a column, as functions of the
  block's inputs.
-/
module

public import proofs.«01_k».proof.Proof.InProjBlock
public import Idealize.ShloMosaic.Lib.Pipeline.ValueKit

@[expose] public section

noncomputable section

namespace Cert.Proof.InProjOut

open Idealize.ShloMosaic Cert.InProjIdeal Cert.InProjIdeal.Gen Cert.Proof.MergeSpec Cert.Proof.InProjSpec Cert.Proof.InProjBlock

theorem hz3 : (![0, 0, 0] : Fin 3 → Nat) = fun _ => 0 := funext fun a => by fin_cases a <;> rfl
theorem hz2 : (![0, 0] : Fin 2 → Nat) = fun _ => 0 := funext fun a => by fin_cases a <;> rfl

variable (x0 : Vec Ideal S1x256x1024 .f32) (x1 : Vec Ideal S1x6x1024 .f32) (x2 : Vec Ideal S1x1024 .f32)
  (x3 : Vec Ideal S1024x11264 .bf16) (x4 x5 x6 x7 : Vec Ideal S256x128 .f32)

/-- A column of the projection of row `r` of a block. -/
def P (r : Fin 256) (j : Fin 11264) : EReal :=
  proj (hid (fun e => x0 (ix3 0 r e)) (fun e => x2 (ix2 0 e)) (fun e => x1 (ix3 0 0 e)) (fun e => x1 (ix3 0 1 e)))
    (fun k j => x3 (ix2 k j)) j

/-- The normalized and modulated row of a block. -/
theorem hrow (r : Fin 256) (k : Fin 1024) : k0_pay45 x0 x1 x2 x3 x4 x5 x6 x7 (ix2 r k)
    = hid (fun e => x0 (ix3 0 r e)) (fun e => x2 (ix2 0 e)) (fun e => x1 (ix3 0 0 e)) (fun e => x1 (ix3 0 1 e)) k := by
  unfold k0_pay45
  rw [pay4_at]
  pointwise []

theorem c_r0_4 (r : Fin 256) (d : Fin 1024) : col (k0_pay45 x0 x1 x2 x3 x4 x5 x6 x7) (View.ld x3 r0_4) r d = P x0 x1 x2 x3 r ⟨0 + d.val, by omega⟩ := by
  pointwise [col, P, proj, hrow]
theorem c_r0_14 (r : Fin 256) (d : Fin 1024) : col (k0_pay45 x0 x1 x2 x3 x4 x5 x6 x7) (View.ld x3 r0_14) r d = P x0 x1 x2 x3 r ⟨1024 + d.val, by omega⟩ := by
  pointwise [col, P, proj, hrow]
theorem c_r0_15 (r : Fin 256) (d : Fin 1024) : col (k0_pay45 x0 x1 x2 x3 x4 x5 x6 x7) (View.ld x3 r0_15) r d = P x0 x1 x2 x3 r ⟨2048 + d.val, by omega⟩ := by
  pointwise [col, P, proj, hrow]
theorem c_r0_19 (r : Fin 256) (d : Fin 1024) : col (k0_pay45 x0 x1 x2 x3 x4 x5 x6 x7) (View.ld x3 r0_19) r d = P x0 x1 x2 x3 r ⟨3072 + d.val, by omega⟩ := by
  pointwise [col, P, proj, hrow]
theorem c_r0_17 (r : Fin 256) (d : Fin 1024) : col (k0_pay45 x0 x1 x2 x3 x4 x5 x6 x7) (View.ld x3 r0_17) r d = P x0 x1 x2 x3 r ⟨4096 + d.val, by omega⟩ := by
  pointwise [col, P, proj, hrow]
theorem c_r0_21 (r : Fin 256) (d : Fin 1024) : col (k0_pay45 x0 x1 x2 x3 x4 x5 x6 x7) (View.ld x3 r0_21) r d = P x0 x1 x2 x3 r ⟨5120 + d.val, by omega⟩ := by
  pointwise [col, P, proj, hrow]
theorem c_r0_23 (r : Fin 256) (d : Fin 1024) : col (k0_pay45 x0 x1 x2 x3 x4 x5 x6 x7) (View.ld x3 r0_23) r d = P x0 x1 x2 x3 r ⟨6144 + d.val, by omega⟩ := by
  pointwise [col, P, proj, hrow]
theorem c_r0_24 (r : Fin 256) (d : Fin 1024) : col (k0_pay45 x0 x1 x2 x3 x4 x5 x6 x7) (View.ld x3 r0_24) r d = P x0 x1 x2 x3 r ⟨7168 + d.val, by omega⟩ := by
  pointwise [col, P, proj, hrow]
theorem c_r0_25 (r : Fin 256) (d : Fin 1024) : col (k0_pay45 x0 x1 x2 x3 x4 x5 x6 x7) (View.ld x3 r0_25) r d = P x0 x1 x2 x3 r ⟨8192 + d.val, by omega⟩ := by
  pointwise [col, P, proj, hrow]
theorem c_r0_18 (r : Fin 256) (d : Fin 1024) : col (k0_pay45 x0 x1 x2 x3 x4 x5 x6 x7) (View.ld x3 r0_18) r d = P x0 x1 x2 x3 r ⟨9216 + d.val, by omega⟩ := by
  pointwise [col, P, proj, hrow]
theorem c_r0_22 (r : Fin 256) (d : Fin 1024) : col (k0_pay45 x0 x1 x2 x3 x4 x5 x6 x7) (View.ld x3 r0_22) r d = P x0 x1 x2 x3 r ⟨10240 + d.val, by omega⟩ := by
  pointwise [col, P, proj, hrow]

theorem ld5 (x : Vec Ideal S256x128 .f32) (r : Fin 256) (e : Fin 128) : View.ld x r0_5 (ix2 r e) = x (ix2 r e) := by
  rw [View.ld_unit_zero hz2]
theorem p9 (r : Fin 256) (d : Fin 1024) : k0_pay9 (k0_pay45 x0 x1 x2 x3 x4 x5 x6 x7) (View.ld x3 r0_4) (ix2 r d) = P x0 x1 x2 x3 r ⟨0 + d.val, by omega⟩ := by
  rw [pay9_at]
  exact c_r0_4 x0 x1 x2 x3 x4 x5 x6 x7 r d
theorem p23 (r : Fin 256) (d : Fin 1024) : k0_pay23 (k0_pay45 x0 x1 x2 x3 x4 x5 x6 x7) (View.ld x3 r0_14) (ix2 r d) = P x0 x1 x2 x3 r ⟨1024 + d.val, by omega⟩ := by
  rw [pay23_at]
  exact c_r0_14 x0 x1 x2 x3 x4 x5 x6 x7 r d
theorem p50 (r : Fin 256) (d : Fin 1024) : k0_pay50 x0 x1 x2 x3 x4 x5 x6 x7 (ix2 r d) = P x0 x1 x2 x3 r ⟨0 + d.val, by omega⟩ := p9 x0 x1 x2 x3 x4 x5 x6 x7 r d
theorem p53 (r : Fin 256) (d : Fin 1024) : k0_pay53 x0 x1 x2 x3 x4 x5 x6 x7 (ix2 r d) = P x0 x1 x2 x3 r ⟨1024 + d.val, by omega⟩ := p23 x0 x1 x2 x3 x4 x5 x6 x7 r d
theorem p51 (r : Fin 256) (e : Fin 128) : k0_pay51 x0 x1 x2 x3 x4 x5 x6 x7 (ix2 r e) = x4 (ix2 r e) := by
  pointwise [k0_pay51, k0_pay10, ld5]
theorem p52 (r : Fin 256) (e : Fin 128) : k0_pay52 x0 x1 x2 x3 x4 x5 x6 x7 (ix2 r e) = x5 (ix2 r e) := by
  pointwise [k0_pay52, k0_pay11, ld5]
theorem p54 (r : Fin 256) (e : Fin 128) : k0_pay54 x0 x1 x2 x3 x4 x5 x6 x7 (ix2 r e) = x6 (ix2 r e) := by
  pointwise [k0_pay54, k0_pay24, ld5]
theorem p55 (r : Fin 256) (e : Fin 128) : k0_pay55 x0 x1 x2 x3 x4 x5 x6 x7 (ix2 r e) = x7 (ix2 r e) := by
  pointwise [k0_pay55, k0_pay25, ld5]

/-- The queries' block: every head turned by the tables. -/
theorem out8_at (r : Fin 256) (d : Fin 1024) : out0_8 x0 x1 x2 x3 x4 x5 x6 x7 (ix3 0 r d)
    = head (fun e => P x0 x1 x2 x3 r ⟨0 + e.val, by omega⟩) (fun e => x4 (ix2 r e)) (fun e => x5 (ix2 r e))
      ⟨d.val / 128, by omega⟩ ⟨d.val % 128, by omega⟩ := by
  unfold out0_8
  canon_tiles y h
  · idx_vars y
    obtain rfl : y0 = 0 := Subsingleton.elim _ _
    obtain rfl : r = y1 := Fin.ext h1
    have e1 : (⟨d.val / 128, by omega⟩ : Fin 8) = 7 := Fin.ext (by show d.val / 128 = 7; omega)
    have e2 : (⟨d.val % 128, by omega⟩ : Fin 128) = y2 := Fin.ext (by show d.val % 128 = y2.val; omega)
    rw [e1, e2]
    exact (q7 ..).trans (by simp only [p9, p23, p50, p51, p52, p53, p54, p55])
  · idx_vars y
    obtain rfl : y0 = 0 := Subsingleton.elim _ _
    obtain rfl : r = y1 := Fin.ext h1
    have e1 : (⟨d.val / 128, by omega⟩ : Fin 8) = 6 := Fin.ext (by show d.val / 128 = 6; omega)
    have e2 : (⟨d.val % 128, by omega⟩ : Fin 128) = y2 := Fin.ext (by show d.val % 128 = y2.val; omega)
    rw [e1, e2]
    exact (q6 ..).trans (by simp only [p9, p23, p50, p51, p52, p53, p54, p55])
  · idx_vars y
    obtain rfl : y0 = 0 := Subsingleton.elim _ _
    obtain rfl : r = y1 := Fin.ext h1
    have e1 : (⟨d.val / 128, by omega⟩ : Fin 8) = 5 := Fin.ext (by show d.val / 128 = 5; omega)
    have e2 : (⟨d.val % 128, by omega⟩ : Fin 128) = y2 := Fin.ext (by show d.val % 128 = y2.val; omega)
    rw [e1, e2]
    exact (q5 ..).trans (by simp only [p9, p23, p50, p51, p52, p53, p54, p55])
  · idx_vars y
    obtain rfl : y0 = 0 := Subsingleton.elim _ _
    obtain rfl : r = y1 := Fin.ext h1
    have e1 : (⟨d.val / 128, by omega⟩ : Fin 8) = 4 := Fin.ext (by show d.val / 128 = 4; omega)
    have e2 : (⟨d.val % 128, by omega⟩ : Fin 128) = y2 := Fin.ext (by show d.val % 128 = y2.val; omega)
    rw [e1, e2]
    exact (q4 ..).trans (by simp only [p9, p23, p50, p51, p52, p53, p54, p55])
  · idx_vars y
    obtain rfl : y0 = 0 := Subsingleton.elim _ _
    obtain rfl : r = y1 := Fin.ext h1
    have e1 : (⟨d.val / 128, by omega⟩ : Fin 8) = 3 := Fin.ext (by show d.val / 128 = 3; omega)
    have e2 : (⟨d.val % 128, by omega⟩ : Fin 128) = y2 := Fin.ext (by show d.val % 128 = y2.val; omega)
    rw [e1, e2]
    exact (q3 ..).trans (by simp only [p9, p23, p50, p51, p52, p53, p54, p55])
  · idx_vars y
    obtain rfl : y0 = 0 := Subsingleton.elim _ _
    obtain rfl : r = y1 := Fin.ext h1
    have e1 : (⟨d.val / 128, by omega⟩ : Fin 8) = 2 := Fin.ext (by show d.val / 128 = 2; omega)
    have e2 : (⟨d.val % 128, by omega⟩ : Fin 128) = y2 := Fin.ext (by show d.val % 128 = y2.val; omega)
    rw [e1, e2]
    exact (q2 ..).trans (by simp only [p9, p23, p50, p51, p52, p53, p54, p55])
  · idx_vars y
    obtain rfl : y0 = 0 := Subsingleton.elim _ _
    obtain rfl : r = y1 := Fin.ext h1
    have e1 : (⟨d.val / 128, by omega⟩ : Fin 8) = 1 := Fin.ext (by show d.val / 128 = 1; omega)
    have e2 : (⟨d.val % 128, by omega⟩ : Fin 128) = y2 := Fin.ext (by show d.val % 128 = y2.val; omega)
    rw [e1, e2]
    exact (q1 ..).trans (by simp only [p9, p23, p50, p51, p52, p53, p54, p55]; exact congrArg₂ (fun a b => head _ a b _ _) (funext fun e => ld5 x4 r e) (funext fun e => ld5 x5 r e))
  · idx_vars y
    obtain rfl : y0 = 0 := Subsingleton.elim _ _
    obtain rfl : r = y1 := Fin.ext h1
    have e1 : (⟨d.val / 128, by omega⟩ : Fin 8) = 0 := Fin.ext (by show d.val / 128 = 0; omega)
    have e2 : (⟨d.val % 128, by omega⟩ : Fin 128) = y2 := Fin.ext (by show d.val % 128 = y2.val; omega)
    rw [e1, e2]
    exact (q0 ..).trans (by simp only [p9, p23, p50, p51, p52, p53, p54, p55]; exact congrArg₂ (fun a b => head _ a b _ _) (funext fun e => ld5 x4 r e) (funext fun e => ld5 x5 r e))

/-- The keys' block: every head turned by the tables. -/
theorem out9_at (r : Fin 256) (d : Fin 1024) : out0_9 x0 x1 x2 x3 x4 x5 x6 x7 (ix3 0 r d)
    = head (fun e => P x0 x1 x2 x3 r ⟨1024 + e.val, by omega⟩) (fun e => x6 (ix2 r e)) (fun e => x7 (ix2 r e))
      ⟨d.val / 128, by omega⟩ ⟨d.val % 128, by omega⟩ := by
  unfold out0_9
  canon_tiles y h
  · idx_vars y
    obtain rfl : y0 = 0 := Subsingleton.elim _ _
    obtain rfl : r = y1 := Fin.ext h1
    have e1 : (⟨d.val / 128, by omega⟩ : Fin 8) = 7 := Fin.ext (by show d.val / 128 = 7; omega)
    have e2 : (⟨d.val % 128, by omega⟩ : Fin 128) = y2 := Fin.ext (by show d.val % 128 = y2.val; omega)
    rw [e1, e2]
    exact (k7 ..).trans (by simp only [p9, p23, p50, p51, p52, p53, p54, p55])
  · idx_vars y
    obtain rfl : y0 = 0 := Subsingleton.elim _ _
    obtain rfl : r = y1 := Fin.ext h1
    have e1 : (⟨d.val / 128, by omega⟩ : Fin 8) = 6 := Fin.ext (by show d.val / 128 = 6; omega)
    have e2 : (⟨d.val % 128, by omega⟩ : Fin 128) = y2 := Fin.ext (by show d.val % 128 = y2.val; omega)
    rw [e1, e2]
    exact (k6 ..).trans (by simp only [p9, p23, p50, p51, p52, p53, p54, p55])
  · idx_vars y
    obtain rfl : y0 = 0 := Subsingleton.elim _ _
    obtain rfl : r = y1 := Fin.ext h1
    have e1 : (⟨d.val / 128, by omega⟩ : Fin 8) = 5 := Fin.ext (by show d.val / 128 = 5; omega)
    have e2 : (⟨d.val % 128, by omega⟩ : Fin 128) = y2 := Fin.ext (by show d.val % 128 = y2.val; omega)
    rw [e1, e2]
    exact (k5 ..).trans (by simp only [p9, p23, p50, p51, p52, p53, p54, p55])
  · idx_vars y
    obtain rfl : y0 = 0 := Subsingleton.elim _ _
    obtain rfl : r = y1 := Fin.ext h1
    have e1 : (⟨d.val / 128, by omega⟩ : Fin 8) = 4 := Fin.ext (by show d.val / 128 = 4; omega)
    have e2 : (⟨d.val % 128, by omega⟩ : Fin 128) = y2 := Fin.ext (by show d.val % 128 = y2.val; omega)
    rw [e1, e2]
    exact (k4 ..).trans (by simp only [p9, p23, p50, p51, p52, p53, p54, p55])
  · idx_vars y
    obtain rfl : y0 = 0 := Subsingleton.elim _ _
    obtain rfl : r = y1 := Fin.ext h1
    have e1 : (⟨d.val / 128, by omega⟩ : Fin 8) = 3 := Fin.ext (by show d.val / 128 = 3; omega)
    have e2 : (⟨d.val % 128, by omega⟩ : Fin 128) = y2 := Fin.ext (by show d.val % 128 = y2.val; omega)
    rw [e1, e2]
    exact (k3 ..).trans (by simp only [p9, p23, p50, p51, p52, p53, p54, p55])
  · idx_vars y
    obtain rfl : y0 = 0 := Subsingleton.elim _ _
    obtain rfl : r = y1 := Fin.ext h1
    have e1 : (⟨d.val / 128, by omega⟩ : Fin 8) = 2 := Fin.ext (by show d.val / 128 = 2; omega)
    have e2 : (⟨d.val % 128, by omega⟩ : Fin 128) = y2 := Fin.ext (by show d.val % 128 = y2.val; omega)
    rw [e1, e2]
    exact (k2 ..).trans (by simp only [p9, p23, p50, p51, p52, p53, p54, p55])
  · idx_vars y
    obtain rfl : y0 = 0 := Subsingleton.elim _ _
    obtain rfl : r = y1 := Fin.ext h1
    have e1 : (⟨d.val / 128, by omega⟩ : Fin 8) = 1 := Fin.ext (by show d.val / 128 = 1; omega)
    have e2 : (⟨d.val % 128, by omega⟩ : Fin 128) = y2 := Fin.ext (by show d.val % 128 = y2.val; omega)
    rw [e1, e2]
    exact (k1 ..).trans (by simp only [p9, p23, p50, p51, p52, p53, p54, p55])
  · idx_vars y
    obtain rfl : y0 = 0 := Subsingleton.elim _ _
    obtain rfl : r = y1 := Fin.ext h1
    have e1 : (⟨d.val / 128, by omega⟩ : Fin 8) = 0 := Fin.ext (by show d.val / 128 = 0; omega)
    have e2 : (⟨d.val % 128, by omega⟩ : Fin 128) = y2 := Fin.ext (by show d.val % 128 = y2.val; omega)
    rw [e1, e2]
    exact (k0 ..).trans (by simp only [p9, p23, p50, p51, p52, p53, p54, p55]; exact congrArg₂ (fun a b => head _ a b _ _) (funext fun e => ld5 x6 r e) (funext fun e => ld5 x7 r e))

/-- The values' block. -/
theorem out10_at (r : Fin 256) (d : Fin 2048) : out0_10 x0 x1 x2 x3 x4 x5 x6 x7 (ix3 0 r d) = P x0 x1 x2 x3 r ⟨2048 + d.val, by omega⟩ := by
  unfold out0_10
  canon_tiles y h
  · idx_vars y
    obtain rfl : y0 = 0 := Subsingleton.elim _ _
    obtain rfl : r = y1 := Fin.ext h1
    have e : (⟨2048 + d.val, by omega⟩ : Fin 11264) = ⟨3072 + y2.val, by omega⟩ := Fin.ext (by show 2048 + d.val = 3072 + y2.val; omega)
    rw [e]
    exact (v1 ..).trans (by rw [c_r0_19])
  · idx_vars y
    obtain rfl : y0 = 0 := Subsingleton.elim _ _
    obtain rfl : r = y1 := Fin.ext h1
    have e : (⟨2048 + d.val, by omega⟩ : Fin 11264) = ⟨2048 + y2.val, by omega⟩ := Fin.ext (by show 2048 + d.val = 2048 + y2.val; omega)
    rw [e]
    exact (v0 ..).trans (by rw [c_r0_15])

/-- The gates of the retention's output. -/
theorem out11_at (r : Fin 256) (d : Fin 2048) : out0_11 x0 x1 x2 x3 x4 x5 x6 x7 (ix3 0 r d) = silu (P x0 x1 x2 x3 r ⟨4096 + d.val, by omega⟩) := by
  unfold out0_11
  canon_tiles y h
  · idx_vars y
    obtain rfl : y0 = 0 := Subsingleton.elim _ _
    obtain rfl : r = y1 := Fin.ext h1
    have e : (⟨4096 + d.val, by omega⟩ : Fin 11264) = ⟨5120 + y2.val, by omega⟩ := Fin.ext (by show 4096 + d.val = 5120 + y2.val; omega)
    rw [e]
    exact (sg1 ..).trans (by rw [c_r0_21])
  · idx_vars y
    obtain rfl : y0 = 0 := Subsingleton.elim _ _
    obtain rfl : r = y1 := Fin.ext h1
    have e : (⟨4096 + d.val, by omega⟩ : Fin 11264) = ⟨4096 + y2.val, by omega⟩ := Fin.ext (by show 4096 + d.val = 4096 + y2.val; omega)
    rw [e]
    exact (sg0 ..).trans (by rw [c_r0_17])

/-- The gates of the two branches. -/
theorem out14_at (r : Fin 256) (d : Fin 2048) : out0_14 x0 x1 x2 x3 x4 x5 x6 x7 (ix3 0 r d) = Ideal.div 1 (1 + Ideal.exp (-(P x0 x1 x2 x3 r ⟨9216 + d.val, by omega⟩))) := by
  unfold out0_14
  canon_tiles y h
  · idx_vars y
    obtain rfl : y0 = 0 := Subsingleton.elim _ _
    obtain rfl : r = y1 := Fin.ext h1
    have e : (⟨9216 + d.val, by omega⟩ : Fin 11264) = ⟨10240 + y2.val, by omega⟩ := Fin.ext (by show 9216 + d.val = 10240 + y2.val; omega)
    rw [e]
    exact (gt1 ..).trans (by rw [c_r0_22])
  · idx_vars y
    obtain rfl : y0 = 0 := Subsingleton.elim _ _
    obtain rfl : r = y1 := Fin.ext h1
    have e : (⟨9216 + d.val, by omega⟩ : Fin 11264) = ⟨9216 + y2.val, by omega⟩ := Fin.ext (by show 9216 + d.val = 9216 + y2.val; omega)
    rw [e]
    exact (gt0 ..).trans (by rw [c_r0_18])

/-- The convolution's first factor. -/
theorem out12_at (r : Fin 256) (d : Fin 1024) : out0_12 x0 x1 x2 x3 x4 x5 x6 x7 (ix3 0 r d) = P x0 x1 x2 x3 r ⟨6144 + d.val, by omega⟩ := by
  unfold out0_12
  rw [View.canon_unit_zero hz3, cb0, c_r0_23]

/-- The convolution's input. -/
theorem out13_at (r : Fin 256) (d : Fin 1024) : out0_13 x0 x1 x2 x3 x4 x5 x6 x7 (ix3 0 r d)
    = P x0 x1 x2 x3 r ⟨7168 + d.val, by omega⟩ * P x0 x1 x2 x3 r ⟨8192 + d.val, by omega⟩ := by
  unfold out0_13
  rw [View.canon_unit_zero hz3, u0, c_r0_24, c_r0_25]

end Cert.Proof.InProjOut

end
-- ==== Proof.InProjCtxValue.lean ====
/-
  What the context stream's in-projection kernel's seven result arrays hold, as functions of the four argument arrays.
-/
module

public import proofs.«01_k».proof.Proof.Gen.InProjCtxIdeal.Value
public import proofs.«01_k».proof.Proof.InProjOut
public import proofs.«01_k».proof.Proof.InProjSpec
public import Idealize.ShloMosaic.Lib.StableHlo.RunRead

@[expose] public section

noncomputable section

namespace Cert.Proof.InProjCtxValue

open Idealize.ShloMosaic Idealize.ShloMosaic.TcCoe Cert.InProjCtxIdeal Cert.InProjCtxIdeal.Gen Cert.Proof.MergeSpec Cert.Proof.InProjSpec
open Cert.Proof.InProjBlock (head)
open Idealize.ShloMosaic.Pipeline (Dat)

/-- A column of the projection of one token, from the argument arrays. -/
def col (x : Vec Ideal S32x256x1024 .f32) (md : Vec Ideal S1x6x1024 .f32) (nw : Vec Ideal S1024 .f32) (w : Vec Ideal S1024x11264 .bf16)
    (b : Fin 32) (t : Fin 256) (j : Fin 11264) : EReal :=
  proj (hid (fun e => x (ix3 b t e)) (fun e => nw (ix1 e)) (fun e => md (ix3 0 0 e)) (fun e => md (ix3 0 1 e))) (fun k j => w (ix2 k j)) j

section
variable (x : Vec Ideal S32x256x1024 .f32) (md : Vec Ideal S1x6x1024 .f32) (nw : Vec Ideal S1024 .f32) (w : Vec Ideal S1024x11264 .bf16)

/-- The queries, as they are projected. -/
def Gq : Vec Ideal S32x256x1024 .bf16 := fun i => col x md nw w (i 0) (i 1) ⟨0 + (i 2).val, by have h : (i 2).val < 1024 := (i 2).isLt; omega⟩
/-- The keys, scaled. -/
def Gk : Vec Ideal S32x256x1024 .bf16 := fun i => col x md nw w (i 0) (i 1) ⟨1024 + (i 2).val, by have h : (i 2).val < 1024 := (i 2).isLt; omega⟩ * kscale
/-- The values. -/
def Gv : Vec Ideal S32x256x2048 .bf16 := fun i => col x md nw w (i 0) (i 1) ⟨2048 + (i 2).val, by have h : (i 2).val < 2048 := (i 2).isLt; omega⟩
/-- The gates of the retention's output. -/
def Gs : Vec Ideal S32x256x2048 .bf16 := fun i => silu (col x md nw w (i 0) (i 1) ⟨4096 + (i 2).val, by have h : (i 2).val < 2048 := (i 2).isLt; omega⟩)
/-- The convolution's first factor. -/
def Gc : Vec Ideal S32x256x1024 .bf16 := fun i => col x md nw w (i 0) (i 1) ⟨6144 + (i 2).val, by have h : (i 2).val < 1024 := (i 2).isLt; omega⟩
/-- The convolution's input. -/
def Gu : Vec Ideal S32x256x1024 .bf16 := fun i =>
  col x md nw w (i 0) (i 1) ⟨7168 + (i 2).val, by have h : (i 2).val < 1024 := (i 2).isLt; omega⟩
    * col x md nw w (i 0) (i 1) ⟨8192 + (i 2).val, by have h : (i 2).val < 1024 := (i 2).isLt; omega⟩
/-- The gates of the two branches. -/
def Gg : Vec Ideal S32x256x2048 .bf16 := fun i =>
  Ideal.div 1 (1 + Ideal.exp (-(col x md nw w (i 0) (i 1) ⟨9216 + (i 2).val, by have h : (i 2).val < 2048 := (i 2).isLt; omega⟩)))
end

/-- A head with a table that is `κ` everywhere and one that is 0 everywhere is the head times `κ`. -/
theorem head_plain (p : Fin 1024 → EReal) (κ : EReal) (d : Fin 1024) :
    head p (fun _ => κ) (fun _ => 0) ⟨d.val / 128, by omega⟩ ⟨d.val % 128, by omega⟩ = p d * κ := by
  unfold head
  rw [mul_zero, add_zero]
  exact congrArg (fun e => p e * κ) (Fin.ext (by show d.val / 128 * 128 + d.val % 128 = d.val; omega))

/-- Every window's block index at a point, in the point's two coordinates. -/
theorem idx : ∀ t : Fin cfg0.N,
    win0_0.index t = ![(grid0.coords t 0).val, (grid0.coords t 1).val, 0]
    ∧ win0_1.index t = ![0, 0, 0]
    ∧ win0_2.index t = ![0, 0] ∧ win0_3.index t = ![0, 0]
    ∧ win0_4.index t = ![(grid0.coords t 1).val, 0] ∧ win0_5.index t = ![(grid0.coords t 1).val, 0]
    ∧ win0_6.index t = ![(grid0.coords t 1).val, 0] ∧ win0_7.index t = ![(grid0.coords t 1).val, 0]
    ∧ win0_8.index t = ![(grid0.coords t 0).val, (grid0.coords t 1).val, 0]
    ∧ win0_9.index t = ![(grid0.coords t 0).val, (grid0.coords t 1).val, 0]
    ∧ win0_10.index t = ![(grid0.coords t 0).val, (grid0.coords t 1).val, 0]
    ∧ win0_11.index t = ![(grid0.coords t 0).val, (grid0.coords t 1).val, 0]
    ∧ win0_12.index t = ![(grid0.coords t 0).val, (grid0.coords t 1).val, 0]
    ∧ win0_13.index t = ![(grid0.coords t 0).val, (grid0.coords t 1).val, 0]
    ∧ win0_14.index t = ![(grid0.coords t 0).val, (grid0.coords t 1).val, 0] :=
  (by decide +kernel : ∀ t : Fin grid0.N, _)

variable (m : (ℓ : Loc nD τ sig) → Buf (Elt Ideal) ℓ)

/-- A token's place in its array, from the point and the row in the block. -/
def tok (t : Fin cfg0.N) (r : Fin 256) : Fin 256 := ⟨(grid0.coords t 1).val * 256 + r.val, by
  have h : (grid0.coords t 1).val < 1 := (grid0.coords t 1).isLt; omega⟩
/-- A point's batch row. -/
def bat (t : Fin cfg0.N) : Fin 32 := ⟨(grid0.coords t 0).val, (grid0.coords t 0).isLt⟩

theorem b0 (c : Dev nD) (t : Fin cfg0.N) (r : Fin 256) (j : Fin 1024) :
    iblk m c 0 t (ix3 0 r j) = m ((c : Thread nD τ).loc main_arg0) (ix3 (bat t) (tok t r) j) := by
  blk_ext! [iblk, V, V_main_arg0 m c, idx t, bat, tok]
theorem b1 (c : Dev nD) (t : Fin cfg0.N) (k : Fin 6) (j : Fin 1024) :
    iblk m c 1 t (ix3 0 k j) = m ((c : Thread nD τ).loc main_arg1) (ix3 0 k j) := by
  blk_ext! [iblk, V, idx t]
/-- The row of norm weights, reshaped. -/
theorem v4 (c : Dev nD) (j : Fin 1024) :
    (V m c main_v4 : FVec Ideal S1x1024 .f32) (ix2 0 j) = m ((c : Thread nD τ).loc main_arg2) (ix1 j) := by
  after_reads_simp
  pointwise []
theorem b2 (c : Dev nD) (t : Fin cfg0.N) (j : Fin 1024) :
    iblk m c 2 t (ix2 0 j) = m ((c : Thread nD τ).loc main_arg2) (ix1 j) := by
  rw [← v4 m c j]
  blk_ext! [iblk, idx t]
theorem b3 (c : Dev nD) (t : Fin cfg0.N) (k : Fin 1024) (j : Fin 11264) :
    iblk m c 3 t (ix2 k j) = m ((c : Thread nD τ).loc main_arg3) (ix2 k j) := by
  blk_ext! [iblk, V, idx t]
/-- The table of ones. -/
theorem v0 (c : Dev nD) (t : Fin 256) (l : Fin 128) : (V m c main_v0 : FVec Ideal S256x128 .f32) (ix2 t l) = (1 : EReal) := by
  after_reads_simp
  pointwise []
/-- The table of zeros. -/
theorem v1 (c : Dev nD) (t : Fin 256) (l : Fin 128) : (V m c main_v1 : FVec Ideal S256x128 .f32) (ix2 t l) = (0 : EReal) := by
  after_reads_simp
  pointwise []
/-- The table of the keys' scale. -/
theorem v3 (c : Dev nD) (t : Fin 256) (l : Fin 128) : (V m c main_v3 : FVec Ideal S256x128 .f32) (ix2 t l) = kscale := by
  after_reads_simp
  pointwise [kscale, one_mul]
theorem b4 (c : Dev nD) (t : Fin cfg0.N) (r : Fin 256) (l : Fin 128) : iblk m c 4 t (ix2 r l) = (1 : EReal) := by
  rw [← v0 m c (tok t r) l]
  blk_ext! [iblk, idx t, tok]
theorem b5 (c : Dev nD) (t : Fin cfg0.N) (r : Fin 256) (l : Fin 128) : iblk m c 5 t (ix2 r l) = (0 : EReal) := by
  rw [← v1 m c (tok t r) l]
  blk_ext! [iblk, idx t, tok]
theorem b6 (c : Dev nD) (t : Fin cfg0.N) (r : Fin 256) (l : Fin 128) : iblk m c 6 t (ix2 r l) = kscale := by
  rw [← v3 m c (tok t r) l]
  blk_ext! [iblk, idx t, tok]
theorem b7 (c : Dev nD) (t : Fin cfg0.N) (r : Fin 256) (l : Fin 128) : iblk m c 7 t (ix2 r l) = (0 : EReal) := by
  rw [← v1 m c (tok t r) l]
  blk_ext! [iblk, idx t, tok]

/-- The blocks are the same functions of their inputs as the latent stream's. -/
theorem same (x0 : Vec Ideal S1x256x1024 .f32) (x1 : Vec Ideal S1x6x1024 .f32) (x2 : Vec Ideal S1x1024 .f32)
    (x3 : Vec Ideal S1024x11264 .bf16) (x4 x5 x6 x7 : Vec Ideal S256x128 .f32) :
    out0_8 x0 x1 x2 x3 x4 x5 x6 x7 = Cert.InProjIdeal.Gen.out0_8 x0 x1 x2 x3 x4 x5 x6 x7
    ∧ out0_9 x0 x1 x2 x3 x4 x5 x6 x7 = Cert.InProjIdeal.Gen.out0_9 x0 x1 x2 x3 x4 x5 x6 x7
    ∧ out0_10 x0 x1 x2 x3 x4 x5 x6 x7 = Cert.InProjIdeal.Gen.out0_10 x0 x1 x2 x3 x4 x5 x6 x7
    ∧ out0_11 x0 x1 x2 x3 x4 x5 x6 x7 = Cert.InProjIdeal.Gen.out0_11 x0 x1 x2 x3 x4 x5 x6 x7
    ∧ out0_12 x0 x1 x2 x3 x4 x5 x6 x7 = Cert.InProjIdeal.Gen.out0_12 x0 x1 x2 x3 x4 x5 x6 x7
    ∧ out0_13 x0 x1 x2 x3 x4 x5 x6 x7 = Cert.InProjIdeal.Gen.out0_13 x0 x1 x2 x3 x4 x5 x6 x7
    ∧ out0_14 x0 x1 x2 x3 x4 x5 x6 x7 = Cert.InProjIdeal.Gen.out0_14 x0 x1 x2 x3 x4 x5 x6 x7 :=
  ⟨rfl, rfl, rfl, rfl, rfl, rfl, rfl⟩

/-- A column of the projection of a block's row is that of its token. -/
theorem P_at (c : Dev nD) (t : Fin cfg0.N) (r : Fin 256) (j : Fin 11264) :
    InProjOut.P (iblk m c 0 t) (iblk m c 1 t) (iblk m c 2 t) (iblk m c 3 t) r j = col (m ((c : Thread nD τ).loc main_arg0)) (m ((c : Thread nD τ).loc main_arg1)) (m ((c : Thread nD τ).loc main_arg2)) (m ((c : Thread nD τ).loc main_arg3)) (bat t) (tok t r) j := by
  unfold InProjOut.P
  simp only [b0, b1, b2, b3]
  rfl

/-- Result 0 after the run. -/
theorem final8 (c : Dev nD) : (dats m 0 c).arrAt 8 cfg0.N = Gq (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]
  obtain ⟨i0, i1, i2, i3, i4, i5, i6, i7, i8, i9, i10, i11, i12, i13, i14⟩ := idx t
  idx_vars y
  obtain rfl : y0 = 0 := Subsingleton.elim _ _
  have e : ((View.whole main_v5_0).slice (win0_8.rect t)).emb (ix3 0 y1 y2) = ix3 (bat t) (tok t y1) y2 := by
    blk_ext [i8, bat, tok]
  rw [e, (same _ _ _ _ _ _ _ _).1, InProjOut.out8_at]
  simp only [b4, b5]
  rw [head_plain (fun e => InProjOut.P _ _ _ _ y1 ⟨0 + e.val, by omega⟩), mul_one, P_at]
  rfl

/-- Result 1 after the run. -/
theorem final9 (c : Dev nD) : (dats m 0 c).arrAt 9 cfg0.N = Gk (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  blk_simp
  rw [after0_9]
  obtain ⟨i0, i1, i2, i3, i4, i5, i6, i7, i8, i9, i10, i11, i12, i13, i14⟩ := idx t
  idx_vars y
  obtain rfl : y0 = 0 := Subsingleton.elim _ _
  have e : ((View.whole main_v5_1).slice (win0_9.rect t)).emb (ix3 0 y1 y2) = ix3 (bat t) (tok t y1) y2 := by
    blk_ext [i9, bat, tok]
  rw [e, (same _ _ _ _ _ _ _ _).2.1, InProjOut.out9_at]
  simp only [b6, b7]
  rw [head_plain (fun e => InProjOut.P _ _ _ _ y1 ⟨1024 + e.val, by omega⟩), P_at]
  rfl

/-- Result 2 after the run. -/
theorem final10 (c : Dev nD) : (dats m 0 c).arrAt 10 cfg0.N = Gv (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t hf y => ?_
  blk_simp
  rw [after0_10]
  obtain ⟨i0, i1, i2, i3, i4, i5, i6, i7, i8, i9, i10, i11, i12, i13, i14⟩ := idx t
  idx_vars y
  obtain rfl : y0 = 0 := Subsingleton.elim _ _
  have e : ((View.whole main_v5_2).slice (win0_10.rect t)).emb (ix3 0 y1 y2) = ix3 (bat t) (tok t y1) y2 := by
    blk_ext [i10, bat, tok]
  rw [e, (same _ _ _ _ _ _ _ _).2.2.1, InProjOut.out10_at]
  simp only [P_at]
  rfl

/-- Result 3 after the run. -/
theorem final11 (c : Dev nD) : (dats m 0 c).arrAt 11 cfg0.N = Gs (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t hf y => ?_
  blk_simp
  rw [after0_11]
  obtain ⟨i0, i1, i2, i3, i4, i5, i6, i7, i8, i9, i10, i11, i12, i13, i14⟩ := idx t
  idx_vars y
  obtain rfl : y0 = 0 := Subsingleton.elim _ _
  have e : ((View.whole main_v5_3).slice (win0_11.rect t)).emb (ix3 0 y1 y2) = ix3 (bat t) (tok t y1) y2 := by
    blk_ext [i11, bat, tok]
  rw [e, (same _ _ _ _ _ _ _ _).2.2.2.1, InProjOut.out11_at]
  simp only [P_at]
  rfl

/-- Result 4 after the run. -/
theorem final12 (c : Dev nD) : (dats m 0 c).arrAt 12 cfg0.N = Gc (m ((c : Thread nD τ).loc main_arg0)) (m ((c : Thread nD τ).loc main_arg1)) (m ((c : Thread nD τ).loc main_arg2)) (m ((c : Thread nD τ).loc main_arg3)) := by
  refine (dats m 0 c).arrAt_eq_of_covers 12 _ (by decide +kernel) fun t hf y => ?_
  blk_simp
  rw [after0_12]
  obtain ⟨i0, i1, i2, i3, i4, i5, i6, i7, i8, i9, i10, i11, i12, i13, i14⟩ := idx t
  idx_vars y
  obtain rfl : y0 = 0 := Subsingleton.elim _ _
  have e : ((View.whole main_v5_4).slice (win0_12.rect t)).emb (ix3 0 y1 y2) = ix3 (bat t) (tok t y1) y2 := by
    blk_ext [i12, bat, tok]
  rw [e, (same _ _ _ _ _ _ _ _).2.2.2.2.1, InProjOut.out12_at]
  simp only [P_at]
  rfl

/-- Result 5 after the run. -/
theorem final13 (c : Dev nD) : (dats m 0 c).arrAt 13 cfg0.N = Gu (m ((c : Thread nD τ).loc main_arg0)) (m ((c : Thread nD τ).loc main_arg1)) (m ((c : Thread nD τ).loc main_arg2)) (m ((c : Thread nD τ).loc main_arg3)) := by
  refine (dats m 0 c).arrAt_eq_of_covers 13 _ (by decide +kernel) fun t hf y => ?_
  blk_simp
  rw [after0_13]
  obtain ⟨i0, i1, i2, i3, i4, i5, i6, i7, i8, i9, i10, i11, i12, i13, i14⟩ := idx t
  idx_vars y
  obtain rfl : y0 = 0 := Subsingleton.elim _ _
  have e : ((View.whole main_v5_5).slice (win0_13.rect t)).emb (ix3 0 y1 y2) = ix3 (bat t) (tok t y1) y2 := by
    blk_ext [i13, bat, tok]
  rw [e, (same _ _ _ _ _ _ _ _).2.2.2.2.2.1, InProjOut.out13_at]
  simp only [P_at]
  rfl

/-- Result 6 after the run. -/
theorem final14 (c : Dev nD) : (dats m 0 c).arrAt 14 cfg0.N = Gg (m ((c : Thread nD τ).loc main_arg0)) (m ((c : Thread nD τ).loc main_arg1)) (m ((c : Thread nD τ).loc main_arg2)) (m ((c : Thread nD τ).loc main_arg3)) := by
  refine (dats m 0 c).arrAt_eq_of_covers 14 _ (by decide +kernel) fun t hf y => ?_
  blk_simp
  rw [after0_14]
  obtain ⟨i0, i1, i2, i3, i4, i5, i6, i7, i8, i9, i10, i11, i12, i13, i14⟩ := idx t
  idx_vars y
  obtain rfl : y0 = 0 := Subsingleton.elim _ _
  have e : ((View.whole main_v5_6).slice (win0_14.rect t)).emb (ix3 0 y1 y2) = ix3 (bat t) (tok t y1) y2 := by
    blk_ext [i14, bat, tok]
  rw [e, (same _ _ _ _ _ _ _ _).2.2.2.2.2.2, InProjOut.out14_at]
  simp only [P_at]
  rfl

end Cert.Proof.InProjCtxValue

end
-- ==== Proof.InProjCtxRef.lean ====
/-
  What the reference of the context stream's in-projection computes: its operations grouped into steps, each read at a token and a column.
-/
module

public import proofs.«01_k».proof.Proof.Gen.InProjCtxRefIdeal.Run
public import proofs.«01_k».proof.Proof.InProjSpec
public import proofs.«01_k».proof.Proof.MergeSpec
public import Idealize.ShloMosaic.Lib.Pipeline.ValueKit

@[expose] public section

noncomputable section

namespace Cert.Proof.InProjCtxRef

open Idealize.ShloMosaic Idealize.ShloMosaic.TcCoe Cert.InProjCtxRefIdeal Cert.InProjCtxRefIdeal.Gen Cert.Proof.MergeSpec Cert.Proof.InProjSpec

/-- The modulation argument without its unit axis. -/
def md2 (a1 : FVec Ideal S1x6x1024 .f32) : FVec Ideal S6x1024 .f32 := shapeCast S6x1024 a1 shapeCasts_S1x6x1024_S6x1024

/-- The projection of every token. -/
def rProj (a0 : FVec Ideal S32x256x1024 .f32) (a1 : FVec Ideal S1x6x1024 .f32) (a2 : FVec Ideal S1024 .f32) (a3 : FVec Ideal S1024x11264 .bf16) :
    FVec Ideal S32x256x11264 .f32 :=
  Host.dotGeneral dot_S32x256x1024_S1024x11264_S32x256x11264_2_0_01_1_n_n none (addf (mulf (mulf (mulf a0 (broadcastInDim S32x256x1024 ![0, 1, 2]
      bcast_S32x256x1_S32x256x1024_0_1_2 (Host.rsqrt (addf (Host.divf (broadcastInDim S32x256x1 ![0, 1] bcast_S32x256_S32x256x1_0_1
        (Host.reduceAdd (mulf a0 a0) (constant S_ .f32 0x00000000#32) reducesTo_S32x256x1024_S32x256_d2 h_S_))
        (broadcastInDim S32x256x1 ![] bcast_S_S32x256x1 (constant S_ .f32 0x44800000#32)))
        (broadcastInDim S32x256x1 ![] bcast_S_S32x256x1 (constant S_ .f32 0x358637BD#32))))))
      (broadcastInDim S32x256x1024 ![0, 1, 2] bcast_S1x1x1024_S32x256x1024_0_1_2 (broadcastInDim S1x1x1024 ![2] bcast_S1024_S1x1x1024_2 a2)))
      (broadcastInDim S32x256x1024 ![0, 1, 2] bcast_S1x1x1024_S32x256x1024_0_1_2 (broadcastInDim S1x1x1024 ![2] bcast_S1024_S1x1x1024_2
        (addf (broadcastInDim S1024 ![] bcast_S_S1024 (constant S_ .f32 0x3F800000#32)) (shapeCast S1024 (extractStridedSlice S1x1024 ![1, 0]
          (md2 a1) slices_S6x1024_S1x1024_1_0) shapeCasts_S1x1024_S1024)))))
      (broadcastInDim S32x256x1024 ![0, 1, 2] bcast_S1x1x1024_S32x256x1024_0_1_2 (broadcastInDim S1x1x1024 ![2] bcast_S1024_S1x1x1024_2
        (shapeCast S1024 (extractStridedSlice S1x1024 ![0, 0] (md2 a1) slices_S6x1024_S1x1024_0_0) shapeCasts_S1x1024_S1024))))
    (extf .f32 a3 bitsLt_bf16_f32)

theorem rProj_at (a0 : FVec Ideal S32x256x1024 .f32) (a1 : FVec Ideal S1x6x1024 .f32) (a2 : FVec Ideal S1024 .f32) (a3 : FVec Ideal S1024x11264 .bf16)
    (b : Fin 32) (t : Fin 256) (j : Fin 11264) : rProj a0 a1 a2 a3 (ix3 b t j)
      = proj (hid (fun e => a0 (ix3 b t e)) (fun e => a2 (ix1 e)) (fun e => a1 (ix3 0 0 e)) (fun e => a1 (ix3 0 1 e))) (fun k j => a3 (ix2 k j)) j := by
  pointwise [rProj, md2, proj, hid, rms, dot_S32x256x1024_S1024x11264_S32x256x11264_2_0_01_1_n_n]

variable (p : FVec Ideal S32x256x11264 .f32)

/-- The queries. -/
def rQ : FVec Ideal S32x256x1024 .bf16 := truncf .bf16 (extractStridedSlice S32x256x1024 ![0, 0, 0] p slices_S32x256x11264_S32x256x1024_0_0_0) bitsLt_bf16_f32
/-- The keys, scaled. -/
def rK : FVec Ideal S32x256x1024 .bf16 :=
  truncf .bf16 (mulf (extractStridedSlice S32x256x1024 ![0, 0, 1024] p slices_S32x256x11264_S32x256x1024_0_0_1024)
    (broadcastInDim S32x256x1024 ![] bcast_S_S32x256x1024 (constant S_ .f32 0x3DB504F3#32))) bitsLt_bf16_f32
/-- The values. -/
def rV : FVec Ideal S32x256x2048 .bf16 := truncf .bf16 (extractStridedSlice S32x256x2048 ![0, 0, 2048] p slices_S32x256x11264_S32x256x2048_0_0_2048) bitsLt_bf16_f32
/-- The gates of the retention's output. -/
def rS : FVec Ideal S32x256x2048 .bf16 :=
  truncf .bf16 (mulf (extractStridedSlice S32x256x2048 ![0, 0, 4096] p slices_S32x256x11264_S32x256x2048_0_0_4096)
    (Host.divf (broadcastInDim S32x256x2048 ![] bcast_S_S32x256x2048 (constant S_ .f32 0x3F800000#32)) (addf (broadcastInDim S32x256x2048 ![] bcast_S_S32x256x2048
      (constant S_ .f32 0x3F800000#32)) (Host.exp (Host.negf (extractStridedSlice S32x256x2048 ![0, 0, 4096] p slices_S32x256x11264_S32x256x2048_0_0_4096)))))) bitsLt_bf16_f32
/-- The convolution's first factor. -/
def rC : FVec Ideal S32x256x1024 .bf16 := truncf .bf16 (extractStridedSlice S32x256x1024 ![0, 0, 6144] p slices_S32x256x11264_S32x256x1024_0_0_6144) bitsLt_bf16_f32
/-- The convolution's input. -/
def rU : FVec Ideal S32x256x1024 .bf16 :=
  truncf .bf16 (mulf (extractStridedSlice S32x256x1024 ![0, 0, 7168] p slices_S32x256x11264_S32x256x1024_0_0_7168)
    (extractStridedSlice S32x256x1024 ![0, 0, 8192] p slices_S32x256x11264_S32x256x1024_0_0_8192)) bitsLt_bf16_f32
/-- The gates of the two branches. -/
def rG : FVec Ideal S32x256x2048 .bf16 :=
  truncf .bf16 (Host.divf (broadcastInDim S32x256x2048 ![] bcast_S_S32x256x2048 (constant S_ .f32 0x3F800000#32)) (addf (broadcastInDim S32x256x2048 ![]
    bcast_S_S32x256x2048 (constant S_ .f32 0x3F800000#32)) (Host.exp (Host.negf (extractStridedSlice S32x256x2048 ![0, 0, 9216] p
      slices_S32x256x11264_S32x256x2048_0_0_9216))))) bitsLt_bf16_f32

variable (b : Fin 32) (t : Fin 256)

theorem rQ_at (d : Fin 1024) : rQ p (ix3 b t d) = p (ix3 b t ⟨0 + d.val, by omega⟩) := by pointwise [rQ]
theorem rK_at (d : Fin 1024) : rK p (ix3 b t d) = p (ix3 b t ⟨1024 + d.val, by omega⟩) * kscale := by pointwise [rK, kscale]
theorem rV_at (d : Fin 2048) : rV p (ix3 b t d) = p (ix3 b t ⟨2048 + d.val, by omega⟩) := by pointwise [rV]
theorem rS_at (d : Fin 2048) : rS p (ix3 b t d) = silu (p (ix3 b t ⟨4096 + d.val, by omega⟩)) := by pointwise [rS, silu, mul_div_one]
theorem rC_at (d : Fin 1024) : rC p (ix3 b t d) = p (ix3 b t ⟨6144 + d.val, by omega⟩) := by pointwise [rC]
theorem rU_at (d : Fin 1024) : rU p (ix3 b t d) = p (ix3 b t ⟨7168 + d.val, by omega⟩) * p (ix3 b t ⟨8192 + d.val, by omega⟩) := by pointwise [rU]
theorem rG_at (d : Fin 2048) : rG p (ix3 b t d) = Ideal.div 1 (1 + Ideal.exp (-(p (ix3 b t ⟨9216 + d.val, by omega⟩)))) := by pointwise [rG]

end Cert.Proof.InProjCtxRef

end
-- ==== Proof.InProjCtxClaim.lean ====
/-
  The claim of the context stream's in-projection: from the same arguments the kernel and its reference end with the same seven results.
-/
module

public import proofs.«01_k».proof.Defs
public import proofs.«01_k».proof.Proof.InProjCtxValue
public import proofs.«01_k».proof.Proof.InProjCtxRef
public import Idealize.ShloMosaic.Lib.Pipeline.ValueKit

@[expose] public section

noncomputable section

namespace Cert.Proof.InProjCtxClaim

open Idealize.ShloMosaic Idealize.ShloMosaic.TcCoe Idealize.SL.Sem Cert.Proof.InProjCtxRef Cert.Proof.InProjCtxValue Cert.Proof.InProjSpec

section
variable (a0 : FVec Ideal Cert.InProjCtxIdeal.S32x256x1024 .f32) (a1 : FVec Ideal Cert.InProjCtxIdeal.S1x6x1024 .f32)
  (a2 : FVec Ideal Cert.InProjCtxIdeal.S1024 .f32) (a3 : FVec Ideal Cert.InProjCtxIdeal.S1024x11264 .bf16)

theorem eq_q : rQ (rProj a0 a1 a2 a3) = Gq a0 a1 a2 a3 := by
  funext i
  idx_vars i
  rw [rQ_at, rProj_at]
  rfl
theorem eq_k : rK (rProj a0 a1 a2 a3) = Gk a0 a1 a2 a3 := by
  funext i
  idx_vars i
  rw [rK_at, rProj_at]
  rfl
theorem eq_v : rV (rProj a0 a1 a2 a3) = Gv a0 a1 a2 a3 := by
  funext i
  idx_vars i
  rw [rV_at, rProj_at]
  rfl
theorem eq_s : rS (rProj a0 a1 a2 a3) = Gs a0 a1 a2 a3 := by
  funext i
  idx_vars i
  rw [rS_at, rProj_at]
  rfl
theorem eq_c : rC (rProj a0 a1 a2 a3) = Gc a0 a1 a2 a3 := by
  funext i
  idx_vars i
  rw [rC_at, rProj_at]
  rfl
theorem eq_u : rU (rProj a0 a1 a2 a3) = Gu a0 a1 a2 a3 := by
  funext i
  idx_vars i
  rw [rU_at, rProj_at, rProj_at]
  rfl
theorem eq_g : rG (rProj a0 a1 a2 a3) = Gg a0 a1 a2 a3 := by
  funext i
  idx_vars i
  rw [rG_at, rProj_at]
  rfl
end

set_option maxHeartbeats 4000000 in
/-- From the same arguments the context stream's in-projection kernel and its reference end with the same results. -/
theorem algebraic : Cert.algebraic_InProjCtxIdeal_InProjCtxRefIdeal (hInProjCtxIdeal := Cert.InProjCtxIdeal.Gen.facts)
    (hInProjCtxRefIdeal := Cert.InProjCtxRefIdeal.Gen.facts) := by
  pair_intro
  · run_from Cert.InProjCtxIdeal.Value.run_blocks m g
  · run_from Cert.InProjCtxRefIdeal.Value.run m' g'
    · obtain ⟨h0, h1, h2, h3⟩ := hagree c
      rw [InProjCtxValue.final8 m c, ← eq_q, ← h0, ← h1, ← h2, ← h3]
      rfl
    · obtain ⟨h0, h1, h2, h3⟩ := hagree c
      rw [InProjCtxValue.final9 m c, ← eq_k, ← h0, ← h1, ← h2, ← h3]
      rfl
    · obtain ⟨h0, h1, h2, h3⟩ := hagree c
      rw [InProjCtxValue.final10 m c, ← eq_v, ← h0, ← h1, ← h2, ← h3]
      rfl
    · obtain ⟨h0, h1, h2, h3⟩ := hagree c
      rw [InProjCtxValue.final11 m c, ← eq_s, ← h0, ← h1, ← h2, ← h3]
      rfl
    · obtain ⟨h0, h1, h2, h3⟩ := hagree c
      rw [InProjCtxValue.final12 m c, ← eq_c, ← h0, ← h1, ← h2, ← h3]
      rfl
    · obtain ⟨h0, h1, h2, h3⟩ := hagree c
      rw [InProjCtxValue.final13 m c, ← eq_u, ← h0, ← h1, ← h2, ← h3]
      rfl
    · obtain ⟨h0, h1, h2, h3⟩ := hagree c
      rw [InProjCtxValue.final14 m c, ← eq_g, ← h0, ← h1, ← h2, ← h3]
      rfl

end Cert.Proof.InProjCtxClaim

end
-- ==== Proof.ConvSpec.lean ====
/-
  The short convolution of one channel: three taps over the neighbouring tokens, with zeros beyond the two ends.
-/
module

public import proofs.«01_k».proof.Proof.MergeSpec
public import Idealize.ShloMosaic.Lib.WordCmp

@[expose] public section

noncomputable section

namespace Cert.Proof.ConvSpec

open Idealize.ShloMosaic

/-- The three taps at token `t` of a channel `u` of `n` tokens. -/
def taps (n : ℕ) (u : Fin n → EReal) (w0 w1 w2 : EReal) (t : Fin n) : EReal :=
  (if t.val = 0 then 0 else u ⟨t.val - 1, by omega⟩) * w0 + u t * w1 + (if h : t.val + 1 < n then u ⟨t.val + 1, h⟩ else 0) * w2

/-- The kernel's previous token: the channel rolled forward by one, with zero at the first token. -/
theorem prev_eq (n : ℕ) (hn : n < 4096) (u : Fin n → EReal) (w : EReal) (t : Fin n) :
    Scalar.select (IntOp.cmpi .eq (BitVec.ofNat 32 t.val) 0#32) 0 (u ⟨(t.val + n - 1) % n, Nat.mod_lt _ (Nat.zero_lt_of_lt t.isLt)⟩ * w)
      = (if t.val = 0 then 0 else u ⟨t.val - 1, by omega⟩) * w := by
  rw [WordCmp.cmpi_eq_ofNat (by omega) (by omega)]
  by_cases h : t.val = 0
  · rw [if_pos h, decide_eq_true h, zero_mul]
    rfl
  · have i : (⟨(t.val + n - 1) % n, Nat.mod_lt _ (Nat.zero_lt_of_lt t.isLt)⟩ : Fin n) = ⟨t.val - 1, by omega⟩ := Fin.ext (by
      show (t.val + n - 1) % n = t.val - 1
      rw [show t.val + n - 1 = t.val - 1 + n by omega, Nat.add_mod_right, Nat.mod_eq_of_lt (by omega)])
    rw [if_neg h, decide_eq_false h, i]
    rfl
/-- The kernel's next token: the channel rolled back by one, with zero at the last token. -/
theorem next_eq (n : ℕ) (hn : n < 4096) (u : Fin n → EReal) (w : EReal) (t : Fin n) :
    Scalar.select (IntOp.cmpi .eq (BitVec.ofNat 32 t.val) (BitVec.ofNat 32 (n - 1))) 0
        (u ⟨(t.val + n - (n - 1)) % n, Nat.mod_lt _ (Nat.zero_lt_of_lt t.isLt)⟩ * w)
      = (if h : t.val + 1 < n then u ⟨t.val + 1, h⟩ else 0) * w := by
  rw [WordCmp.cmpi_eq_ofNat (by omega) (by omega)]
  by_cases h : t.val + 1 < n
  · have i : (⟨(t.val + n - (n - 1)) % n, Nat.mod_lt _ (Nat.zero_lt_of_lt t.isLt)⟩ : Fin n) = ⟨t.val + 1, h⟩ := Fin.ext (by
      show (t.val + n - (n - 1)) % n = t.val + 1
      rw [show t.val + n - (n - 1) = t.val + 1 by omega, Nat.mod_eq_of_lt h])
    rw [dif_pos h, decide_eq_false (by omega), i]
    rfl
  · rw [dif_neg h, decide_eq_true (by omega), zero_mul]
    rfl

/-- The reference's previous token: the padded channel one place earlier. -/
theorem pad_prev (n : ℕ) (u : Fin n → EReal) (z : EReal) (hz : z = 0) (t : Fin n) :
    (if h : 1 ≤ t.val ∧ t.val - 1 < n then u ⟨t.val - 1, h.2⟩ else z) = if t.val = 0 then 0 else u ⟨t.val - 1, by omega⟩ := by
  subst hz
  split_ifs with h1 h2 h2
  · omega
  · rfl
  · rfl
  · omega

/-- The reference's next token: the padded channel one place later. -/
theorem pad_next (n : ℕ) (u : Fin n → EReal) (z : EReal) (hz : z = 0) (t : Fin n) :
    (if h : 1 ≤ 2 + t.val ∧ 2 + t.val - 1 < n then u ⟨2 + t.val - 1, h.2⟩ else z) = if h : t.val + 1 < n then u ⟨t.val + 1, h⟩ else 0 := by
  subst hz
  by_cases h : t.val + 1 < n
  · rw [dif_pos h, dif_pos (by omega)]
    exact congrArg u (Fin.ext (by show 2 + t.val - 1 = t.val + 1; omega))
  · rw [dif_neg h, dif_neg (by omega)]

end Cert.Proof.ConvSpec

end
-- ==== Proof.ConvValue.lean ====
/-
  What the short convolution kernel's result array holds, as a function of the three argument arrays.
-/
module

public import proofs.«01_k».proof.Proof.Gen.ConvIdeal.Value
public import proofs.«01_k».proof.Proof.ConvSpec
public import Idealize.ShloMosaic.Lib.Pipeline.ValueKit

@[expose] public section

noncomputable section

namespace Cert.Proof.ConvValue

open Idealize.ShloMosaic Idealize.ShloMosaic.TcCoe Cert.ConvIdeal Cert.ConvIdeal.Gen Cert.Proof.ConvSpec
open Idealize.ShloMosaic.Pipeline (Dat)

/-- The result: the first array times the three taps of the second. -/
def G (cb u : Vec Ideal S32x2048x1024 .bf16) (w : Vec Ideal S3x1024 .f32) : Vec Ideal S32x2048x1024 .bf16 := fun i =>
  cb i * taps 2048 (fun t => u (ix3 (i 0) t (i 2))) (w (ix2 0 (i 2))) (w (ix2 1 (i 2))) (w (ix2 2 (i 2))) (i 1)

set_option maxRecDepth 20000 in
theorem pay_at (u cb : Vec Ideal S1x2048x256 .bf16) (w0 w1 w2 : Vec Ideal S1x256 .f32) (t : Fin 2048) (d : Fin 256) :
    k0_pay1 u w0 w1 w2 cb (ix3 0 t d) = cb (ix3 0 t d)
      * taps 2048 (fun e => u (ix3 0 e d)) (w0 (ix2 0 d)) (w1 (ix2 0 d)) (w2 (ix2 0 d)) t := by
  unfold taps
  rw [← prev_eq 2048 (by omega) (fun e => u (ix3 0 e d)), ← next_eq 2048 (by omega) (fun e => u (ix3 0 e d))]
  pointwise [k0_pay1]

theorem hz3 : (![0, 0, 0] : Fin 3 → Nat) = fun _ => 0 := funext fun a => by fin_cases a <;> rfl

/-- A block of the result at a token and a channel. -/
theorem out_at (x0 x1 : Vec Ideal S1x2048x256 .bf16) (x2 : Vec Ideal S3x256 .f32) (t : Fin 2048) (d : Fin 256) :
    out0_3 x0 x1 x2 (ix3 0 t d) = x0 (ix3 0 t d)
      * taps 2048 (fun e => x1 (ix3 0 e d)) (x2 (ix2 0 d)) (x2 (ix2 1 d)) (x2 (ix2 2 d)) t := by
  unfold out0_3
  rw [View.canon_unit_zero hz3, pay_at]
  rw [View.ld_unit_zero hz3, View.ld_unit_zero hz3]
  pointwise []

/-- Every window's block index at a point, in the point's two coordinates. -/
theorem idx : ∀ t : Fin cfg0.N,
    win0_0.index t = ![(grid0.coords t 0).val, 0, (grid0.coords t 1).val]
    ∧ win0_1.index t = ![(grid0.coords t 0).val, 0, (grid0.coords t 1).val]
    ∧ win0_2.index t = ![0, (grid0.coords t 1).val]
    ∧ win0_3.index t = ![(grid0.coords t 0).val, 0, (grid0.coords t 1).val] :=
  (by decide +kernel : ∀ t : Fin grid0.N, _)

variable (m : (ℓ : Loc nD τ sig) → Buf (Elt Ideal) ℓ)

/-- A point's batch row. -/
def bat (t : Fin cfg0.N) : Fin 32 := ⟨(grid0.coords t 0).val, (grid0.coords t 0).isLt⟩
/-- A channel's place in its array, from the point and the column in the block. -/
def chn (t : Fin cfg0.N) (d : Fin 256) : Fin 1024 := ⟨(grid0.coords t 1).val * 256 + d.val, by
  have h : (grid0.coords t 1).val < 4 := (grid0.coords t 1).isLt; omega⟩

theorem b0 (c : Dev nD) (t : Fin cfg0.N) (r : Fin 2048) (d : Fin 256) :
    iblk m c 0 t (ix3 0 r d) = m ((c : Thread nD τ).loc main_arg0) (ix3 (bat t) r (chn t d)) := by
  blk_ext! [iblk, V, V_main_arg0 m c, idx t, bat, chn]
theorem b1 (c : Dev nD) (t : Fin cfg0.N) (r : Fin 2048) (d : Fin 256) :
    iblk m c 1 t (ix3 0 r d) = m ((c : Thread nD τ).loc main_arg1) (ix3 (bat t) r (chn t d)) := by
  blk_ext! [iblk, V, V_main_arg1 m c, idx t, bat, chn]
theorem b2 (c : Dev nD) (t : Fin cfg0.N) (k : Fin 3) (d : Fin 256) :
    iblk m c 2 t (ix2 k d) = m ((c : Thread nD τ).loc main_arg2) (ix2 k (chn t d)) := by
  blk_ext! [iblk, V, V_main_arg2 m c, idx t, chn]

/-- The result after the run. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨i0, i1, i2, i3⟩ := idx t
  idx_vars y
  obtain rfl : y0 = 0 := Subsingleton.elim _ _
  have e : ((View.whole main_v0).slice (win0_3.rect t)).emb (ix3 0 y1 y2) = ix3 (bat t) y1 (chn t y2) := by
    blk_ext [i3, bat, chn]
  rw [e, out_at]
  simp only [b0, b1, b2]
  rfl

end Cert.Proof.ConvValue

end
-- ==== Proof.ConvClaim.lean ====
/-
  The claim of the short convolution: from the same arguments the kernel and its reference end with the same result.
-/
module

public import proofs.«01_k».proof.Defs
public import proofs.«01_k».proof.Proof.ConvValue
public import proofs.«01_k».proof.Proof.Gen.ConvRefIdeal.Run

@[expose] public section

noncomputable section

namespace Cert.Proof.ConvClaim

open Idealize.ShloMosaic Idealize.ShloMosaic.TcCoe Idealize.SL.Sem Cert.Proof.ConvSpec

section
open Cert.ConvRefIdeal Cert.ConvRefIdeal.Gen

variable (cb u : FVec Ideal S32x2048x1024 .bf16) (w : FVec Ideal S3x1024 .f32)

/-- The reference's input with a zero token before the first and after the last. -/
def padded : FVec Ideal S32x2050x1024 .f32 :=
  pad S32x2050x1024 ![0, 1, 0] ![0, 1, 0] ![0, 0, 0] (extf .f32 u bitsLt_bf16_f32) (sitofp .f32 (constantI S_ 32 0#32)) pads_S32x2048x1024_S32x2050x1024_000_110_000 h_S_

/-- The reference's result. -/
def r : FVec Ideal S32x2048x1024 .bf16 :=
  truncf .bf16 (mulf (extf .f32 cb bitsLt_bf16_f32) (addf (addf
    (mulf (extractStridedSlice S32x2048x1024 ![0, 0, 0] (padded u) slices_S32x2050x1024_S32x2048x1024_0_0_0)
      (broadcastInDim S32x2048x1024 ![0, 1, 2] bcast_S1x1x1024_S32x2048x1024_0_1_2 (broadcastInDim S1x1x1024 ![2] bcast_S1024_S1x1x1024_2
        (shapeCast S1024 (extractStridedSlice S1x1024 ![0, 0] w slices_S3x1024_S1x1024_0_0) shapeCasts_S1x1024_S1024))))
    (mulf (extractStridedSlice S32x2048x1024 ![0, 1, 0] (padded u) slices_S32x2050x1024_S32x2048x1024_0_1_0)
      (broadcastInDim S32x2048x1024 ![0, 1, 2] bcast_S1x1x1024_S32x2048x1024_0_1_2 (broadcastInDim S1x1x1024 ![2] bcast_S1024_S1x1x1024_2
        (shapeCast S1024 (extractStridedSlice S1x1024 ![1, 0] w slices_S3x1024_S1x1024_1_0) shapeCasts_S1x1024_S1024)))))
    (mulf (extractStridedSlice S32x2048x1024 ![0, 2, 0] (padded u) slices_S32x2050x1024_S32x2048x1024_0_2_0)
      (broadcastInDim S32x2048x1024 ![0, 1, 2] bcast_S1x1x1024_S32x2048x1024_0_1_2 (broadcastInDim S1x1x1024 ![2] bcast_S1024_S1x1x1024_2
        (shapeCast S1024 (extractStridedSlice S1x1024 ![2, 0] w slices_S3x1024_S1x1024_2_0) shapeCasts_S1x1024_S1024)))))) bitsLt_bf16_f32

theorem zero_int : FloatOps.sitofp (F := Ideal) .f32 0#32 = (0 : EReal) := by
  show (((0#32 : BitVec 32).toInt : ℝ) : EReal) = 0
  simp

theorem cut0 (b : Fin 32) (t : Fin 2048) (d : Fin 1024) :
    (extractStridedSlice S32x2048x1024 ![0, 0, 0] (padded u) slices_S32x2050x1024_S32x2048x1024_0_0_0) (ix3 b t d)
      = if t.val = 0 then 0 else u (ix3 b ⟨t.val - 1, by omega⟩ d) := by
  rw [← pad_prev 2048 (fun e => u (ix3 b e d)) _ zero_int t]
  pointwise [padded]
theorem cut1 (b : Fin 32) (t : Fin 2048) (d : Fin 1024) :
    (extractStridedSlice S32x2048x1024 ![0, 1, 0] (padded u) slices_S32x2050x1024_S32x2048x1024_0_1_0) (ix3 b t d) = u (ix3 b t d) := by
  pointwise [padded]
theorem cut2 (b : Fin 32) (t : Fin 2048) (d : Fin 1024) :
    (extractStridedSlice S32x2048x1024 ![0, 2, 0] (padded u) slices_S32x2050x1024_S32x2048x1024_0_2_0) (ix3 b t d)
      = if h : t.val + 1 < 2048 then u (ix3 b ⟨t.val + 1, h⟩ d) else 0 := by
  rw [← pad_next 2048 (fun e => u (ix3 b e d)) _ zero_int t]
  pointwise [padded]

theorem r_eq : r cb u w = ConvValue.G cb u w := by
  funext i
  idx_vars i
  unfold ConvValue.G taps
  pointwise [r, cut0, cut1, cut2]
end

/-- From the same arguments the short convolution kernel and its reference end with the same result. -/
theorem algebraic : Cert.algebraic_ConvIdeal_ConvRefIdeal (hConvIdeal := Cert.ConvIdeal.Gen.facts)
    (hConvRefIdeal := Cert.ConvRefIdeal.Gen.facts) := by
  pair_intro
  · run_from Cert.ConvIdeal.Value.run_blocks m g
  · run_from Cert.ConvRefIdeal.Value.run m' g'
    obtain ⟨h0, h1, h2⟩ := hagree c
    rw [ConvValue.final m c, ← r_eq, ← h0, ← h1, ← h2]
    rfl

end Cert.Proof.ConvClaim

end
-- ==== Proof.ConvCtxValue.lean ====
/-
  What the context stream's short convolution kernel's result array holds, as a function of the three argument arrays.
-/
module

public import proofs.«01_k».proof.Proof.Gen.ConvCtxIdeal.Value
public import proofs.«01_k».proof.Proof.ConvSpec
public import Idealize.ShloMosaic.Lib.Pipeline.ValueKit

@[expose] public section

noncomputable section

namespace Cert.Proof.ConvCtxValue

open Idealize.ShloMosaic Idealize.ShloMosaic.TcCoe Cert.ConvCtxIdeal Cert.ConvCtxIdeal.Gen Cert.Proof.ConvSpec
open Idealize.ShloMosaic.Pipeline (Dat)

/-- The result: the first array times the three taps of the second. -/
def G (cb u : Vec Ideal S32x256x1024 .bf16) (w : Vec Ideal S3x1024 .f32) : Vec Ideal S32x256x1024 .bf16 := fun i =>
  cb i * taps 256 (fun t => u (ix3 (i 0) t (i 2))) (w (ix2 0 (i 2))) (w (ix2 1 (i 2))) (w (ix2 2 (i 2))) (i 1)

set_option maxRecDepth 20000 in
theorem pay_at (u cb : Vec Ideal S1x256x256 .bf16) (w0 w1 w2 : Vec Ideal S1x256 .f32) (t : Fin 256) (d : Fin 256) :
    k0_pay1 u w0 w1 w2 cb (ix3 0 t d) = cb (ix3 0 t d)
      * taps 256 (fun e => u (ix3 0 e d)) (w0 (ix2 0 d)) (w1 (ix2 0 d)) (w2 (ix2 0 d)) t := by
  unfold taps
  rw [← prev_eq 256 (by omega) (fun e => u (ix3 0 e d)), ← next_eq 256 (by omega) (fun e => u (ix3 0 e d))]
  pointwise [k0_pay1]

theorem hz3 : (![0, 0, 0] : Fin 3 → Nat) = fun _ => 0 := funext fun a => by fin_cases a <;> rfl

/-- A block of the result at a token and a channel. -/
theorem out_at (x0 x1 : Vec Ideal S1x256x256 .bf16) (x2 : Vec Ideal S3x256 .f32) (t : Fin 256) (d : Fin 256) :
    out0_3 x0 x1 x2 (ix3 0 t d) = x0 (ix3 0 t d)
      * taps 256 (fun e => x1 (ix3 0 e d)) (x2 (ix2 0 d)) (x2 (ix2 1 d)) (x2 (ix2 2 d)) t := by
  unfold out0_3
  rw [View.canon_unit_zero hz3, pay_at]
  rw [View.ld_unit_zero hz3, View.ld_unit_zero hz3]
  pointwise []

/-- Every window's block index at a point, in the point's two coordinates. -/
theorem idx : ∀ t : Fin cfg0.N,
    win0_0.index t = ![(grid0.coords t 0).val, 0, (grid0.coords t 1).val]
    ∧ win0_1.index t = ![(grid0.coords t 0).val, 0, (grid0.coords t 1).val]
    ∧ win0_2.index t = ![0, (grid0.coords t 1).val]
    ∧ win0_3.index t = ![(grid0.coords t 0).val, 0, (grid0.coords t 1).val] :=
  (by decide +kernel : ∀ t : Fin grid0.N, _)

variable (m : (ℓ : Loc nD τ sig) → Buf (Elt Ideal) ℓ)

/-- A point's batch row. -/
def bat (t : Fin cfg0.N) : Fin 32 := ⟨(grid0.coords t 0).val, (grid0.coords t 0).isLt⟩
/-- A channel's place in its array, from the point and the column in the block. -/
def chn (t : Fin cfg0.N) (d : Fin 256) : Fin 1024 := ⟨(grid0.coords t 1).val * 256 + d.val, by
  have h : (grid0.coords t 1).val < 4 := (grid0.coords t 1).isLt; omega⟩

theorem b0 (c : Dev nD) (t : Fin cfg0.N) (r : Fin 256) (d : Fin 256) :
    iblk m c 0 t (ix3 0 r d) = m ((c : Thread nD τ).loc main_arg0) (ix3 (bat t) r (chn t d)) := by
  blk_ext! [iblk, V, V_main_arg0 m c, idx t, bat, chn]
theorem b1 (c : Dev nD) (t : Fin cfg0.N) (r : Fin 256) (d : Fin 256) :
    iblk m c 1 t (ix3 0 r d) = m ((c : Thread nD τ).loc main_arg1) (ix3 (bat t) r (chn t d)) := by
  blk_ext! [iblk, V, V_main_arg1 m c, idx t, bat, chn]
theorem b2 (c : Dev nD) (t : Fin cfg0.N) (k : Fin 3) (d : Fin 256) :
    iblk m c 2 t (ix2 k d) = m ((c : Thread nD τ).loc main_arg2) (ix2 k (chn t d)) := by
  blk_ext! [iblk, V, V_main_arg2 m c, idx t, chn]

/-- The result after the run. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨i0, i1, i2, i3⟩ := idx t
  idx_vars y
  obtain rfl : y0 = 0 := Subsingleton.elim _ _
  have e : ((View.whole main_v0).slice (win0_3.rect t)).emb (ix3 0 y1 y2) = ix3 (bat t) y1 (chn t y2) := by
    blk_ext [i3, bat, chn]
  rw [e, out_at]
  simp only [b0, b1, b2]
  rfl

end Cert.Proof.ConvCtxValue

end
-- ==== Proof.ConvCtxClaim.lean ====
/-
  The claim of the context stream's short convolution: from the same arguments the kernel and its reference end with the same result.
-/
module

public import proofs.«01_k».proof.Defs
public import proofs.«01_k».proof.Proof.ConvCtxValue
public import proofs.«01_k».proof.Proof.Gen.ConvCtxRefIdeal.Run

@[expose] public section

noncomputable section

namespace Cert.Proof.ConvCtxClaim

open Idealize.ShloMosaic Idealize.ShloMosaic.TcCoe Idealize.SL.Sem Cert.Proof.ConvSpec

section
open Cert.ConvCtxRefIdeal Cert.ConvCtxRefIdeal.Gen

variable (cb u : FVec Ideal S32x256x1024 .bf16) (w : FVec Ideal S3x1024 .f32)

/-- The reference's input with a zero token before the first and after the last. -/
def padded : FVec Ideal S32x258x1024 .f32 :=
  pad S32x258x1024 ![0, 1, 0] ![0, 1, 0] ![0, 0, 0] (extf .f32 u bitsLt_bf16_f32) (sitofp .f32 (constantI S_ 32 0#32)) pads_S32x256x1024_S32x258x1024_000_110_000 h_S_

/-- The reference's result. -/
def r : FVec Ideal S32x256x1024 .bf16 :=
  truncf .bf16 (mulf (extf .f32 cb bitsLt_bf16_f32) (addf (addf
    (mulf (extractStridedSlice S32x256x1024 ![0, 0, 0] (padded u) slices_S32x258x1024_S32x256x1024_0_0_0)
      (broadcastInDim S32x256x1024 ![0, 1, 2] bcast_S1x1x1024_S32x256x1024_0_1_2 (broadcastInDim S1x1x1024 ![2] bcast_S1024_S1x1x1024_2
        (shapeCast S1024 (extractStridedSlice S1x1024 ![0, 0] w slices_S3x1024_S1x1024_0_0) shapeCasts_S1x1024_S1024))))
    (mulf (extractStridedSlice S32x256x1024 ![0, 1, 0] (padded u) slices_S32x258x1024_S32x256x1024_0_1_0)
      (broadcastInDim S32x256x1024 ![0, 1, 2] bcast_S1x1x1024_S32x256x1024_0_1_2 (broadcastInDim S1x1x1024 ![2] bcast_S1024_S1x1x1024_2
        (shapeCast S1024 (extractStridedSlice S1x1024 ![1, 0] w slices_S3x1024_S1x1024_1_0) shapeCasts_S1x1024_S1024)))))
    (mulf (extractStridedSlice S32x256x1024 ![0, 2, 0] (padded u) slices_S32x258x1024_S32x256x1024_0_2_0)
      (broadcastInDim S32x256x1024 ![0, 1, 2] bcast_S1x1x1024_S32x256x1024_0_1_2 (broadcastInDim S1x1x1024 ![2] bcast_S1024_S1x1x1024_2
        (shapeCast S1024 (extractStridedSlice S1x1024 ![2, 0] w slices_S3x1024_S1x1024_2_0) shapeCasts_S1x1024_S1024)))))) bitsLt_bf16_f32

theorem zero_int : FloatOps.sitofp (F := Ideal) .f32 0#32 = (0 : EReal) := by
  show (((0#32 : BitVec 32).toInt : ℝ) : EReal) = 0
  simp

theorem cut0 (b : Fin 32) (t : Fin 256) (d : Fin 1024) :
    (extractStridedSlice S32x256x1024 ![0, 0, 0] (padded u) slices_S32x258x1024_S32x256x1024_0_0_0) (ix3 b t d)
      = if t.val = 0 then 0 else u (ix3 b ⟨t.val - 1, by omega⟩ d) := by
  rw [← pad_prev 256 (fun e => u (ix3 b e d)) _ zero_int t]
  pointwise [padded]
theorem cut1 (b : Fin 32) (t : Fin 256) (d : Fin 1024) :
    (extractStridedSlice S32x256x1024 ![0, 1, 0] (padded u) slices_S32x258x1024_S32x256x1024_0_1_0) (ix3 b t d) = u (ix3 b t d) := by
  pointwise [padded]
theorem cut2 (b : Fin 32) (t : Fin 256) (d : Fin 1024) :
    (extractStridedSlice S32x256x1024 ![0, 2, 0] (padded u) slices_S32x258x1024_S32x256x1024_0_2_0) (ix3 b t d)
      = if h : t.val + 1 < 256 then u (ix3 b ⟨t.val + 1, h⟩ d) else 0 := by
  rw [← pad_next 256 (fun e => u (ix3 b e d)) _ zero_int t]
  pointwise [padded]

theorem r_eq : r cb u w = ConvCtxValue.G cb u w := by
  funext i
  idx_vars i
  unfold ConvCtxValue.G taps
  pointwise [r, cut0, cut1, cut2]
end

/-- From the same arguments the short convolution kernel and its reference end with the same result. -/
theorem algebraic : Cert.algebraic_ConvCtxIdeal_ConvCtxRefIdeal (hConvCtxIdeal := Cert.ConvCtxIdeal.Gen.facts)
    (hConvCtxRefIdeal := Cert.ConvCtxRefIdeal.Gen.facts) := by
  pair_intro
  · run_from Cert.ConvCtxIdeal.Value.run_blocks m g
  · run_from Cert.ConvCtxRefIdeal.Value.run m' g'
    obtain ⟨h0, h1, h2⟩ := hagree c
    rw [ConvCtxValue.final m c, ← r_eq, ← h0, ← h1, ← h2]
    rfl

end Cert.Proof.ConvCtxClaim

end
-- ==== Proof.ModValue.lean ====
/-
  What the modulation kernel's result array holds, as a function of the three argument arrays.
-/
module

public import proofs.«01_k».proof.Proof.Gen.ModIdeal.Value
public import proofs.«01_k».proof.Proof.MergeSpec
public import Idealize.ShloMosaic.Lib.Pipeline.ValueKit
public import Idealize.ShloMosaic.Lib.StableHlo.RunRead

@[expose] public section

noncomputable section

namespace Cert.Proof.ModValue

open Idealize.ShloMosaic Idealize.ShloMosaic.TcCoe Cert.ModIdeal Cert.ModIdeal.Gen Cert.Proof.MergeSpec
open Idealize.ShloMosaic.Pipeline (Dat)

/-- A column of the modulation of one row: the row through silu, projected and shifted. -/
def cond (x : Fin 1024 → EReal) (w : Fin 1024 → EReal) (b : EReal) : EReal := (∑ k, silu (x k) * w k) + b

/-- The result: for every layer, row and column. -/
def G (x : Vec Ideal S40x1024 .f32) (w : Vec Ideal S2x1024x6144 .f32) (b : Vec Ideal S2x6144 .f32) : Vec Ideal S2x40x6144 .f32 := fun i =>
  cond (fun k => x (ix2 (i 1) k)) (fun k => w (ix3 (i 0) k (i 2))) (b (ix2 (i 0) (i 2)))

theorem pay_at (x : Vec Ideal S40x1024 .f32) (w : Vec Ideal S1x1024x1024 .f32) (b : Vec Ideal S1x1x1024 .f32) (r : Fin 40) (d : Fin 1024) :
    k0_pay1 x w b (ix3 0 r d) = cond (fun k => x (ix2 r k)) (fun k => w (ix3 0 k d)) (b (ix3 0 0 d)) := by
  pointwise [k0_pay1, cond, silu, zero_sub, dot_S40x1024_S1024x1024_S40x1024_1_0_0_1_n_n]

theorem hz3 : (![0, 0, 0] : Fin 3 → Nat) = fun _ => 0 := funext fun a => by fin_cases a <;> rfl
theorem hz2 : (![0, 0] : Fin 2 → Nat) = fun _ => 0 := funext fun a => by fin_cases a <;> rfl

/-- A block of the result at a row and a column. -/
theorem out_at (x0 : Vec Ideal S40x1024 .f32) (x1 : Vec Ideal S1x1024x1024 .f32) (x2 : Vec Ideal S1x1x1024 .f32) (r : Fin 40) (d : Fin 1024) :
    out0_3 x0 x1 x2 (ix3 0 r d) = cond (fun k => x0 (ix2 r k)) (fun k => x1 (ix3 0 k d)) (x2 (ix3 0 0 d)) := by
  unfold out0_3
  rw [View.canon_unit_zero hz3, pay_at, View.ld_unit_zero hz2, View.ld_unit_zero hz3, View.ld_unit_zero hz3]

/-- Every window's block index at a point, in the point's two coordinates. -/
theorem idx : ∀ t : Fin cfg0.N,
    win0_0.index t = ![0, 0]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val] :=
  (by decide +kernel : ∀ t : Fin grid0.N, _)

variable (m : (ℓ : Loc nD τ sig) → Buf (Elt Ideal) ℓ)

/-- A point's layer. -/
def lay (t : Fin cfg0.N) : Fin 2 := ⟨(grid0.coords t 0).val, (grid0.coords t 0).isLt⟩
/-- A column's place in its array, from the point and the column in the block. -/
def chn (t : Fin cfg0.N) (d : Fin 1024) : Fin 6144 := ⟨(grid0.coords t 1).val * 1024 + d.val, by
  have h : (grid0.coords t 1).val < 6 := (grid0.coords t 1).isLt; omega⟩

theorem b0 (c : Dev nD) (t : Fin cfg0.N) (r : Fin 40) (k : Fin 1024) :
    iblk m c 0 t (ix2 r k) = m ((c : Thread nD τ).loc main_arg0) (ix2 r k) := by
  blk_ext! [iblk, V, idx t]
theorem b1 (c : Dev nD) (t : Fin cfg0.N) (k : Fin 1024) (d : Fin 1024) :
    iblk m c 1 t (ix3 0 k d) = m ((c : Thread nD τ).loc main_arg1) (ix3 (lay t) k (chn t d)) := by
  blk_ext! [iblk, V, V_main_arg1 m c, idx t, lay, chn]
/-- The shifts with a unit axis. -/
theorem v0 (c : Dev nD) (l : Fin 2) (j : Fin 6144) :
    (V m c main_v0 : FVec Ideal S2x1x6144 .f32) (ix3 l 0 j) = m ((c : Thread nD τ).loc main_arg2) (ix2 l j) := by
  after_reads_simp
  pointwise []
theorem b2 (c : Dev nD) (t : Fin cfg0.N) (d : Fin 1024) :
    iblk m c 2 t (ix3 0 0 d) = m ((c : Thread nD τ).loc main_arg2) (ix2 (lay t) (chn t d)) := by
  rw [← v0 m c]
  blk_ext! [iblk, idx t, lay, chn]

/-- The result after the run. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨i0, i1, i2, i3⟩ := idx t
  idx_vars y
  obtain rfl : y0 = 0 := Subsingleton.elim _ _
  have e : ((View.whole main_v1).slice (win0_3.rect t)).emb (ix3 0 y1 y2) = ix3 (lay t) y1 (chn t y2) := by
    blk_ext [i3, lay, chn]
  rw [e, out_at]
  simp only [b0, b1, b2]
  rfl

end Cert.Proof.ModValue

end
-- ==== Proof.ModClaim.lean ====
/-
  The modulation's claim: from the same arguments the kernel and its reference end with the same result.
-/
module

public import proofs.«01_k».proof.Defs
public import proofs.«01_k».proof.Proof.ModValue
public import proofs.«01_k».proof.Proof.Gen.ModRefIdeal.Run

@[expose] public section

noncomputable section

namespace Cert.Proof.ModClaim

open Idealize.ShloMosaic Idealize.ShloMosaic.TcCoe Idealize.SL.Sem Cert.Proof.MergeSpec

section
open Cert.ModRefIdeal Cert.ModRefIdeal.Gen

variable (x : FVec Ideal S40x1024 .f32) (w : FVec Ideal S2x1024x6144 .f32) (b : FVec Ideal S2x6144 .f32)

/-- The rows through silu. -/
def act : FVec Ideal S40x1024 .f32 :=
  mulf x (Host.divf (broadcastInDim S40x1024 ![] bcast_S_S40x1024 (constant S_ .f32 0x3F800000#32))
    (addf (broadcastInDim S40x1024 ![] bcast_S_S40x1024 (constant S_ .f32 0x3F800000#32)) (Host.exp (Host.negf x))))

/-- One layer's modulation, from its weights and shifts. -/
def one (w1 : FVec Ideal S1x1024x6144 .f32) (b1 : FVec Ideal S1x6144 .f32) : FVec Ideal S1x40x6144 .f32 :=
  broadcastInDim S1x40x6144 ![1, 2] bcast_S40x6144_S1x40x6144_1_2 (addf
    (Host.dotGeneral dot_S40x1024_S1024x6144_S40x6144_1_0_0_1_n_n none (act x) (shapeCast S1024x6144 w1 shapeCasts_S1x1024x6144_S1024x6144))
    (broadcastInDim S40x6144 ![0, 1] bcast_S1x6144_S40x6144_0_1 (broadcastInDim S1x6144 ![1] bcast_S6144_S1x6144_1
      (shapeCast S6144 b1 shapeCasts_S1x6144_S6144))))

/-- The two layers stacked. -/
def r : FVec Ideal S2x40x6144 .f32 :=
  concatenate S2x40x6144 0 [
    ⟨S1x40x6144, one x (extractStridedSlice S1x1024x6144 ![0, 0, 0] w slices_S2x1024x6144_S1x1024x6144_0_0_0)
      (extractStridedSlice S1x6144 ![0, 0] b slices_S2x6144_S1x6144_0_0)⟩,
    ⟨S1x40x6144, one x (extractStridedSlice S1x1024x6144 ![1, 0, 0] w slices_S2x1024x6144_S1x1024x6144_1_0_0)
      (extractStridedSlice S1x6144 ![1, 0] b slices_S2x6144_S1x6144_1_0)⟩]
    concatenates_S1x40x6144_S1x40x6144_S2x40x6144_d0

theorem act_at (i : Fin 40) (k : Fin 1024) : act x (ix2 i k) = silu (x (ix2 i k)) := by pointwise [act, silu, mul_div_one]

theorem one_at (w1 : FVec Ideal S1x1024x6144 .f32) (b1 : FVec Ideal S1x6144 .f32) (i : Fin 40) (j : Fin 6144) :
    one x w1 b1 (ix3 0 i j) = ModValue.cond (fun k => x (ix2 i k)) (fun k => w1 (ix3 0 k j)) (b1 (ix2 0 j)) := by
  pointwise [one, act_at, ModValue.cond, dot_S40x1024_S1024x6144_S40x6144_1_0_0_1_n_n]

theorem r_at (l : Fin 2) (i : Fin 40) (j : Fin 6144) :
    r x w b (ix3 l i j) = ModValue.cond (fun k => x (ix2 i k)) (fun k => w (ix3 l k j)) (b (ix2 l j)) := by
  fin_cases l
  · pointwise [r, one_at]
  · pointwise [r, one_at]

theorem r_eq : r x w b = ModValue.G x w b := by
  funext i
  idx_vars i
  exact r_at x w b _ _ _
end

/-- From the same arguments the modulation kernel and its reference end with the same result. -/
theorem algebraic : Cert.algebraic_ModIdeal_ModRefIdeal (hModIdeal := Cert.ModIdeal.Gen.facts)
    (hModRefIdeal := Cert.ModRefIdeal.Gen.facts) := by
  pair_intro
  · run_from Cert.ModIdeal.Value.run_blocks m g
  · run_from Cert.ModRefIdeal.Value.run m' g'
    obtain ⟨h0, h1, h2⟩ := hagree c
    rw [ModValue.final m c, ← r_eq, ← h0, ← h1, ← h2]
    rfl

end Cert.Proof.ModClaim

end
-- ==== Proof.RetRun.lean ====
/-
  One run of the retention kernel's body on whole buffers: what its stores leave in the two output buffers, as pieces that may
  mention what the two scratch buffers held before.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.RetRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kernel body on any staging memrefs: a subtype the run finds -/

/-- One staging buffer of output window 6, through which its contents are stated (`View.read_writes_of_cover`: the
    choice does not matter). -/
abbrev VO0_6 : View sig .tc .vmem S1x2048x256 .bf16 := (Memref.whole cc0_stg6_0 : Memref sig .tc .vmem S1x2048x256 .bf16).view
/-- One staging buffer of output window 7, through which its contents are stated (`View.read_writes_of_cover`: the
    choice does not matter). -/
abbrev VO0_7 : View sig .tc .vmem S1x1x256x256 .f32 := (Memref.whole cc0_stg7_0 : Memref sig .tc .vmem S1x1x256x256 .f32).view
/-- Each window's current staging memref at point `t`, spelled as the pipeline passes it (`bodyAt0`), and its wholeness. -/
abbrev ms0_0 (t : Fin cfg0.N) : Memref sig .tc .vmem S2x1x8x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x256x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x256x256 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S8x256x256 .f32 := Memref.whole cc0_scratch0
abbrev scM0_1 : Memref sig .tc .vmem S8x256x256 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def run0 (c : Dev nD) (i : grid0.Coords) (arg2 : Memref sig .tc .vmem S2x1x8x256 .f32) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x1x256x256 .f32) (harg7 : arg7.IsWhole) (arg8 : Memref sig .tc .vmem S1x2048x256 .bf16) (harg8 : arg8.IsWhole) (arg9 : Memref sig .tc .vmem S1x1x256x256 .f32) (harg9 : arg9.IsWhole) (arg10 : Memref sig .tc .vmem S8x256x256 .f32) (harg10 : arg10.IsWhole) (arg11 : Memref sig .tc .vmem S8x256x256 .bf16) (harg11 : arg11.IsWhole)
    (x0 : Vec F S2x1x8x256 .f32) (x1 : Vec F S1x2048x128 .bf16) (x2 : Vec F S1x2048x128 .bf16) (x3 : Vec F S1x2048x256 .bf16) (x4 : Vec F S1x2048x256 .bf16) (x5 : Vec F S1x1x256x256 .f32)
    (fs0 : BufTy.Contents (Elt F) arg10.view.ty) (fs1 : BufTy.Contents (Elt F) arg11.view.ty) :
    Σ' (L6 : List (View.Piece (Elt F) S1x2048x256 .bf16)), { L7 : List (View.Piece (Elt F) S1x1x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (arg10.view.loc (c : Thread nD τ) ↦[arg10.view.set]{fullShare} fs0) ∗ (arg11.view.loc (c : Thread nD τ) ↦[arg11.view.set]{fullShare} fs1)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ d, owns (c : Thread nD τ) arg10 fullShare d) ∗ (∃ d, owns (c : Thread nD τ) arg11 fullShare d)) -∗ K ⟨⟩))
          ⊢ wp frame (wpE (defs₀ (F := F)) Variants.none c none) E (cc0_retention i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_retention_eq_skeleton]; unfold cc0_retention_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, HS0, HS1, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]
    · iexists _, _; isplitr; swap; · iexact HS0
      ipureintro; rfl
    iexists _, _; isplitr; swap; · iexact HS1
    ipureintro; rfl

end Cert.Proof.RetRun

end
-- ==== Proof.MergeValue.lean ====
/-
  What the merge kernel's result array holds: at every token the row function of MergeSpec, of the argument arrays.
-/
module

public import proofs.«01_k».proof.Proof.Gen.MergeIdeal.Value
public import proofs.«01_k».proof.Proof.MergeBlock
public import Idealize.ShloMosaic.Lib.Pipeline.ValueKit

@[expose] public section

noncomputable section

namespace Cert.Proof.MergeValue

open Idealize.ShloMosaic Idealize.ShloMosaic.TcCoe Cert.MergeIdeal Cert.MergeIdeal.Gen Cert.Proof.MergeSpec
open Idealize.ShloMosaic.Pipeline (Dat)

/-- The result array as one function of the twelve argument arrays. -/
def G (yr : Vec Ideal S32x2048x2048 .bf16) (z : Vec Ideal S32x2048x1024 .bf16) (gt : Vec Ideal S32x2048x2048 .bf16)
    (x : Vec Ideal S32x2048x1024 .f32) (md : Vec Ideal S32x6x1024 .f32) (nf : Vec Ideal S1024 .f32)
    (wro : Vec Ideal S2048x1024 .bf16) (wco wo : Vec Ideal S1024x1024 .bf16) (wfi : Vec Ideal S1024x5632 .bf16)
    (wfo : Vec Ideal S2816x1024 .bf16) (fw : Vec Ideal S1024 .f32) : Vec Ideal S32x2048x1024 .f32 := fun i =>
  out (x1 (fun j => yr (ix3 (i 0) (i 1) j)) (fun j => z (ix3 (i 0) (i 1) j)) (fun j => gt (ix3 (i 0) (i 1) j))
      (fun e => x (ix3 (i 0) (i 1) e)) (fun e => md (ix3 (i 0) 2 e)) (fun j k => wro (ix2 j k)) (fun j k => wco (ix2 j k))
      (fun j k => wo (ix2 j k)))
    (fun e => nf (ix1 e)) (fun e => md (ix3 (i 0) 3 e)) (fun e => md (ix3 (i 0) 4 e)) (fun e => md (ix3 (i 0) 5 e))
    (fun k j => wfi (ix2 k j)) (fun j k => wfo (ix2 j k)) (fun e => fw (ix1 e)) (i 2)

theorem hz3 : (![0, 0, 0] : Fin 3 → Nat) = fun _ => 0 := funext fun a => by fin_cases a <;> rfl
theorem hz2 : (![0, 0] : Fin 2 → Nat) = fun _ => 0 := funext fun a => by fin_cases a <;> rfl

/-- A block, at a row and a column: the row functions of the block's inputs. -/
theorem out_at (x0 : Vec Ideal S1x256x2048 .bf16) (x1 : Vec Ideal S1x256x1024 .bf16) (x2 : Vec Ideal S1x256x2048 .bf16)
    (x3 : Vec Ideal S1x256x1024 .f32) (x4 : Vec Ideal S1x6x1024 .f32) (x5 : Vec Ideal S1x1024 .f32) (x6 : Vec Ideal S2048x1024 .bf16)
    (x7 x8 : Vec Ideal S1024x1024 .bf16) (x9 : Vec Ideal S1024x5632 .bf16) (x10 : Vec Ideal S2816x1024 .bf16)
    (x11 : Vec Ideal S1x1024 .f32) (r : Fin 256) (d : Fin 1024) :
    out0_12 x0 x1 x2 x3 x4 x5 x6 x7 x8 x9 x10 x11 (ix3 0 r d)
      = out (MergeSpec.x1 (fun j => x0 (ix3 0 r j)) (fun j => x1 (ix3 0 r j)) (fun j => x2 (ix3 0 r j))
          (fun e => x3 (ix3 0 r e)) (fun e => x4 (ix3 0 2 e)) (fun j k => x6 (ix2 j k)) (fun j k => x7 (ix2 j k))
          (fun j k => x8 (ix2 j k)))
        (fun e => x5 (ix2 0 e)) (fun e => x4 (ix3 0 3 e)) (fun e => x4 (ix3 0 4 e)) (fun e => x4 (ix3 0 5 e))
        (fun k j => x9 (ix2 k j)) (fun j k => x10 (ix2 j k)) (fun e => x11 (ix2 0 e)) d := by
  have e7 : ∀ e : Fin 1024, k0_pay7 x0 x1 x2 x3 x4 x5 x6 x7 x8 x9 x10 x11 (ix2 r e)
      = MergeSpec.x1 (fun j => x0 (ix3 0 r j)) (fun j => x1 (ix3 0 r j)) (fun j => x2 (ix3 0 r j))
          (fun e => x3 (ix3 0 r e)) (fun e => x4 (ix3 0 2 e)) (fun j k => x6 (ix2 j k)) (fun j k => x7 (ix2 j k))
          (fun j k => x8 (ix2 j k)) e := by
    intro e
    unfold k0_pay7
    rw [MergeBlock.pay2_at]
    pointwise [MergeSpec.x1]
  have e8 : ∀ e : Fin 1024, k0_pay8 x0 x1 x2 x3 x4 x5 x6 x7 x8 x9 x10 x11 (ix2 0 e) = x5 (ix2 0 e) := by
    intro e
    pointwise [k0_pay8, k0_pay3]
  unfold out0_12
  rw [View.canon_unit_zero hz3, MergeBlock.pay1_at]
  unfold out
  congr 1
  · funext e
    rw [MergeBlock.pay6_at, MergeBlock.pay5_at]
    simp only [MergeBlock.pay4_at]
    pointwise [e7, e8]
    refine congrArg₂ (· + ·) rfl (congrArg₂ (· * ·) rfl ?_)
    unfold ffn
    rw [← sum_three]
    simp only [act, ← Nat.add_assoc, Nat.reduceAdd]
  · funext e
    rw [View.ld_unit_zero hz2]

/-- Every window's block index at a point, in the point's two coordinates. -/
theorem idx : ∀ t : Fin cfg0.N,
    win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![(grid0.coords t 0).val, 0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0]
    ∧ win0_12.index t = ![(grid0.coords t 0).val, (grid0.coords t 1).val, 0] :=
  (by decide +kernel : ∀ t : Fin grid0.N, _)

variable (m : (ℓ : Loc nD τ sig) → Buf (Elt Ideal) ℓ)

/-- A token's place in its array, from the point and the row in the block. -/
def tok (t : Fin cfg0.N) (r : Fin 256) : Fin 2048 := ⟨(grid0.coords t 1).val * 256 + r.val, by
  have h : (grid0.coords t 1).val < 8 := (grid0.coords t 1).isLt; omega⟩
/-- A point's batch row. -/
def bat (t : Fin cfg0.N) : Fin 32 := ⟨(grid0.coords t 0).val, (grid0.coords t 0).isLt⟩

theorem b0 (c : Dev nD) (t : Fin cfg0.N) (r : Fin 256) (j : Fin 2048) :
    iblk m c 0 t (ix3 0 r j) = m ((c : Thread nD τ).loc main_arg0) (ix3 (bat t) (tok t r) j) := by
  blk_ext! [iblk, V, V_main_arg0 m c, idx t, bat, tok]
theorem b1 (c : Dev nD) (t : Fin cfg0.N) (r : Fin 256) (j : Fin 1024) :
    iblk m c 1 t (ix3 0 r j) = m ((c : Thread nD τ).loc main_arg1) (ix3 (bat t) (tok t r) j) := by
  blk_ext! [iblk, V, V_main_arg1 m c, idx t, bat, tok]
theorem b2 (c : Dev nD) (t : Fin cfg0.N) (r : Fin 256) (j : Fin 2048) :
    iblk m c 2 t (ix3 0 r j) = m ((c : Thread nD τ).loc main_arg2) (ix3 (bat t) (tok t r) j) := by
  blk_ext! [iblk, V, V_main_arg2 m c, idx t, bat, tok]
theorem b3 (c : Dev nD) (t : Fin cfg0.N) (r : Fin 256) (j : Fin 1024) :
    iblk m c 3 t (ix3 0 r j) = m ((c : Thread nD τ).loc main_arg3) (ix3 (bat t) (tok t r) j) := by
  blk_ext! [iblk, V, V_main_arg3 m c, idx t, bat, tok]
theorem b4 (c : Dev nD) (t : Fin cfg0.N) (k : Fin 6) (j : Fin 1024) :
    iblk m c 4 t (ix3 0 k j) = m ((c : Thread nD τ).loc main_arg4) (ix3 (bat t) k j) := by
  blk_ext! [iblk, V, idx t, bat]
theorem b5 (c : Dev nD) (t : Fin cfg0.N) (j : Fin 1024) :
    iblk m c 5 t (ix2 0 j) = m ((c : Thread nD τ).loc main_arg5) (ix1 j) := by
  blk_ext! [iblk, V, idx t]
theorem b11 (c : Dev nD) (t : Fin cfg0.N) (j : Fin 1024) :
    iblk m c 11 t (ix2 0 j) = m ((c : Thread nD τ).loc main_arg11) (ix1 j) := by
  blk_ext! [iblk, V, idx t]
theorem b6 (c : Dev nD) (t : Fin cfg0.N) (k : Fin 2048) (j : Fin 1024) :
    iblk m c 6 t (ix2 k j) = m ((c : Thread nD τ).loc main_arg6) (ix2 k j) := by
  blk_ext! [iblk, V, idx t]
theorem b7 (c : Dev nD) (t : Fin cfg0.N) (k : Fin 1024) (j : Fin 1024) :
    iblk m c 7 t (ix2 k j) = m ((c : Thread nD τ).loc main_arg7) (ix2 k j) := by
  blk_ext! [iblk, V, idx t]
theorem b8 (c : Dev nD) (t : Fin cfg0.N) (k : Fin 1024) (j : Fin 1024) :
    iblk m c 8 t (ix2 k j) = m ((c : Thread nD τ).loc main_arg8) (ix2 k j) := by
  blk_ext! [iblk, V, idx t]
theorem b9 (c : Dev nD) (t : Fin cfg0.N) (k : Fin 1024) (j : Fin 5632) :
    iblk m c 9 t (ix2 k j) = m ((c : Thread nD τ).loc main_arg9) (ix2 k j) := by
  blk_ext! [iblk, V, idx t]
theorem b10 (c : Dev nD) (t : Fin cfg0.N) (k : Fin 2816) (j : Fin 1024) :
    iblk m c 10 t (ix2 k j) = m ((c : Thread nD τ).loc main_arg10) (ix2 k j) := by
  blk_ext! [iblk, V, idx t]

/-- The result array after the run. -/
theorem final (c : Dev nD) : (dats m 0 c).arrAt 12 cfg0.N = G (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) := by
  refine (dats m 0 c).arrAt_eq_of_covers 12 _ (by decide +kernel) fun t hf y => ?_
  blk_simp
  rw [after0_12]
  obtain ⟨i0, i1, i2, i3, i4, i5, i6, i7, i8, i9, i10, i11, i12⟩ := idx t
  idx_vars y
  obtain rfl : y0 = 0 := Subsingleton.elim _ _
  have e : ((View.whole main_v2).slice (win0_12.rect t)).emb (ix3 0 y1 y2) = ix3 (bat t) (tok t y1) y2 := by
    blk_ext [i12, bat, tok]
  rw [e, out_at]
  simp only [b0, b1, b2, b3, b4, b5, b6, b7, b8, b9, b10, b11]
  rfl

end Cert.Proof.MergeValue

end
-- ==== Proof.MergeRef.lean ====
/-
  What the merge's reference computes: its operations grouped into four steps, each step read at a token and a column as a row
  function of MergeSpec.
-/
module

public import proofs.«01_k».proof.Proof.Gen.MergeRefIdeal.Run
public import proofs.«01_k».proof.Proof.MergeSpec

@[expose] public section

noncomputable section

namespace Cert.Proof.MergeRef

open Idealize.ShloMosaic Idealize.ShloMosaic.TcCoe Cert.MergeRefIdeal Cert.MergeRefIdeal.Gen Cert.Proof.MergeSpec

/-- The modulation argument with a unit token axis. -/
def md4 (a4 : FVec Ideal S32x6x1024 .f32) : FVec Ideal S32x6x1x1024 .f32 :=
  broadcastInDim S32x6x1x1024 ![0, 1, 3] bcast_S32x6x1024_S32x6x1x1024_0_1_3 a4

/-- The residual after the two branches. -/
def rX1 (a0 : FVec Ideal S32x2048x2048 .bf16) (a1 : FVec Ideal S32x2048x1024 .bf16) (a2 : FVec Ideal S32x2048x2048 .bf16)
    (a3 : FVec Ideal S32x2048x1024 .f32) (a4 : FVec Ideal S32x6x1024 .f32) (a6 : FVec Ideal S2048x1024 .bf16)
    (a7 a8 : FVec Ideal S1024x1024 .bf16) : FVec Ideal S32x2048x1024 .f32 :=
  addf a3 (mulf (broadcastInDim S32x2048x1024 ![0, 1, 2] bcast_S32x1x1024_S32x2048x1024_0_1_2
      (shapeCast S32x1x1024 (extractStridedSlice S32x1x1x1024 ![0, 2, 0, 0] (md4 a4) slices_S32x6x1x1024_S32x1x1x1024_0_2_0_0)
        shapeCasts_S32x1x1x1024_S32x1x1024))
    (Host.dotGeneral dot_S32x2048x1024_S1024x1024_S32x2048x1024_2_0_01_1_n_n none
      (addf (mulf (extractStridedSlice S32x2048x1024 ![0, 0, 0] (extf .f32 a2 bitsLt_bf16_f32) slices_S32x2048x2048_S32x2048x1024_0_0_0)
          (Host.dotGeneral dot_S32x2048x2048_S2048x1024_S32x2048x1024_2_0_01_1_n_n none (extf .f32 a0 bitsLt_bf16_f32)
            (extf .f32 a6 bitsLt_bf16_f32)))
        (mulf (extractStridedSlice S32x2048x1024 ![0, 0, 1024] (extf .f32 a2 bitsLt_bf16_f32) slices_S32x2048x2048_S32x2048x1024_0_0_1024)
          (Host.dotGeneral dot_S32x2048x1024_S1024x1024_S32x2048x1024_2_0_01_1_n_n none (extf .f32 a1 bitsLt_bf16_f32)
            (extf .f32 a7 bitsLt_bf16_f32))))
      (extf .f32 a8 bitsLt_bf16_f32)))

/-- The normalization of every token's row, times a weight row. -/
def rRms (x : FVec Ideal S32x2048x1024 .f32) (w : FVec Ideal S1024 .f32) : FVec Ideal S32x2048x1024 .f32 :=
  mulf (mulf x (broadcastInDim S32x2048x1024 ![0, 1, 2] bcast_S32x2048x1_S32x2048x1024_0_1_2 (Host.rsqrt (addf
      (Host.divf (broadcastInDim S32x2048x1 ![0, 1] bcast_S32x2048_S32x2048x1_0_1
          (Host.reduceAdd (mulf x x) (constant S_ .f32 0x00000000#32) reducesTo_S32x2048x1024_S32x2048_d2 h_S_))
        (broadcastInDim S32x2048x1 ![] bcast_S_S32x2048x1 (constant S_ .f32 0x44800000#32)))
      (broadcastInDim S32x2048x1 ![] bcast_S_S32x2048x1 (constant S_ .f32 0x358637BD#32))))))
    (broadcastInDim S32x2048x1024 ![0, 1, 2] bcast_S1x1x1024_S32x2048x1024_0_1_2
      (broadcastInDim S1x1x1024 ![2] bcast_S1024_S1x1x1024_2 w))

/-- The hidden rows: normalized, scaled and shifted. -/
def rHid (x : FVec Ideal S32x2048x1024 .f32) (a4 : FVec Ideal S32x6x1024 .f32) (a5 : FVec Ideal S1024 .f32) :
    FVec Ideal S32x2048x1024 .f32 :=
  addf (mulf (rRms x a5) (broadcastInDim S32x2048x1024 ![0, 1, 2] bcast_S32x1x1024_S32x2048x1024_0_1_2
      (addf (broadcastInDim S32x1x1024 ![] bcast_S_S32x1x1024 (constant S_ .f32 0x3F800000#32))
        (shapeCast S32x1x1024 (extractStridedSlice S32x1x1x1024 ![0, 4, 0, 0] (md4 a4) slices_S32x6x1x1024_S32x1x1x1024_0_4_0_0)
          shapeCasts_S32x1x1x1024_S32x1x1024))))
    (broadcastInDim S32x2048x1024 ![0, 1, 2] bcast_S32x1x1024_S32x2048x1024_0_1_2
      (shapeCast S32x1x1024 (extractStridedSlice S32x1x1x1024 ![0, 3, 0, 0] (md4 a4) slices_S32x6x1x1024_S32x1x1x1024_0_3_0_0)
        shapeCasts_S32x1x1x1024_S32x1x1024))

/-- The hidden rows through the first weight. -/
def rUp (h : FVec Ideal S32x2048x1024 .f32) (a9 : FVec Ideal S1024x5632 .bf16) : FVec Ideal S32x2048x5632 .f32 :=
  Host.dotGeneral dot_S32x2048x1024_S1024x5632_S32x2048x5632_2_0_01_1_n_n none h (extf .f32 a9 bitsLt_bf16_f32)

/-- The gate half of the first product. -/
def rGate (u : FVec Ideal S32x2048x5632 .f32) : FVec Ideal S32x2048x2816 .f32 :=
  extractStridedSlice S32x2048x2816 ![0, 0, 0] u slices_S32x2048x5632_S32x2048x2816_0_0_0

/-- The gated hidden layer through the second weight. -/
def rFfn (u : FVec Ideal S32x2048x5632 .f32) (a10 : FVec Ideal S2816x1024 .bf16) : FVec Ideal S32x2048x1024 .f32 :=
  Host.dotGeneral dot_S32x2048x2816_S2816x1024_S32x2048x1024_2_0_01_1_n_n none
    (mulf (mulf (rGate u) (Host.divf (broadcastInDim S32x2048x2816 ![] bcast_S_S32x2048x2816 (constant S_ .f32 0x3F800000#32))
        (addf (broadcastInDim S32x2048x2816 ![] bcast_S_S32x2048x2816 (constant S_ .f32 0x3F800000#32))
          (Host.exp (Host.negf (rGate u))))))
      (extractStridedSlice S32x2048x2816 ![0, 0, 2816] u slices_S32x2048x5632_S32x2048x2816_0_0_2816))
    (extf .f32 a10 bitsLt_bf16_f32)

/-- The residual after the feed-forward part. -/
def rX2 (x : FVec Ideal S32x2048x1024 .f32) (a4 : FVec Ideal S32x6x1024 .f32) (f : FVec Ideal S32x2048x1024 .f32) :
    FVec Ideal S32x2048x1024 .f32 :=
  addf x (mulf (broadcastInDim S32x2048x1024 ![0, 1, 2] bcast_S32x1x1024_S32x2048x1024_0_1_2
      (shapeCast S32x1x1024 (extractStridedSlice S32x1x1x1024 ![0, 5, 0, 0] (md4 a4) slices_S32x6x1x1024_S32x1x1x1024_0_5_0_0)
        shapeCasts_S32x1x1x1024_S32x1x1024)) f)

variable (m : (ℓ : Loc nD τ sig) → Buf (Elt Ideal) ℓ)

/-- The steps composed. -/
def rAll (a0 : FVec Ideal S32x2048x2048 .bf16) (a1 : FVec Ideal S32x2048x1024 .bf16) (a2 : FVec Ideal S32x2048x2048 .bf16)
    (a3 : FVec Ideal S32x2048x1024 .f32) (a4 : FVec Ideal S32x6x1024 .f32) (a5 : FVec Ideal S1024 .f32) (a6 : FVec Ideal S2048x1024 .bf16)
    (a7 a8 : FVec Ideal S1024x1024 .bf16) (a9 : FVec Ideal S1024x5632 .bf16) (a10 : FVec Ideal S2816x1024 .bf16)
    (a11 : FVec Ideal S1024 .f32) : FVec Ideal S32x2048x1024 .f32 :=
  rRms (rX2 (rX1 a0 a1 a2 a3 a4 a6 a7 a8) a4 (rFfn (rUp (rHid (rX1 a0 a1 a2 a3 a4 a6 a7 a8) a4 a5) a9) a10)) a11

/-- The reference's result is the steps composed. -/
theorem res_eq (c : Dev nD) : Value.res_main_v68 m c = rAll (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11)) := by
  unfold Value.res_main_v68 rAll rRms rX2 rFfn rGate rUp rHid rRms rX1 md4
  rfl

theorem rX1_at (a0 : FVec Ideal S32x2048x2048 .bf16) (a1 : FVec Ideal S32x2048x1024 .bf16) (a2 : FVec Ideal S32x2048x2048 .bf16)
    (a3 : FVec Ideal S32x2048x1024 .f32) (a4 : FVec Ideal S32x6x1024 .f32) (a6 : FVec Ideal S2048x1024 .bf16)
    (a7 a8 : FVec Ideal S1024x1024 .bf16) (b : Fin 32) (t : Fin 2048) (d : Fin 1024) :
    rX1 a0 a1 a2 a3 a4 a6 a7 a8 (ix3 b t d) = x1 (fun j => a0 (ix3 b t j)) (fun j => a1 (ix3 b t j)) (fun j => a2 (ix3 b t j))
      (fun e => a3 (ix3 b t e)) (fun e => a4 (ix3 b 2 e)) (fun j k => a6 (ix2 j k)) (fun j k => a7 (ix2 j k))
      (fun j k => a8 (ix2 j k)) d := by
  pointwise [rX1, md4, x1, dot_S32x2048x1024_S1024x1024_S32x2048x1024_2_0_01_1_n_n, dot_S32x2048x2048_S2048x1024_S32x2048x1024_2_0_01_1_n_n]

theorem rRms_at (x : FVec Ideal S32x2048x1024 .f32) (w : FVec Ideal S1024 .f32) (b : Fin 32) (t : Fin 2048) (d : Fin 1024) :
    rRms x w (ix3 b t d) = rms (fun e => x (ix3 b t e)) (fun e => w (ix1 e)) d := by
  pointwise [rRms, rms]

theorem rHid_at (x : FVec Ideal S32x2048x1024 .f32) (a4 : FVec Ideal S32x6x1024 .f32) (a5 : FVec Ideal S1024 .f32)
    (b : Fin 32) (t : Fin 2048) (d : Fin 1024) :
    rHid x a4 a5 (ix3 b t d) = hid (fun e => x (ix3 b t e)) (fun e => a5 (ix1 e)) (fun e => a4 (ix3 b 3 e)) (fun e => a4 (ix3 b 4 e)) d := by
  pointwise [rHid, hid, md4, rRms_at]

theorem rFfn_at (h : FVec Ideal S32x2048x1024 .f32) (a9 : FVec Ideal S1024x5632 .bf16) (a10 : FVec Ideal S2816x1024 .bf16)
    (b : Fin 32) (t : Fin 2048) (d : Fin 1024) :
    rFfn (rUp h a9) a10 (ix3 b t d) = ffn (fun e => h (ix3 b t e)) (fun k j => a9 (ix2 k j)) (fun j k => a10 (ix2 j k)) d := by
  pointwise [rFfn, rUp, rGate, ffn, act, silu, mul_div_one, dot_S32x2048x2816_S2816x1024_S32x2048x1024_2_0_01_1_n_n,
    dot_S32x2048x1024_S1024x5632_S32x2048x5632_2_0_01_1_n_n]

theorem rAll_at (a0 : FVec Ideal S32x2048x2048 .bf16) (a1 : FVec Ideal S32x2048x1024 .bf16) (a2 : FVec Ideal S32x2048x2048 .bf16)
    (a3 : FVec Ideal S32x2048x1024 .f32) (a4 : FVec Ideal S32x6x1024 .f32) (a5 : FVec Ideal S1024 .f32) (a6 : FVec Ideal S2048x1024 .bf16)
    (a7 a8 : FVec Ideal S1024x1024 .bf16) (a9 : FVec Ideal S1024x5632 .bf16) (a10 : FVec Ideal S2816x1024 .bf16)
    (a11 : FVec Ideal S1024 .f32) (b : Fin 32) (t : Fin 2048) (d : Fin 1024) :
    rAll a0 a1 a2 a3 a4 a5 a6 a7 a8 a9 a10 a11 (ix3 b t d) = out (x1 (fun j => a0 (ix3 b t j)) (fun j => a1 (ix3 b t j)) (fun j => a2 (ix3 b t j))
      (fun e => a3 (ix3 b t e)) (fun e => a4 (ix3 b 2 e)) (fun j k => a6 (ix2 j k)) (fun j k => a7 (ix2 j k))
      (fun j k => a8 (ix2 j k))) (fun e => a5 (ix1 e)) (fun e => a4 (ix3 b 3 e)) (fun e => a4 (ix3 b 4 e)) (fun e => a4 (ix3 b 5 e))
      (fun k j => a9 (ix2 k j)) (fun j k => a10 (ix2 j k)) (fun e => a11 (ix1 e)) d := by
  unfold rAll out
  rw [rRms_at]
  congr 1
  funext e
  pointwise [rX2, md4, rFfn_at, rHid_at, rX1_at]

end Cert.Proof.MergeRef

end
-- ==== Proof.MergeClaim.lean ====
/-
  The merge's equation: the kernel's result array and the reference's result agree.
-/
module

public import proofs.«01_k».proof.Defs
public import proofs.«01_k».proof.Proof.Gen.MergeIdeal.Frame
public import proofs.«01_k».proof.Proof.Gen.Merge.Frame
public import proofs.«01_k».proof.Proof.MergeValue
public import proofs.«01_k».proof.Proof.MergeRef
public import Idealize.ShloMosaic.Lib.Quiescent
public import Idealize.ShloMosaic.Lib.Claim

@[expose] public section

noncomputable section

namespace Cert.Proof.MergeClaim

open Idealize.ShloMosaic Idealize.ShloMosaic.TcCoe Idealize.SL.Sem

/-- The reference's steps, at every index, are the function the kernel's result array holds. -/
theorem rAll_eq (a0 a1 a2 a3 a4 a5 a6 a7 a8 a9 a10 a11) :
    MergeRef.rAll a0 a1 a2 a3 a4 a5 a6 a7 a8 a9 a10 a11 = MergeValue.G a0 a1 a2 a3 a4 a5 a6 a7 a8 a9 a10 a11 := by
  funext i
  idx_vars i
  exact MergeRef.rAll_at a0 a1 a2 a3 a4 a5 a6 a7 a8 a9 a10 a11 _ _ _

/-- The merge kernel's arguments are kept and its counters end at zero, in words. -/
theorem frame_kernel : Cert.quiescent_Merge (hMerge := Cert.Merge.Gen.facts) := fun m ρ _ => Cert.Merge.Gen.frame m ρ
/-- The same in mathematics. -/
theorem frame_ideal : Cert.quiescent_MergeIdeal (hMergeIdeal := Cert.MergeIdeal.Gen.facts) := fun m ρ _ => Cert.MergeIdeal.Gen.frame m ρ
/-- The same of the reference. -/
theorem frame_ref : Cert.quiescent_MergeRefIdeal (hMergeRefIdeal := Cert.MergeRefIdeal.Gen.facts) := fun m ρ _ =>
  (θ_run Cert.MergeRefIdeal.defs _ _).mono (fun r h => ⟨fun c => (h c).2,
      Idealize.ShloMosaic.sem_eq_zero_of_no_sems (by decide) r.2⟩)
    (Cert.MergeRefIdeal.Value.run (F := Ideal) m ρ)

/-- From the same arguments the merge kernel and its reference end with the same result. -/
theorem algebraic : Cert.algebraic_MergeIdeal_MergeRefIdeal (hMergeIdeal := Cert.MergeIdeal.Gen.facts)
    (hMergeRefIdeal := Cert.MergeRefIdeal.Gen.facts) := by
  pair_intro
  · run_from Cert.MergeIdeal.Value.run_blocks m g
  · run_from Cert.MergeRefIdeal.Value.run m' g'
    obtain ⟨h0, h1, h2, h3, h4, h5, h6, h7, h8, h9, h10, h11⟩ := hagree c
    rw [MergeValue.final m c, MergeRef.res_eq, rAll_eq, h0, h1, h2, h3, h4, h5, h6, h7, h8, h9, h10, h11]

end Cert.Proof.MergeClaim

end
-- ==== Proof.InProjTables.lean ====
/-
  The rotary tables of the in-projection kernel: what the host operations before the region leave in the four table
  arrays, at a token's position and a lane of the head.
-/
module

public import proofs.«01_k».proof.Proof.Gen.InProjIdeal.Value
public import proofs.«01_k».proof.Proof.InProjSpec
public import Idealize.ShloMosaic.Lib.Pipeline.ValueKit
public import Idealize.ShloMosaic.Lib.StableHlo.RunRead

@[expose] public section

noncomputable section

namespace Cert.Proof.InProjTables

open Idealize.ShloMosaic Idealize.ShloMosaic.TcCoe Cert.InProjIdeal Cert.InProjIdeal.Gen Cert.Proof.InProjSpec

/-- The buffers as the host line's first part leaves them, up to the two angle arrays. -/
abbrev E (m : (ℓ : Loc nD τ sig) → Buf (Elt Ideal) ℓ) (c : Dev nD) : (b : DevRef τ sig) → b.ty.Contents (Elt Ideal) :=
  StableHlo.upto (List.flatten [hostOps0, hostOps0_1, hostOps0_2, hostOps0_3, hostOps0_4]) (fun b => m (c, b)) 67

/-- Four arrays of 32 lanes side by side. -/
def cat4 (a b c d : FVec Ideal S2048x32 .f32) : FVec Ideal S2048x128 .f32 :=
  concatenate S2048x128 1 [⟨S2048x32, a⟩, ⟨S2048x32, b⟩, ⟨S2048x32, c⟩, ⟨S2048x32, d⟩]
    concatenates_S2048x32_S2048x32_S2048x32_S2048x32_S2048x128_d1
/-- Two vectors of 32 lanes, one after the other. -/
def cat2 (a b : FVec Ideal S32 .f32) : FVec Ideal S64 .f32 :=
  concatenate S64 0 [⟨S32, a⟩, ⟨S32, b⟩] concatenates_S32_S32_S64_d0

/-- The scalar 64 at every position. -/
def c64 : IVec S2048 32 := broadcastInDim S2048 ![] bcast_S_S2048 (constantI S_ 32 64#32)
/-- A scalar at every position. -/
def cst {w : ℕ} (x : BitVec w) : IVec S2048 w := broadcastInDim S2048 ![] bcast_S_S2048 (constantI S_ w x)

/-- The grid row of a position: the quotient by 64, rounded down. -/
def rowI : IVec S2048 32 :=
  select (andi (cmpi .ne (signi (iotaInDim S2048 32 0)) (broadcastInDim S2048 ![] bcast_S_S2048 (signi (constantI S_ 32 64#32))))
    (cmpi .ne (Host.remsi (iotaInDim S2048 32 0) c64) (cst 0#32))) (subi (Host.divsi (iotaInDim S2048 32 0) c64) (cst 1#32))
    (Host.divsi (iotaInDim S2048 32 0) c64)

/-- The divisor of the remainder: 64, or 1 if that were 0. -/
def divI : IVec S_ 32 := select (cmpi .eq (constantI S_ 32 64#32) (constantI S_ 32 0#32)) (constantI S_ 32 1#32) (constantI S_ 32 64#32)
/-- The remainder as the machine takes it. -/
def remI : IVec S2048 32 := Host.remsi (iotaInDim S2048 32 0) (broadcastInDim S2048 ![] bcast_S_S2048 divI)
/-- The grid column of a position: the remainder by 64, of the divisor's sign. -/
def colI : IVec S2048 32 :=
  select (andi (cmpi .ne (cmpi .slt remI (cst 0#32)) (broadcastInDim S2048 ![] bcast_S_S2048 (cmpi .slt divI (constantI S_ 32 0#32))))
    (cmpi .ne remI (cst 0#32))) (addi remI (broadcastInDim S2048 ![] bcast_S_S2048 divI)) remI

/-- The grid row of position `t` is `t / 64`. -/
theorem rowI_at : ∀ t : Fin 2048, rowI (ix1 t) = BitVec.ofNat 32 (t.val / 64) := by decide +kernel
/-- The grid column of position `t` is `t % 64`. -/
theorem colI_at : ∀ t : Fin 2048, colI (ix1 t) = BitVec.ofNat 32 (t.val % 64) := by decide +kernel

/-- The 32 frequencies. -/
def freqs : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))
/-- The angles of the positions `p`. -/
def angles (p : IVec S2048 32) : FVec Ideal S2048x32 .f32 :=
  mulf (broadcastInDim S2048x32 ![0, 1] bcast_S2048x1_S2048x32_0_1 (broadcastInDim S2048x1 ![0] bcast_S2048_S2048x1_0 (sitofp .f32 p)))
    (broadcastInDim S2048x32 ![0, 1] bcast_S1x32_S2048x32_0_1 (broadcastInDim S1x32 ![1] bcast_S32_S1x32_1 freqs))

variable (m : (ℓ : Loc nD τ sig) → Buf (Elt Ideal) ℓ)

theorem e19 (c : Dev nD) : E m c (Proc.devRef .tc main_v19) = angles rowI := by
  after_reads_simp
  rfl
theorem e24 (c : Dev nD) : E m c (Proc.devRef .tc main_v24) = angles colI := by
  after_reads_simp
  rfl

/-- The angles of the row positions. -/
theorem angR_at (t : Fin 2048) (i : Fin 32) : angles rowI (ix2 t i) = angR t i := by
  pointwise [angles, freqs, rowI_at, angR, freq]
theorem angC_at (t : Fin 2048) (i : Fin 32) : angles colI (ix2 t i) = angC t i := by
  pointwise [angles, freqs, colI_at, angC, freq]

/-- Four runs of 32 lanes, the first two alike and the last two alike. -/
theorem four_runs (R C : Fin 32 → EReal) (l : Fin 128) :
    (if h : l.val < 32 then R ⟨l.val, h⟩ else if h : l.val - 32 < 32 then R ⟨l.val - 32, h⟩
      else if h : l.val - 32 - 32 < 32 then C ⟨l.val - 32 - 32, h⟩ else C ⟨l.val - 32 - 32 - 32, by omega⟩)
      = if l.val < 64 then R ⟨l.val % 32, by omega⟩ else C ⟨l.val % 32, by omega⟩ := by
  by_cases h1 : l.val < 32
  · rw [dif_pos h1, if_pos (by omega)]
    exact congrArg R (Fin.ext (show l.val = l.val % 32 by omega))
  by_cases h2 : l.val - 32 < 32
  · rw [dif_neg h1, dif_pos h2, if_pos (by omega)]
    exact congrArg R (Fin.ext (show l.val - 32 = l.val % 32 by omega))
  by_cases h3 : l.val - 32 - 32 < 32
  · rw [dif_neg h1, dif_neg h2, dif_pos h3, if_neg (by omega)]
    exact congrArg C (Fin.ext (show l.val - 32 - 32 = l.val % 32 by omega))
  · rw [dif_neg h1, dif_neg h2, dif_neg h3, if_neg (by omega)]
    exact congrArg C (Fin.ext (show l.val - 32 - 32 - 32 = l.val % 32 by omega))

/-- The angle of a lane. -/
def lane (t : Fin 2048) (l : Fin 128) : EReal := cat4 (angles rowI) (angles rowI) (angles colI) (angles colI) (ix2 t l)

theorem lane_at (t : Fin 2048) (l : Fin 128) : lane t l = ang t l := by
  pointwise [lane, cat4, angR_at, angC_at, ang]
  exact four_runs (angR t) (angC t) l

/-- The sign of a lane. -/
def signs : FVec Ideal S2048x128 .f32 :=
  broadcastInDim S2048x128 ![0, 1] bcast_S1x128_S2048x128_0_1 (broadcastInDim S1x128 ![1] bcast_S128_S1x128_1
    (shapeCast S128 (broadcastInDim S2x64 ![0, 1] bcast_S1x64_S2x64_0_1
      (shapeCast S1x64 (cat2 (Host.negf (broadcastInDim S32 ![] bcast_S_S32 (constant S_ .f32 0x3F800000#32)))
        (broadcastInDim S32 ![] bcast_S_S32 (constant S_ .f32 0x3F800000#32))) shapeCasts_S64_S1x64)) shapeCasts_S2x64_S128))

theorem signs_at (t : Fin 2048) (l : Fin 128) : signs (ix2 t l) = if l.val % 64 < 32 then -1 else 1 := by
  pointwise [signs, cat2]
  split_ifs <;> rfl

/-- The cosine table. -/
theorem v33 (c : Dev nD) (t : Fin 2048) (l : Fin 128) :
    (V m c main_v33 : FVec Ideal S2048x128 .f32) (ix2 t l) = Ideal.cos (ang t l) := by
  after_reads_simp
  show Host.cos (cat4 (E m c (Proc.devRef .tc main_v19)) (E m c (Proc.devRef .tc main_v19)) (E m c (Proc.devRef .tc main_v24)) (E m c (Proc.devRef .tc main_v24))) (ix2 t l) = _
  rw [e19, e24, ← lane_at]
  rfl
/-- The signed sine table. -/
theorem v37 (c : Dev nD) (t : Fin 2048) (l : Fin 128) :
    (V m c main_v37 : FVec Ideal S2048x128 .f32) (ix2 t l) = Ideal.sin (ang t l) * (if l.val % 64 < 32 then -1 else 1) := by
  after_reads_simp
  show mulf (Host.sin (cat4 (E m c (Proc.devRef .tc main_v19)) (E m c (Proc.devRef .tc main_v19)) (E m c (Proc.devRef .tc main_v24)) (E m c (Proc.devRef .tc main_v24)))) signs (ix2 t l) = _
  rw [e19, e24, ← lane_at, ← signs_at t l]
  rfl
/-- The cosine table times the key scale. -/
theorem v39 (c : Dev nD) (t : Fin 2048) (l : Fin 128) :
    (V m c main_v39 : FVec Ideal S2048x128 .f32) (ix2 t l) = Ideal.cos (ang t l) * kscale := by
  after_reads_simp
  show mulf (Host.cos (cat4 (E m c (Proc.devRef .tc main_v19)) (E m c (Proc.devRef .tc main_v19)) (E m c (Proc.devRef .tc main_v24)) (E m c (Proc.devRef .tc main_v24))))
    (broadcastInDim S2048x128 ![] bcast_S_S2048x128 (constant S_ FTy.f32 0x3DB504F3#32)) (ix2 t l) = _
  rw [e19, e24, ← lane_at]
  rfl
/-- The signed sine table times the key scale. -/
theorem v41 (c : Dev nD) (t : Fin 2048) (l : Fin 128) :
    (V m c main_v41 : FVec Ideal S2048x128 .f32) (ix2 t l) = Ideal.sin (ang t l) * (if l.val % 64 < 32 then -1 else 1) * kscale := by
  after_reads_simp
  show mulf (mulf (Host.sin (cat4 (E m c (Proc.devRef .tc main_v19)) (E m c (Proc.devRef .tc main_v19)) (E m c (Proc.devRef .tc main_v24)) (E m c (Proc.devRef .tc main_v24)))) signs)
    (broadcastInDim S2048x128 ![] bcast_S_S2048x128 (constant S_ FTy.f32 0x3DB504F3#32)) (ix2 t l) = _
  rw [e19, e24, ← lane_at, ← signs_at t l]
  rfl

end Cert.Proof.InProjTables

end
-- ==== Proof.InProjValue.lean ====
/-
  What the in-projection kernel's seven result arrays hold, as functions of the four argument arrays.
-/
module

public import proofs.«01_k».proof.Proof.Gen.InProjIdeal.Value
public import proofs.«01_k».proof.Proof.InProjOut
public import proofs.«01_k».proof.Proof.InProjTables

@[expose] public section

noncomputable section

namespace Cert.Proof.InProjValue

open Idealize.ShloMosaic Idealize.ShloMosaic.TcCoe Cert.InProjIdeal Cert.InProjIdeal.Gen Cert.Proof.MergeSpec Cert.Proof.InProjSpec
open Cert.Proof.InProjBlock (head)
open Idealize.ShloMosaic.Pipeline (Dat)

/-- A column of the projection of one token, from the argument arrays. -/
def col (x : Vec Ideal S32x2048x1024 .f32) (md : Vec Ideal S32x6x1024 .f32) (nw : Vec Ideal S1024 .f32) (w : Vec Ideal S1024x11264 .bf16)
    (b : Fin 32) (t : Fin 2048) (j : Fin 11264) : EReal :=
  proj (hid (fun e => x (ix3 b t e)) (fun e => nw (ix1 e)) (fun e => md (ix3 b 0 e)) (fun e => md (ix3 b 1 e))) (fun k j => w (ix2 k j)) j

section
variable (x : Vec Ideal S32x2048x1024 .f32) (md : Vec Ideal S32x6x1024 .f32) (nw : Vec Ideal S1024 .f32) (w : Vec Ideal S1024x11264 .bf16)

/-- The queries, every head turned by its token's angles. -/
def Gq : Vec Ideal S32x2048x1024 .bf16 := fun i =>
  turn (fun e => col x md nw w (i 0) (i 1) ⟨0 + ((i 2).val / 128 * 128 + e.val), by have h : (i 2).val < 1024 := (i 2).isLt; omega⟩) (i 1)
    ⟨(i 2).val % 128, by omega⟩
/-- The keys, scaled and turned. -/
def Gk : Vec Ideal S32x2048x1024 .bf16 := fun i =>
  turn (fun e => col x md nw w (i 0) (i 1) ⟨1024 + ((i 2).val / 128 * 128 + e.val), by have h : (i 2).val < 1024 := (i 2).isLt; omega⟩ * kscale) (i 1)
    ⟨(i 2).val % 128, by omega⟩
/-- The values. -/
def Gv : Vec Ideal S32x2048x2048 .bf16 := fun i => col x md nw w (i 0) (i 1) ⟨2048 + (i 2).val, by have h : (i 2).val < 2048 := (i 2).isLt; omega⟩
/-- The gates of the retention's output. -/
def Gs : Vec Ideal S32x2048x2048 .bf16 := fun i => silu (col x md nw w (i 0) (i 1) ⟨4096 + (i 2).val, by have h : (i 2).val < 2048 := (i 2).isLt; omega⟩)
/-- The convolution's first factor. -/
def Gc : Vec Ideal S32x2048x1024 .bf16 := fun i => col x md nw w (i 0) (i 1) ⟨6144 + (i 2).val, by have h : (i 2).val < 1024 := (i 2).isLt; omega⟩
/-- The convolution's input. -/
def Gu : Vec Ideal S32x2048x1024 .bf16 := fun i =>
  col x md nw w (i 0) (i 1) ⟨7168 + (i 2).val, by have h : (i 2).val < 1024 := (i 2).isLt; omega⟩
    * col x md nw w (i 0) (i 1) ⟨8192 + (i 2).val, by have h : (i 2).val < 1024 := (i 2).isLt; omega⟩
/-- The gates of the two branches. -/
def Gg : Vec Ideal S32x2048x2048 .bf16 := fun i =>
  Ideal.div 1 (1 + Ideal.exp (-(col x md nw w (i 0) (i 1) ⟨9216 + (i 2).val, by have h : (i 2).val < 2048 := (i 2).isLt; omega⟩)))
end

/-- A head with a token's cosines and signed sines is that head turned. -/
theorem head_turn (p : Fin 1024 → EReal) (t : Fin 2048) (o : Fin 8) (l : Fin 128) :
    head p (fun e => Ideal.cos (ang t e)) (fun e => Ideal.sin (ang t e) * (if e.val % 64 < 32 then -1 else 1)) o l
      = turn (fun e => p ⟨o.val * 128 + e.val, by omega⟩) t l := turn_eq (fun e => p ⟨o.val * 128 + e.val, by omega⟩) t l
/-- The same with the keys' scale in the tables. -/
theorem head_scale (p : Fin 1024 → EReal) (t : Fin 2048) (o : Fin 8) (l : Fin 128) :
    head p (fun e => Ideal.cos (ang t e) * kscale) (fun e => Ideal.sin (ang t e) * (if e.val % 64 < 32 then -1 else 1) * kscale) o l
      = turn (fun e => p ⟨o.val * 128 + e.val, by omega⟩ * kscale) t l :=
  turn_scale (fun e => p ⟨o.val * 128 + e.val, by omega⟩) t l kscale

/-- Every window's block index at a point, in the point's two coordinates. -/
theorem idx : ∀ t : Fin cfg0.N,
    win0_0.index t = ![(grid0.coords t 0).val, (grid0.coords t 1).val, 0]
    ∧ win0_1.index t = ![(grid0.coords t 0).val, 0, 0]
    ∧ win0_2.index t = ![0, 0] ∧ win0_3.index t = ![0, 0]
    ∧ win0_4.index t = ![(grid0.coords t 1).val, 0] ∧ win0_5.index t = ![(grid0.coords t 1).val, 0]
    ∧ win0_6.index t = ![(grid0.coords t 1).val, 0] ∧ win0_7.index t = ![(grid0.coords t 1).val, 0]
    ∧ win0_8.index t = ![(grid0.coords t 0).val, (grid0.coords t 1).val, 0]
    ∧ win0_9.index t = ![(grid0.coords t 0).val, (grid0.coords t 1).val, 0]
    ∧ win0_10.index t = ![(grid0.coords t 0).val, (grid0.coords t 1).val, 0]
    ∧ win0_11.index t = ![(grid0.coords t 0).val, (grid0.coords t 1).val, 0]
    ∧ win0_12.index t = ![(grid0.coords t 0).val, (grid0.coords t 1).val, 0]
    ∧ win0_13.index t = ![(grid0.coords t 0).val, (grid0.coords t 1).val, 0]
    ∧ win0_14.index t = ![(grid0.coords t 0).val, (grid0.coords t 1).val, 0] :=
  (by decide +kernel : ∀ t : Fin grid0.N, _)

variable (m : (ℓ : Loc nD τ sig) → Buf (Elt Ideal) ℓ)

/-- A token's place in its array, from the point and the row in the block. -/
def tok (t : Fin cfg0.N) (r : Fin 256) : Fin 2048 := ⟨(grid0.coords t 1).val * 256 + r.val, by
  have h : (grid0.coords t 1).val < 8 := (grid0.coords t 1).isLt; omega⟩
/-- A point's batch row. -/
def bat (t : Fin cfg0.N) : Fin 32 := ⟨(grid0.coords t 0).val, (grid0.coords t 0).isLt⟩

theorem b0 (c : Dev nD) (t : Fin cfg0.N) (r : Fin 256) (j : Fin 1024) :
    iblk m c 0 t (ix3 0 r j) = m ((c : Thread nD τ).loc main_arg0) (ix3 (bat t) (tok t r) j) := by
  blk_ext! [iblk, V, V_main_arg0 m c, idx t, bat, tok]
theorem b1 (c : Dev nD) (t : Fin cfg0.N) (k : Fin 6) (j : Fin 1024) :
    iblk m c 1 t (ix3 0 k j) = m ((c : Thread nD τ).loc main_arg1) (ix3 (bat t) k j) := by
  blk_ext! [iblk, V, idx t, bat]
/-- The row of norm weights, reshaped. -/
theorem v42 (c : Dev nD) (j : Fin 1024) :
    (V m c main_v42 : FVec Ideal S1x1024 .f32) (ix2 0 j) = m ((c : Thread nD τ).loc main_arg2) (ix1 j) := by
  after_reads_simp
  pointwise []
theorem b2 (c : Dev nD) (t : Fin cfg0.N) (j : Fin 1024) :
    iblk m c 2 t (ix2 0 j) = m ((c : Thread nD τ).loc main_arg2) (ix1 j) := by
  rw [← v42 m c j]
  blk_ext! [iblk, idx t]
theorem b3 (c : Dev nD) (t : Fin cfg0.N) (k : Fin 1024) (j : Fin 11264) :
    iblk m c 3 t (ix2 k j) = m ((c : Thread nD τ).loc main_arg3) (ix2 k j) := by
  blk_ext! [iblk, V, idx t]
theorem b4 (c : Dev nD) (t : Fin cfg0.N) (r : Fin 256) (l : Fin 128) : iblk m c 4 t (ix2 r l) = Ideal.cos (ang (tok t r) l) := by
  rw [← InProjTables.v33 m c]
  blk_ext! [iblk, idx t, tok]
theorem b5 (c : Dev nD) (t : Fin cfg0.N) (r : Fin 256) (l : Fin 128) : iblk m c 5 t (ix2 r l) = Ideal.sin (ang (tok t r) l) * (if l.val % 64 < 32 then -1 else 1) := by
  rw [← InProjTables.v37 m c]
  blk_ext! [iblk, idx t, tok]
theorem b6 (c : Dev nD) (t : Fin cfg0.N) (r : Fin 256) (l : Fin 128) : iblk m c 6 t (ix2 r l) = Ideal.cos (ang (tok t r) l) * kscale := by
  rw [← InProjTables.v39 m c]
  blk_ext! [iblk, idx t, tok]
theorem b7 (c : Dev nD) (t : Fin cfg0.N) (r : Fin 256) (l : Fin 128) : iblk m c 7 t (ix2 r l) = Ideal.sin (ang (tok t r) l) * (if l.val % 64 < 32 then -1 else 1) * kscale := by
  rw [← InProjTables.v41 m c]
  blk_ext! [iblk, idx t, tok]

/-- A column of the projection of a block's row is that of its token. -/
theorem P_at (c : Dev nD) (t : Fin cfg0.N) (r : Fin 256) (j : Fin 11264) :
    InProjOut.P (iblk m c 0 t) (iblk m c 1 t) (iblk m c 2 t) (iblk m c 3 t) r j = col (m ((c : Thread nD τ).loc main_arg0)) (m ((c : Thread nD τ).loc main_arg1)) (m ((c : Thread nD τ).loc main_arg2)) (m ((c : Thread nD τ).loc main_arg3)) (bat t) (tok t r) j := by
  unfold InProjOut.P
  simp only [b0, b1, b2, b3]
  rfl

/-- Result 0 after the run. -/
theorem final8 (c : Dev nD) : (dats m 0 c).arrAt 8 cfg0.N = Gq (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]
  obtain ⟨i0, i1, i2, i3, i4, i5, i6, i7, i8, i9, i10, i11, i12, i13, i14⟩ := idx t
  idx_vars y
  obtain rfl : y0 = 0 := Subsingleton.elim _ _
  have e : ((View.whole main_v43_0).slice (win0_8.rect t)).emb (ix3 0 y1 y2) = ix3 (bat t) (tok t y1) y2 := by
    blk_ext [i8, bat, tok]
  rw [e, InProjOut.out8_at]
  simp only [P_at, b4, b5, head_turn]
  rfl

/-- Result 1 after the run. -/
theorem final9 (c : Dev nD) : (dats m 0 c).arrAt 9 cfg0.N = Gk (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  blk_simp
  rw [after0_9]
  obtain ⟨i0, i1, i2, i3, i4, i5, i6, i7, i8, i9, i10, i11, i12, i13, i14⟩ := idx t
  idx_vars y
  obtain rfl : y0 = 0 := Subsingleton.elim _ _
  have e : ((View.whole main_v43_1).slice (win0_9.rect t)).emb (ix3 0 y1 y2) = ix3 (bat t) (tok t y1) y2 := by
    blk_ext [i9, bat, tok]
  rw [e, InProjOut.out9_at]
  simp only [P_at, b6, b7, head_scale]
  rfl

/-- Result 2 after the run. -/
theorem final10 (c : Dev nD) : (dats m 0 c).arrAt 10 cfg0.N = Gv (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t hf y => ?_
  blk_simp
  rw [after0_10]
  obtain ⟨i0, i1, i2, i3, i4, i5, i6, i7, i8, i9, i10, i11, i12, i13, i14⟩ := idx t
  idx_vars y
  obtain rfl : y0 = 0 := Subsingleton.elim _ _
  have e : ((View.whole main_v43_2).slice (win0_10.rect t)).emb (ix3 0 y1 y2) = ix3 (bat t) (tok t y1) y2 := by
    blk_ext [i10, bat, tok]
  rw [e, InProjOut.out10_at]
  simp only [P_at]
  rfl

/-- Result 3 after the run. -/
theorem final11 (c : Dev nD) : (dats m 0 c).arrAt 11 cfg0.N = Gs (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t hf y => ?_
  blk_simp
  rw [after0_11]
  obtain ⟨i0, i1, i2, i3, i4, i5, i6, i7, i8, i9, i10, i11, i12, i13, i14⟩ := idx t
  idx_vars y
  obtain rfl : y0 = 0 := Subsingleton.elim _ _
  have e : ((View.whole main_v43_3).slice (win0_11.rect t)).emb (ix3 0 y1 y2) = ix3 (bat t) (tok t y1) y2 := by
    blk_ext [i11, bat, tok]
  rw [e, InProjOut.out11_at]
  simp only [P_at]
  rfl

/-- Result 4 after the run. -/
theorem final12 (c : Dev nD) : (dats m 0 c).arrAt 12 cfg0.N = Gc (m ((c : Thread nD τ).loc main_arg0)) (m ((c : Thread nD τ).loc main_arg1)) (m ((c : Thread nD τ).loc main_arg2)) (m ((c : Thread nD τ).loc main_arg3)) := by
  refine (dats m 0 c).arrAt_eq_of_covers 12 _ (by decide +kernel) fun t hf y => ?_
  blk_simp
  rw [after0_12]
  obtain ⟨i0, i1, i2, i3, i4, i5, i6, i7, i8, i9, i10, i11, i12, i13, i14⟩ := idx t
  idx_vars y
  obtain rfl : y0 = 0 := Subsingleton.elim _ _
  have e : ((View.whole main_v43_4).slice (win0_12.rect t)).emb (ix3 0 y1 y2) = ix3 (bat t) (tok t y1) y2 := by
    blk_ext [i12, bat, tok]
  rw [e, InProjOut.out12_at]
  simp only [P_at]
  rfl

/-- Result 5 after the run. -/
theorem final13 (c : Dev nD) : (dats m 0 c).arrAt 13 cfg0.N = Gu (m ((c : Thread nD τ).loc main_arg0)) (m ((c : Thread nD τ).loc main_arg1)) (m ((c : Thread nD τ).loc main_arg2)) (m ((c : Thread nD τ).loc main_arg3)) := by
  refine (dats m 0 c).arrAt_eq_of_covers 13 _ (by decide +kernel) fun t hf y => ?_
  blk_simp
  rw [after0_13]
  obtain ⟨i0, i1, i2, i3, i4, i5, i6, i7, i8, i9, i10, i11, i12, i13, i14⟩ := idx t
  idx_vars y
  obtain rfl : y0 = 0 := Subsingleton.elim _ _
  have e : ((View.whole main_v43_5).slice (win0_13.rect t)).emb (ix3 0 y1 y2) = ix3 (bat t) (tok t y1) y2 := by
    blk_ext [i13, bat, tok]
  rw [e, InProjOut.out13_at]
  simp only [P_at]
  rfl

/-- Result 6 after the run. -/
theorem final14 (c : Dev nD) : (dats m 0 c).arrAt 14 cfg0.N = Gg (m ((c : Thread nD τ).loc main_arg0)) (m ((c : Thread nD τ).loc main_arg1)) (m ((c : Thread nD τ).loc main_arg2)) (m ((c : Thread nD τ).loc main_arg3)) := by
  refine (dats m 0 c).arrAt_eq_of_covers 14 _ (by decide +kernel) fun t hf y => ?_
  blk_simp
  rw [after0_14]
  obtain ⟨i0, i1, i2, i3, i4, i5, i6, i7, i8, i9, i10, i11, i12, i13, i14⟩ := idx t
  idx_vars y
  obtain rfl : y0 = 0 := Subsingleton.elim _ _
  have e : ((View.whole main_v43_6).slice (win0_14.rect t)).emb (ix3 0 y1 y2) = ix3 (bat t) (tok t y1) y2 := by
    blk_ext [i14, bat, tok]
  rw [e, InProjOut.out14_at]
  simp only [P_at]
  rfl

end Cert.Proof.InProjValue

end
-- ==== Proof.InProjRef.lean ====
/-
  What the in-projection's reference computes: its operations grouped into steps, each read at a token and a column.
-/
module

public import proofs.«01_k».proof.Proof.Gen.InProjRefIdeal.Run
public import proofs.«01_k».proof.Proof.InProjSpec
public import proofs.«01_k».proof.Proof.MergeSpec
public import Idealize.ShloMosaic.Lib.Pipeline.ValueKit

@[expose] public section

noncomputable section

namespace Cert.Proof.InProjRef

open Idealize.ShloMosaic Idealize.ShloMosaic.TcCoe Cert.InProjRefIdeal Cert.InProjRefIdeal.Gen Cert.Proof.MergeSpec Cert.Proof.InProjSpec

/-- The grid row of every position. -/
def pR : IVec S2048 32 := shapeCast S2048 (broadcastInDim S32x64 ![0, 1] bcast_S32x1_S32x64_0_1
  (broadcastInDim S32x1 ![0] bcast_S32_S32x1_0 (iotaInDim S32 32 0))) shapeCasts_S32x64_S2048
/-- The grid column of every position. -/
def pC : IVec S2048 32 := shapeCast S2048 (broadcastInDim S32x64 ![0, 1] bcast_S1x64_S32x64_0_1
  (broadcastInDim S1x64 ![1] bcast_S64_S1x64_1 (iotaInDim S64 32 0))) shapeCasts_S32x64_S2048

theorem pR_at (t : Fin 2048) : pR (ix1 t) = BitVec.ofNat 32 (t.val / 64) := by pointwise [pR]
theorem pC_at (t : Fin 2048) : pC (ix1 t) = BitVec.ofNat 32 (t.val % 64) := by pointwise [pC]

/-- The 32 frequencies. -/
def rFreq : FVec Ideal S32 .f32 :=
  Host.powf (broadcastInDim S32 ![] bcast_S_S32 (constant S_ .f32 0x461C4000#32)) (Host.divf (Host.negf (addf
    (broadcastInDim S32 ![] bcast_S_S32 (constant S_ .f32 0x00000000#32)) (mulf (broadcastInDim S32 ![] bcast_S_S32
      (constant S_ .f32 0x40000000#32)) (sitofp .f32 (iotaInDim S32 32 0))))) (broadcastInDim S32 ![] bcast_S_S32 (constant S_ .f32 0x42800000#32)))
/-- The angles of the positions `p`. -/
def rAng (p : IVec S2048 32) : FVec Ideal S2048x32 .f32 :=
  mulf (broadcastInDim S2048x32 ![0, 1] bcast_S2048x1_S2048x32_0_1 (broadcastInDim S2048x1 ![0] bcast_S2048_S2048x1_0 (sitofp .f32 p)))
    (broadcastInDim S2048x32 ![0, 1] bcast_S1x32_S2048x32_0_1 (broadcastInDim S1x32 ![1] bcast_S32_S1x32_1 rFreq))

theorem rAngR_at (t : Fin 2048) (i : Fin 32) : rAng pR (ix2 t i) = angR t i := by
  pointwise [rAng, rFreq, pR_at, angR, freq]
theorem rAngC_at (t : Fin 2048) (i : Fin 32) : rAng pC (ix2 t i) = angC t i := by
  pointwise [rAng, rFreq, pC_at, angC, freq]

/-- An array over positions and frequencies, repeated for every batch row and head. -/
def rep (a : FVec Ideal S2048x32 .f32) : FVec Ideal S32x2048x8x32 .f32 :=
  broadcastInDim S32x2048x8x32 ![0, 1, 2, 3] bcast_S1x2048x1x32_S32x2048x8x32_0_1_2_3 (broadcastInDim S1x2048x1x32 ![1, 2, 3]
    bcast_S2048x1x32_S1x2048x1x32_1_2_3 (broadcastInDim S2048x1x32 ![0, 2] bcast_S2048x32_S2048x1x32_0_2 a))

/-- Half a head turned by the angles `a`. -/
def rHalf (x : FVec Ideal S32x2048x8x64 .f32) (a : FVec Ideal S2048x32 .f32) : FVec Ideal S32x2048x8x64 .f32 :=
  concatenate S32x2048x8x64 3 [
    ⟨S32x2048x8x32, subf (mulf (extractStridedSlice S32x2048x8x32 ![0, 0, 0, 0] x slices_S32x2048x8x64_S32x2048x8x32_0_0_0_0) (rep (Host.cos a)))
      (mulf (extractStridedSlice S32x2048x8x32 ![0, 0, 0, 32] x slices_S32x2048x8x64_S32x2048x8x32_0_0_0_32) (rep (Host.sin a)))⟩,
    ⟨S32x2048x8x32, addf (mulf (extractStridedSlice S32x2048x8x32 ![0, 0, 0, 0] x slices_S32x2048x8x64_S32x2048x8x32_0_0_0_0) (rep (Host.sin a)))
      (mulf (extractStridedSlice S32x2048x8x32 ![0, 0, 0, 32] x slices_S32x2048x8x64_S32x2048x8x32_0_0_0_32) (rep (Host.cos a)))⟩]
    concatenates_S32x2048x8x32_S32x2048x8x32_S32x2048x8x64_d3

/-- Every head turned: its first half by the row's angles, its second by the column's. -/
def rTurn (x : FVec Ideal S32x2048x8x128 .f32) : FVec Ideal S32x2048x8x128 .f32 :=
  concatenate S32x2048x8x128 3 [
    ⟨S32x2048x8x64, rHalf (extractStridedSlice S32x2048x8x64 ![0, 0, 0, 0] x slices_S32x2048x8x128_S32x2048x8x64_0_0_0_0) (rAng pR)⟩,
    ⟨S32x2048x8x64, rHalf (extractStridedSlice S32x2048x8x64 ![0, 0, 0, 64] x slices_S32x2048x8x128_S32x2048x8x64_0_0_0_64) (rAng pC)⟩]
    concatenates_S32x2048x8x64_S32x2048x8x64_S32x2048x8x128_d3

/-- The first half's form depends only on the places' values. -/
theorem minus_congr {n : ℕ} (X : Fin n → EReal) (C S : Fin 32 → EReal) {a a' b b' : Fin n} {c c' : Fin 32} (ha : a.val = a'.val) (hb : b.val = b'.val)
    (hc : c.val = c'.val) : X a * C c - X b * S c = X a' * C c' - X b' * S c' := by
  rw [Fin.ext ha, Fin.ext hb, Fin.ext hc]
/-- The second half's likewise. -/
theorem plus_congr {n : ℕ} (X : Fin n → EReal) (C S : Fin 32 → EReal) {a a' b b' : Fin n} {c c' : Fin 32} (ha : a.val = a'.val) (hb : b.val = b'.val)
    (hc : c.val = c'.val) : X a * S c + X b * C c = X a' * S c' + X b' * C c' := by
  rw [Fin.ext ha, Fin.ext hb, Fin.ext hc]

theorem rHalf_at (x : FVec Ideal S32x2048x8x64 .f32) (a : FVec Ideal S2048x32 .f32) (b : Fin 32) (t : Fin 2048) (o : Fin 8) (l : Fin 64) :
    rHalf x a (ix4 b t o l) = if h : l.val < 32
      then x (ix4 b t o l) * Ideal.cos (a (ix2 t ⟨l.val % 32, by omega⟩)) - x (ix4 b t o ⟨l.val % 32 + 32, by omega⟩) * Ideal.sin (a (ix2 t ⟨l.val % 32, by omega⟩))
      else x (ix4 b t o ⟨l.val % 32, by omega⟩) * Ideal.sin (a (ix2 t ⟨l.val % 32, by omega⟩)) + x (ix4 b t o l) * Ideal.cos (a (ix2 t ⟨l.val % 32, by omega⟩)) := by
  pointwise [rHalf, rep]
  by_cases h : l.val < 32
  · rw [dif_pos h, dif_pos h]
    exact minus_congr (fun e => x (ix4 b t o e)) (fun e => Ideal.cos (a (ix2 t e))) (fun e => Ideal.sin (a (ix2 t e)))
      (by simp) (by simp; omega) (by simp; omega)
  · rw [dif_neg h, dif_neg h]
    exact plus_congr (fun e => x (ix4 b t o e)) (fun e => Ideal.cos (a (ix2 t e))) (fun e => Ideal.sin (a (ix2 t e)))
      (by simp; omega) (by simp; omega) (by simp; omega)

theorem rTurn_at (x : FVec Ideal S32x2048x8x128 .f32) (b : Fin 32) (t : Fin 2048) (o : Fin 8) (l : Fin 128) :
    rTurn x (ix4 b t o l) = turn (fun e => x (ix4 b t o e)) t l := by
  pointwise [rTurn, rHalf_at, rAngR_at, rAngC_at, turn, ang]
  by_cases h : l.val < 64
  · rw [dif_pos h]
    simp only [if_pos h]
    by_cases h1 : l.val < 32
    · rw [dif_pos h1, dif_pos (by omega)]
      exact minus_congr (fun e => x (ix4 b t o e)) (fun e => Ideal.cos (angR t e)) (fun e => Ideal.sin (angR t e))
        (by simp) (by simp; omega) (by simp)
    · rw [dif_neg h1, dif_neg (by omega)]
      exact plus_congr (fun e => x (ix4 b t o e)) (fun e => Ideal.cos (angR t e)) (fun e => Ideal.sin (angR t e))
        (by simp; omega) (by simp) (by simp)
  · rw [dif_neg h]
    simp only [if_neg h]
    by_cases h1 : l.val - 64 < 32
    · rw [dif_pos h1, dif_pos (by omega)]
      exact minus_congr (fun e => x (ix4 b t o e)) (fun e => Ideal.cos (angC t e)) (fun e => Ideal.sin (angC t e))
        (by simp; omega) (by simp; omega) (by simp; omega)
    · rw [dif_neg h1, dif_neg (by omega)]
      exact plus_congr (fun e => x (ix4 b t o e)) (fun e => Ideal.cos (angC t e)) (fun e => Ideal.sin (angC t e))
        (by simp; omega) (by simp; omega) (by simp; omega)

/-- Heads laid side by side: column `d` is lane `d % 128` of head `d / 128`. -/
theorem flat_at (x : FVec Ideal S32x2048x8x128 .f32) (b : Fin 32) (t : Fin 2048) (d : Fin 1024) :
    shapeCast S32x2048x1024 x shapeCasts_S32x2048x8x128_S32x2048x1024 (ix3 b t d) = x (ix4 b t ⟨d.val / 128, by omega⟩ ⟨d.val % 128, by omega⟩) := by
  pointwise []
/-- A row cut into heads. -/
theorem heads_at (x : FVec Ideal S32x2048x1024 .f32) (b : Fin 32) (t : Fin 2048) (o : Fin 8) (l : Fin 128) :
    shapeCast S32x2048x8x128 x shapeCasts_S32x2048x1024_S32x2048x8x128 (ix4 b t o l) = x (ix3 b t ⟨o.val * 128 + l.val, by omega⟩) := by
  pointwise []
/-- The queries' columns of the projection. -/
theorem cutQ (p : FVec Ideal S32x2048x11264 .f32) (b : Fin 32) (t : Fin 2048) (d : Fin 1024) :
    extractStridedSlice S32x2048x1024 ![0, 0, 0] p slices_S32x2048x11264_S32x2048x1024_0_0_0 (ix3 b t d) = p (ix3 b t ⟨0 + d.val, by omega⟩) := by
  pointwise []
/-- The keys' columns, scaled. -/
theorem cutK (p : FVec Ideal S32x2048x11264 .f32) (b : Fin 32) (t : Fin 2048) (d : Fin 1024) :
    extractStridedSlice S32x2048x1024 ![0, 0, 1024] p slices_S32x2048x11264_S32x2048x1024_0_0_1024 (ix3 b t d) = p (ix3 b t ⟨1024 + d.val, by omega⟩) := by
  pointwise []

/-- The projection of every token. -/
def rProj (a0 : FVec Ideal S32x2048x1024 .f32) (a1 : FVec Ideal S32x6x1024 .f32) (a2 : FVec Ideal S1024 .f32) (a3 : FVec Ideal S1024x11264 .bf16) :
    FVec Ideal S32x2048x11264 .f32 :=
  Host.dotGeneral dot_S32x2048x1024_S1024x11264_S32x2048x11264_2_0_01_1_n_n none (addf (mulf (mulf (mulf a0 (broadcastInDim S32x2048x1024 ![0, 1, 2]
      bcast_S32x2048x1_S32x2048x1024_0_1_2 (Host.rsqrt (addf (Host.divf (broadcastInDim S32x2048x1 ![0, 1] bcast_S32x2048_S32x2048x1_0_1
        (Host.reduceAdd (mulf a0 a0) (constant S_ .f32 0x00000000#32) reducesTo_S32x2048x1024_S32x2048_d2 h_S_))
        (broadcastInDim S32x2048x1 ![] bcast_S_S32x2048x1 (constant S_ .f32 0x44800000#32)))
        (broadcastInDim S32x2048x1 ![] bcast_S_S32x2048x1 (constant S_ .f32 0x358637BD#32))))))
      (broadcastInDim S32x2048x1024 ![0, 1, 2] bcast_S1x1x1024_S32x2048x1024_0_1_2 (broadcastInDim S1x1x1024 ![2] bcast_S1024_S1x1x1024_2 a2)))
      (broadcastInDim S32x2048x1024 ![0, 1, 2] bcast_S32x1x1024_S32x2048x1024_0_1_2 (addf (broadcastInDim S32x1x1024 ![] bcast_S_S32x1x1024
        (constant S_ .f32 0x3F800000#32)) (shapeCast S32x1x1024 (extractStridedSlice S32x1x1x1024 ![0, 1, 0, 0] (broadcastInDim S32x6x1x1024 ![0, 1, 3]
          bcast_S32x6x1024_S32x6x1x1024_0_1_3 a1) slices_S32x6x1x1024_S32x1x1x1024_0_1_0_0) shapeCasts_S32x1x1x1024_S32x1x1024))))
      (broadcastInDim S32x2048x1024 ![0, 1, 2] bcast_S32x1x1024_S32x2048x1024_0_1_2 (shapeCast S32x1x1024 (extractStridedSlice S32x1x1x1024 ![0, 0, 0, 0]
        (broadcastInDim S32x6x1x1024 ![0, 1, 3] bcast_S32x6x1024_S32x6x1x1024_0_1_3 a1) slices_S32x6x1x1024_S32x1x1x1024_0_0_0_0)
        shapeCasts_S32x1x1x1024_S32x1x1024))) (extf .f32 a3 bitsLt_bf16_f32)

theorem rProj_at (a0 : FVec Ideal S32x2048x1024 .f32) (a1 : FVec Ideal S32x6x1024 .f32) (a2 : FVec Ideal S1024 .f32) (a3 : FVec Ideal S1024x11264 .bf16)
    (b : Fin 32) (t : Fin 2048) (j : Fin 11264) : rProj a0 a1 a2 a3 (ix3 b t j)
      = proj (hid (fun e => a0 (ix3 b t e)) (fun e => a2 (ix1 e)) (fun e => a1 (ix3 b 0 e)) (fun e => a1 (ix3 b 1 e))) (fun k j => a3 (ix2 k j)) j := by
  pointwise [rProj, proj, hid, rms, dot_S32x2048x1024_S1024x11264_S32x2048x11264_2_0_01_1_n_n]

variable (p : FVec Ideal S32x2048x11264 .f32)

/-- The queries. -/
def rQ : FVec Ideal S32x2048x1024 .bf16 :=
  truncf .bf16 (shapeCast S32x2048x1024 (rTurn (shapeCast S32x2048x8x128 (extractStridedSlice S32x2048x1024 ![0, 0, 0] p slices_S32x2048x11264_S32x2048x1024_0_0_0)
    shapeCasts_S32x2048x1024_S32x2048x8x128)) shapeCasts_S32x2048x8x128_S32x2048x1024) bitsLt_bf16_f32
/-- The keys. -/
def rK : FVec Ideal S32x2048x1024 .bf16 :=
  truncf .bf16 (shapeCast S32x2048x1024 (rTurn (mulf (shapeCast S32x2048x8x128 (extractStridedSlice S32x2048x1024 ![0, 0, 1024] p
    slices_S32x2048x11264_S32x2048x1024_0_0_1024) shapeCasts_S32x2048x1024_S32x2048x8x128) (broadcastInDim S32x2048x8x128 ![] bcast_S_S32x2048x8x128
      (constant S_ .f32 0x3DB504F3#32)))) shapeCasts_S32x2048x8x128_S32x2048x1024) bitsLt_bf16_f32
/-- The values. -/
def rV : FVec Ideal S32x2048x2048 .bf16 := truncf .bf16 (extractStridedSlice S32x2048x2048 ![0, 0, 2048] p slices_S32x2048x11264_S32x2048x2048_0_0_2048) bitsLt_bf16_f32
/-- The gates of the retention's output. -/
def rS : FVec Ideal S32x2048x2048 .bf16 :=
  truncf .bf16 (mulf (extractStridedSlice S32x2048x2048 ![0, 0, 4096] p slices_S32x2048x11264_S32x2048x2048_0_0_4096)
    (Host.divf (broadcastInDim S32x2048x2048 ![] bcast_S_S32x2048x2048 (constant S_ .f32 0x3F800000#32)) (addf (broadcastInDim S32x2048x2048 ![] bcast_S_S32x2048x2048
      (constant S_ .f32 0x3F800000#32)) (Host.exp (Host.negf (extractStridedSlice S32x2048x2048 ![0, 0, 4096] p slices_S32x2048x11264_S32x2048x2048_0_0_4096)))))) bitsLt_bf16_f32
/-- The convolution's first factor. -/
def rC : FVec Ideal S32x2048x1024 .bf16 := truncf .bf16 (extractStridedSlice S32x2048x1024 ![0, 0, 6144] p slices_S32x2048x11264_S32x2048x1024_0_0_6144) bitsLt_bf16_f32
/-- The convolution's input. -/
def rU : FVec Ideal S32x2048x1024 .bf16 :=
  truncf .bf16 (mulf (extractStridedSlice S32x2048x1024 ![0, 0, 7168] p slices_S32x2048x11264_S32x2048x1024_0_0_7168)
    (extractStridedSlice S32x2048x1024 ![0, 0, 8192] p slices_S32x2048x11264_S32x2048x1024_0_0_8192)) bitsLt_bf16_f32
/-- The gates of the two branches. -/
def rG : FVec Ideal S32x2048x2048 .bf16 :=
  truncf .bf16 (Host.divf (broadcastInDim S32x2048x2048 ![] bcast_S_S32x2048x2048 (constant S_ .f32 0x3F800000#32)) (addf (broadcastInDim S32x2048x2048 ![]
    bcast_S_S32x2048x2048 (constant S_ .f32 0x3F800000#32)) (Host.exp (Host.negf (extractStridedSlice S32x2048x2048 ![0, 0, 9216] p
      slices_S32x2048x11264_S32x2048x2048_0_0_9216))))) bitsLt_bf16_f32

variable (b : Fin 32) (t : Fin 2048)

theorem rQ_at (d : Fin 1024) : rQ p (ix3 b t d) = turn (fun e => p (ix3 b t ⟨0 + (d.val / 128 * 128 + e.val), by omega⟩)) t ⟨d.val % 128, by omega⟩ := by
  unfold rQ
  refine (flat_at _ b t d).trans ((rTurn_at _ b t _ _).trans (congrArg (fun f => turn f t _) (funext fun e => ?_)))
  exact (heads_at _ b t _ e).trans (cutQ p b t _)
theorem rK_at (d : Fin 1024) : rK p (ix3 b t d) = turn (fun e => p (ix3 b t ⟨1024 + (d.val / 128 * 128 + e.val), by omega⟩) * kscale) t ⟨d.val % 128, by omega⟩ := by
  unfold rK
  refine (flat_at _ b t d).trans ((rTurn_at _ b t _ _).trans (congrArg (fun f => turn f t _) (funext fun e => ?_)))
  exact congrArg (· * kscale) ((heads_at _ b t _ e).trans (cutK p b t _))
theorem rV_at (d : Fin 2048) : rV p (ix3 b t d) = p (ix3 b t ⟨2048 + d.val, by omega⟩) := by pointwise [rV]
theorem rS_at (d : Fin 2048) : rS p (ix3 b t d) = silu (p (ix3 b t ⟨4096 + d.val, by omega⟩)) := by pointwise [rS, silu, mul_div_one]
theorem rC_at (d : Fin 1024) : rC p (ix3 b t d) = p (ix3 b t ⟨6144 + d.val, by omega⟩) := by pointwise [rC]
theorem rU_at (d : Fin 1024) : rU p (ix3 b t d) = p (ix3 b t ⟨7168 + d.val, by omega⟩) * p (ix3 b t ⟨8192 + d.val, by omega⟩) := by pointwise [rU]
theorem rG_at (d : Fin 2048) : rG p (ix3 b t d) = Ideal.div 1 (1 + Ideal.exp (-(p (ix3 b t ⟨9216 + d.val, by omega⟩)))) := by pointwise [rG]

end Cert.Proof.InProjRef

end
-- ==== Proof.InProjClaim.lean ====
/-
  The in-projection's claim: from the same arguments the kernel and its reference end with the same seven results.
-/
module

public import proofs.«01_k».proof.Defs
public import proofs.«01_k».proof.Proof.InProjValue
public import proofs.«01_k».proof.Proof.InProjRef
public import Idealize.ShloMosaic.Lib.Pipeline.ValueKit

@[expose] public section

noncomputable section

namespace Cert.Proof.InProjClaim

open Idealize.ShloMosaic Idealize.ShloMosaic.TcCoe Idealize.SL.Sem Cert.Proof.InProjRef Cert.Proof.InProjValue Cert.Proof.InProjSpec

section
variable (a0 : FVec Ideal Cert.InProjIdeal.S32x2048x1024 .f32) (a1 : FVec Ideal Cert.InProjIdeal.S32x6x1024 .f32)
  (a2 : FVec Ideal Cert.InProjIdeal.S1024 .f32) (a3 : FVec Ideal Cert.InProjIdeal.S1024x11264 .bf16)

theorem eq_q : rQ (rProj a0 a1 a2 a3) = Gq a0 a1 a2 a3 := by
  funext i
  idx_vars i
  rw [rQ_at]
  simp only [rProj_at]
  rfl
theorem eq_k : rK (rProj a0 a1 a2 a3) = Gk a0 a1 a2 a3 := by
  funext i
  idx_vars i
  rw [rK_at]
  simp only [rProj_at]
  rfl
theorem eq_v : rV (rProj a0 a1 a2 a3) = Gv a0 a1 a2 a3 := by
  funext i
  idx_vars i
  rw [rV_at, rProj_at]
  rfl
theorem eq_s : rS (rProj a0 a1 a2 a3) = Gs a0 a1 a2 a3 := by
  funext i
  idx_vars i
  rw [rS_at, rProj_at]
  rfl
theorem eq_c : rC (rProj a0 a1 a2 a3) = Gc a0 a1 a2 a3 := by
  funext i
  idx_vars i
  rw [rC_at, rProj_at]
  rfl
theorem eq_u : rU (rProj a0 a1 a2 a3) = Gu a0 a1 a2 a3 := by
  funext i
  idx_vars i
  rw [rU_at, rProj_at, rProj_at]
  rfl
theorem eq_g : rG (rProj a0 a1 a2 a3) = Gg a0 a1 a2 a3 := by
  funext i
  idx_vars i
  rw [rG_at, rProj_at]
  rfl
end

/-- The reference's projection is the step `rProj` of its arguments. -/
theorem proj_eq (m : (ℓ : Loc Cert.InProjRefIdeal.nD Cert.InProjRefIdeal.τ Cert.InProjRefIdeal.sig) → Buf (Elt Ideal) ℓ) (c : Dev Cert.InProjRefIdeal.nD) :
    Cert.InProjRefIdeal.Value.res_main_v33 (StableHlo.launchContents m c) = rProj (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) := by
  unfold Cert.InProjRefIdeal.Value.res_main_v33 Cert.InProjRefIdeal.Value.res_main_v8 rProj
  rfl

set_option maxHeartbeats 4000000 in
/-- From the same arguments the in-projection kernel and its reference end with the same results. -/
theorem algebraic : Cert.algebraic_InProjIdeal_InProjRefIdeal (hInProjIdeal := Cert.InProjIdeal.Gen.facts)
    (hInProjRefIdeal := Cert.InProjRefIdeal.Gen.facts) := by
  pair_intro
  · run_from Cert.InProjIdeal.Value.run_blocks m g
  · run_from Cert.InProjRefIdeal.Value.run m' g'
    · obtain ⟨h0, h1, h2, h3⟩ := hagree c
      rw [InProjValue.final8 m c, ← eq_q, ← h0, ← h1, ← h2, ← h3, ← proj_eq]
      rfl
    · obtain ⟨h0, h1, h2, h3⟩ := hagree c
      rw [InProjValue.final9 m c, ← eq_k, ← h0, ← h1, ← h2, ← h3, ← proj_eq]
      rfl
    · obtain ⟨h0, h1, h2, h3⟩ := hagree c
      rw [InProjValue.final10 m c, ← eq_v, ← h0, ← h1, ← h2, ← h3, ← proj_eq]
      rfl
    · obtain ⟨h0, h1, h2, h3⟩ := hagree c
      rw [InProjValue.final11 m c, ← eq_s, ← h0, ← h1, ← h2, ← h3, ← proj_eq]
      rfl
    · obtain ⟨h0, h1, h2, h3⟩ := hagree c
      rw [InProjValue.final12 m c, ← eq_c, ← h0, ← h1, ← h2, ← h3, ← proj_eq]
      rfl
    · obtain ⟨h0, h1, h2, h3⟩ := hagree c
      rw [InProjValue.final13 m c, ← eq_u, ← h0, ← h1, ← h2, ← h3, ← proj_eq]
      rfl
    · obtain ⟨h0, h1, h2, h3⟩ := hagree c
      rw [InProjValue.final14 m c, ← eq_g, ← h0, ← h1, ← h2, ← h3, ← proj_eq]
      rfl

end Cert.Proof.InProjClaim

end
-- ==== Proof.lean ====
/-
  The certificate's claims, assembled.
-/
module

public import proofs.«01_k».proof.Defs
public import proofs.«01_k».proof.Proof.Frames
public import proofs.«01_k».proof.Proof.FramesMore
public import proofs.«01_k».proof.Proof.MergeFirstClaim
public import proofs.«01_k».proof.Proof.MergeCtxClaim
public import proofs.«01_k».proof.Proof.InProjCtxClaim
public import proofs.«01_k».proof.Proof.ConvClaim
public import proofs.«01_k».proof.Proof.ConvCtxClaim
public import proofs.«01_k».proof.Proof.ModClaim
public import proofs.«01_k».proof.Proof.RetRun
public import proofs.«01_k».proof.Proof.MergeClaim
public import proofs.«01_k».proof.Proof.InProjClaim

@[expose] public section

noncomputable section

namespace Cert.Proof

/-- Every claim of the certificate. -/
theorem claim : Cert.Claim :=
  ⟨Cert.Kernel.Gen.facts, Cert.KernelIdeal.Gen.facts, Cert.ReferenceIdeal.Gen.facts,
    Cert.Merge.Gen.facts, Cert.MergeIdeal.Gen.facts, Cert.MergeRefIdeal.Gen.facts,
    Cert.InProj.Gen.facts, Cert.InProjIdeal.Gen.facts, Cert.InProjRefIdeal.Gen.facts,
    Cert.MergeFirst.Gen.facts, Cert.MergeFirstIdeal.Gen.facts, Cert.MergeFirstRefIdeal.Gen.facts,
    Cert.MergeCtx.Gen.facts, Cert.MergeCtxIdeal.Gen.facts, Cert.MergeCtxRefIdeal.Gen.facts,
    Cert.InProjCtx.Gen.facts, Cert.InProjCtxIdeal.Gen.facts, Cert.InProjCtxRefIdeal.Gen.facts,
    Cert.Conv.Gen.facts, Cert.ConvIdeal.Gen.facts, Cert.ConvRefIdeal.Gen.facts,
    Cert.ConvCtx.Gen.facts, Cert.ConvCtxIdeal.Gen.facts, Cert.ConvCtxRefIdeal.Gen.facts,
    Cert.Mod.Gen.facts, Cert.ModIdeal.Gen.facts, Cert.ModRefIdeal.Gen.facts,
    Frames.kernel, Frames.kernel_ideal, Frames.reference, MergeClaim.frame_kernel, MergeClaim.frame_ideal, MergeClaim.frame_ref,
    Frames.inproj, Frames.inproj_ideal, Frames.inproj_ref,
    FramesMore.merge_first, FramesMore.merge_first_ideal, FramesMore.merge_first_ref,
    FramesMore.merge_ctx, FramesMore.merge_ctx_ideal, FramesMore.merge_ctx_ref,
    FramesMore.inproj_ctx, FramesMore.inproj_ctx_ideal, FramesMore.inproj_ctx_ref,
    FramesMore.conv, FramesMore.conv_ideal, FramesMore.conv_ref,
    FramesMore.conv_ctx, FramesMore.conv_ctx_ideal, FramesMore.conv_ctx_ref,
    FramesMore.mod, FramesMore.mod_ideal, FramesMore.mod_ref,
    trivial, trivial, MergeClaim.algebraic, trivial, InProjClaim.algebraic,
    trivial, MergeFirstClaim.algebraic, trivial, MergeCtxClaim.algebraic, trivial, InProjCtxClaim.algebraic, trivial, ConvClaim.algebraic, trivial, ConvCtxClaim.algebraic, trivial, ModClaim.algebraic⟩

end Cert.Proof

end
